-- ==== Defs.lean ====
def Pre_Kernel [hPre_in_rows : Cert.Pre_in_rows.Facts] (m : (ℓ : Loc Cert.Kernel.nD Cert.Kernel.τ Cert.Kernel.sig) → Buf (Elt Bits) ℓ) : Prop :=
  ∀ c : Dev Cert.Kernel.nD,
    (Cert.Pre_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_rows : Cert.Pre_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_in_rows : Cert.Pre_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_rows : Cert.Pre_in_rows.Facts] (m : (ℓ : Loc Cert.Reference.nD Cert.Reference.τ Cert.Reference.sig) → Buf (Elt Bits) ℓ) : Prop :=
  ∀ c : Dev Cert.Reference.nD,
    (Cert.Pre_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_tables : Cert.Pre_tables.Facts] (m : (ℓ : Loc Cert.Kernel2.nD Cert.Kernel2.τ Cert.Kernel2.sig) → Buf (Elt Bits) ℓ) : Prop :=
  ∀ c : Dev Cert.Kernel2.nD,
    (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))) = (fun _ => 1#1)

def Pre_Kernel2Ideal [hPre_tables : Cert.Pre_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal [hPre_tables : Cert.Pre_tables.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_rows : Cert.Pre_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_rows : Cert.Pre_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_tables : Cert.Pre_tables.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] [hPre_tables : Cert.Pre_tables.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v8) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal_on_rows_used [hKernel2Ideal : Cert.Kernel2Ideal.Facts] [hReference2Ideal : Cert.Reference2Ideal.Facts] [hPre_tables : Cert.Pre_tables.Facts] [hOn_rows_used : Cert.On_rows_used.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨3, ![2, 147456, 512]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨3, ![2, 147456, 512]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) i = 1#1 → r.2.mem ((c.tc : Thread Cert.Reference2Ideal.nD Cert.Reference2Ideal.τ).loc Cert.Reference2Ideal.main_v77) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v21_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_in_rows : Cert.Pre_in_rows.Facts) (hPre_tables : Cert.Pre_tables.Facts) (hOn_rows_used : Cert.On_rows_used.Facts),
    quiescent_Kernel (hKernel := hKernel) (hPre_in_rows := hPre_in_rows)
    ∧ quiescent_KernelIdeal (hKernelIdeal := hKernelIdeal) (hPre_in_rows := hPre_in_rows)
    ∧ quiescent_ReferenceIdeal (hReferenceIdeal := hReferenceIdeal) (hPre_in_rows := hPre_in_rows)
    ∧ quiescent_Reference (hReference := hReference) (hPre_in_rows := hPre_in_rows)
    ∧ quiescent_Kernel2 (hKernel2 := hKernel2) (hPre_tables := hPre_tables)
    ∧ quiescent_Kernel2Ideal (hKernel2Ideal := hKernel2Ideal) (hPre_tables := hPre_tables)
    ∧ quiescent_Reference2Ideal (hReference2Ideal := hReference2Ideal) (hPre_tables := hPre_tables)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal) (hPre_in_rows := hPre_in_rows)
    ∧ bitexact_Kernel_Reference (hKernel := hKernel) (hReference := hReference) (hPre_in_rows := hPre_in_rows)
    ∧ preserves_Kernel2_Kernel2Ideal
    ∧ algebraic_Kernel2Ideal_Reference2Ideal_on_rows_used (hKernel2Ideal := hKernel2Ideal) (hReference2Ideal := hReference2Ideal) (hPre_tables := hPre_tables) (hOn_rows_used := hOn_rows_used)
    ∧ preserves_Kernel3_Kernel3Ideal
    ∧ algebraic_Kernel3Ideal_Reference3Ideal (hKernel3Ideal := hKernel3Ideal) (hReference3Ideal := hReference3Ideal)
-- ==== On_rows_used.lean ====
abbrev S288 : Shape := ⟨1, ![288]⟩
abbrev S2x147456x256 : Shape := ⟨3, ![2, 147456, 256]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S288x512 : Shape := ⟨2, ![288, 512]⟩
abbrev S288x1 : Shape := ⟨2, ![288, 1]⟩
abbrev S1x147456x1 : Shape := ⟨3, ![1, 147456, 1]⟩
abbrev S2x147456x512 : Shape := ⟨3, ![2, 147456, 512]⟩

class Facts : Prop where
  bcast_S288_S288x1_0 : S288.BroadcastsInDim S288x1 (![0] : Fin 1 → Fin S288x1.rank)
  bcast_S288x1_S288x512_0_1 : S288x1.BroadcastsInDim S288x512 (![0, 1] : Fin 2 → Fin S288x512.rank)
  shapeCasts_S288x512_S1x147456x1 : S288x512.ShapeCasts S1x147456x1
  bcast_S1x147456x1_S2x147456x512_0_1_2 : S1x147456x1.BroadcastsInDim S2x147456x512 (![0, 1, 2] : Fin 3 → Fin S2x147456x512.rank)

variable [Facts]

def fn {F : FTy → Type} [FloatOps F] (main_arg0 : IVec S288 32) (main_arg1 : IVec S288 32) (main_arg2 : IVec S288 32) (main_arg3 : IVec S288 32) (main_arg4 : IVec S2x147456x256 32) (main_arg5 : FVec F S4x32x1024x2048 .f32) (main_arg6 : FVec F S4x32x1x2048 .f32) (main_arg7 : FVec F S4x32x1024x1024 .f32) (main_arg8 : FVec F S4x32x1x1024 .f32) : IVec S2x147456x512 1 :=
  let main_v0 : IVec S288x512 32 := iotaInDim S288x512 32 1
  let main_v1 : IVec S288x1 32 := broadcastInDim S288x1 ![0] bcast_S288_S288x1_0 main_arg1
  let main_v2 : IVec S288x512 32 := broadcastInDim S288x512 ![0, 1] bcast_S288x1_S288x512_0_1 main_v1
  let main_v3 : IVec S288x512 1 := cmpi .slt main_v0 main_v2
  let main_v4 : IVec S1x147456x1 1 := shapeCast S1x147456x1 main_v3 shapeCasts_S288x512_S1x147456x1
  let main_v5 : IVec S2x147456x512 1 := broadcastInDim S2x147456x512 ![0, 1, 2] bcast_S1x147456x1_S2x147456x512_0_1_2 main_v4
  main_v5
-- ==== Pre_in_rows.lean ====
abbrev S294912x2x128 : Shape := ⟨3, ![294912, 2, 128]⟩
abbrev S8x32768 : Shape := ⟨2, ![8, 32768]⟩
abbrev S_ : Shape := ⟨0, ![]⟩

class Facts : Prop where
  bcast_S_S8x32768 : S_.BroadcastsInDim S8x32768 (![] : Fin 0 → Fin S8x32768.rank)
  reducesTo_S8x32768_S_d0_1 : S8x32768.ReducesTo [0, 1] S_
  h_S_ : 0 < S_.numel

variable [Facts]

def fn {F : FTy → Type} [FloatOps F] (main_arg0 : IVec S294912x2x128 32) (main_arg1 : IVec S8x32768 32) : IVec S_ 1 :=
  let main_c : IVec S_ 32 := constantI S_ 32 0#32
  let main_v0 : IVec S8x32768 32 := broadcastInDim S8x32768 ![] bcast_S_S8x32768 main_c
  let main_v1 : IVec S8x32768 1 := cmpi .sge main_arg1 main_v0
  let main_c_0 : IVec S_ 32 := constantI S_ 32 294912#32
  let main_v2 : IVec S8x32768 32 := broadcastInDim S8x32768 ![] bcast_S_S8x32768 main_c_0
  let main_v3 : IVec S8x32768 1 := cmpi .slt main_arg1 main_v2
  let main_v4 : IVec S8x32768 1 := andi main_v1 main_v3
  let main_c_1 : IVec S_ 1 := constantI S_ 1 1#1
  let main_v5 : IVec S_ 1 := (fun x v => Host.reduce IntOp.andi x v reducesTo_S8x32768_S_d0_1 h_S_) main_v4 main_c_1
  main_v5
-- ==== Pre_tables.lean ====
abbrev S288 : Shape := ⟨1, ![288]⟩
abbrev S2x147456x256 : Shape := ⟨3, ![2, 147456, 256]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S287 : Shape := ⟨1, ![287]⟩
abbrev S_ : Shape := ⟨0, ![]⟩
abbrev S1 : Shape := ⟨1, ![1]⟩

class Facts : Prop where
  slices_S288_S287_1 : S288.Slices ![1] S287
  slices_S288_S287_0 : S288.Slices ![0] S287
  bcast_S_S287 : S_.BroadcastsInDim S287 (![] : Fin 0 → Fin S287.rank)
  bcast_S_S288 : S_.BroadcastsInDim S288 (![] : Fin 0 → Fin S288.rank)
  reducesTo_S288_S_d0 : S288.ReducesTo [0] S_
  h_S_ : 0 < S_.numel
  reducesTo_S287_S_d0 : S287.ReducesTo [0] S_
  slices_S288_S1_287 : S288.Slices ![287] S1
  bcast_S_S1 : S_.BroadcastsInDim S1 (![] : Fin 0 → Fin S1.rank)
  reducesTo_S1_S_d0 : S1.ReducesTo [0] S_

variable [Facts]

def fn_part2 {F : FTy → Type} [FloatOps F] (main_arg2 : IVec S288 32) (main_v2 : IVec S287 1) (main_v9 : IVec S287 1) (main_v18 : IVec S287 1) (main_v38 : IVec S288 1) (main_c_7 : IVec S_ 1) : IVec S_ 1 :=
  let main_v39 : IVec S_ 1 := (fun x v => Host.reduce IntOp.andi x v reducesTo_S288_S_d0 h_S_) main_v38 main_c_7
  let main_v40 : IVec S287 1 := andi main_v2 main_v9
  let main_v41 : IVec S287 1 := noti main_v2
  let main_v42 : IVec S287 1 := andi main_v41 main_v18
  let main_v43 : IVec S287 1 := ori main_v40 main_v42
  let main_c_8 : IVec S_ 1 := constantI S_ 1 1#1
  let main_v44 : IVec S_ 1 := (fun x v => Host.reduce IntOp.andi x v reducesTo_S287_S_d0 h_S_) main_v43 main_c_8
  let main_v45 : IVec S_ 1 := andi main_v39 main_v44
  let main_v46 : IVec S1 32 := (extractStridedSlice S1 ![287] · slices_S288_S1_287) main_arg2
  let main_c_9 : IVec S_ 32 := constantI S_ 32 0#32
  let main_v47 : IVec S1 32 := broadcastInDim S1 ![] bcast_S_S1 main_c_9
  let main_v48 : IVec S1 1 := cmpi .slt main_v46 main_v47
  let main_c_10 : IVec S_ 1 := constantI S_ 1 1#1
  let main_v49 : IVec S_ 1 := (fun x v => Host.reduce IntOp.andi x v reducesTo_S1_S_d0 h_S_) main_v48 main_c_10
  let main_v50 : IVec S_ 1 := andi main_v45 main_v49
  main_v50

def fn_part1 {F : FTy → Type} [FloatOps F] (main_arg0 : IVec S288 32) (main_arg1 : IVec S288 32) (main_arg2 : IVec S288 32) (main_arg3 : IVec S288 32) (main_v2 : IVec S287 1) (main_v9 : IVec S287 1) (main_v18 : IVec S287 1) (main_v20 : IVec S288 1) (main_c_1 : IVec S_ 32) : IVec S_ 1 :=
  let main_v21 : IVec S288 32 := broadcastInDim S288 ![] bcast_S_S288 main_c_1
  let main_v22 : IVec S288 1 := cmpi .slt main_arg0 main_v21
  let main_v23 : IVec S288 1 := andi main_v20 main_v22
  let main_c_2 : IVec S_ 32 := constantI S_ 32 0#32
  let main_v24 : IVec S288 32 := broadcastInDim S288 ![] bcast_S_S288 main_c_2
  let main_v25 : IVec S288 1 := cmpi .sge main_arg1 main_v24
  let main_v26 : IVec S288 1 := andi main_v23 main_v25
  let main_c_3 : IVec S_ 32 := constantI S_ 32 512#32
  let main_v27 : IVec S288 32 := broadcastInDim S288 ![] bcast_S_S288 main_c_3
  let main_v28 : IVec S288 1 := cmpi .sle main_arg1 main_v27
  let main_v29 : IVec S288 1 := andi main_v26 main_v28
  let main_c_4 : IVec S_ 32 := constantI S_ 32 32#32
  let main_v30 : IVec S288 32 := broadcastInDim S288 ![] bcast_S_S288 main_c_4
  let main_v31 : IVec S288 1 := cmpi .slt main_arg2 main_v30
  let main_v32 : IVec S288 1 := andi main_v29 main_v31
  let main_c_5 : IVec S_ 32 := constantI S_ 32 0#32
  let main_v33 : IVec S288 32 := broadcastInDim S288 ![] bcast_S_S288 main_c_5
  let main_v34 : IVec S288 1 := cmpi .sge main_arg3 main_v33
  let main_v35 : IVec S288 1 := andi main_v32 main_v34
  let main_c_6 : IVec S_ 32 := constantI S_ 32 2#32
  let main_v36 : IVec S288 32 := broadcastInDim S288 ![] bcast_S_S288 main_c_6
  let main_v37 : IVec S288 1 := cmpi .slt main_arg3 main_v36
  let main_v38 : IVec S288 1 := andi main_v35 main_v37
  let main_c_7 : IVec S_ 1 := constantI S_ 1 1#1
  fn_part2 (F := F) main_arg2 main_v2 main_v9 main_v18 main_v38 main_c_7

def fn {F : FTy → Type} [FloatOps F] (main_arg0 : IVec S288 32) (main_arg1 : IVec S288 32) (main_arg2 : IVec S288 32) (main_arg3 : IVec S288 32) (main_arg4 : IVec S2x147456x256 32) (main_arg5 : FVec F S4x32x1024x2048 .f32) (main_arg6 : FVec F S4x32x1x2048 .f32) (main_arg7 : FVec F S4x32x1024x1024 .f32) (main_arg8 : FVec F S4x32x1x1024 .f32) : IVec S_ 1 :=
  let main_v0 : IVec S287 32 := (extractStridedSlice S287 ![1] · slices_S288_S287_1) main_arg0
  let main_v1 : IVec S287 32 := (extractStridedSlice S287 ![0] · slices_S288_S287_0) main_arg0
  let main_v2 : IVec S287 1 := cmpi .eq main_v0 main_v1
  let main_v3 : IVec S287 32 := (extractStridedSlice S287 ![1] · slices_S288_S287_1) main_arg2
  let main_v4 : IVec S287 32 := (extractStridedSlice S287 ![0] · slices_S288_S287_0) main_arg2
  let main_v5 : IVec S287 1 := cmpi .eq main_v3 main_v4
  let main_v6 : IVec S287 32 := (extractStridedSlice S287 ![1] · slices_S288_S287_1) main_arg3
  let main_v7 : IVec S287 32 := (extractStridedSlice S287 ![0] · slices_S288_S287_0) main_arg3
  let main_v8 : IVec S287 1 := cmpi .eq main_v6 main_v7
  let main_v9 : IVec S287 1 := andi main_v5 main_v8
  let main_v10 : IVec S287 32 := (extractStridedSlice S287 ![1] · slices_S288_S287_1) main_arg0
  let main_v11 : IVec S287 32 := (extractStridedSlice S287 ![0] · slices_S288_S287_0) main_arg2
  let main_v12 : IVec S287 1 := cmpi .eq main_v10 main_v11
  let main_v13 : IVec S287 32 := (extractStridedSlice S287 ![1] · slices_S288_S287_1) main_arg3
  let main_v14 : IVec S287 32 := (extractStridedSlice S287 ![0] · slices_S288_S287_0) main_arg3
  let main_c : IVec S_ 32 := constantI S_ 32 1#32
  let main_v15 : IVec S287 32 := broadcastInDim S287 ![] bcast_S_S287 main_c
  let main_v16 : IVec S287 32 := subi main_v15 main_v14
  let main_v17 : IVec S287 1 := cmpi .eq main_v13 main_v16
  let main_v18 : IVec S287 1 := andi main_v12 main_v17
  let main_c_0 : IVec S_ 32 := constantI S_ 32 0#32
  let main_v19 : IVec S288 32 := broadcastInDim S288 ![] bcast_S_S288 main_c_0
  let main_v20 : IVec S288 1 := cmpi .sge main_arg0 main_v19
  let main_c_1 : IVec S_ 32 := constantI S_ 32 32#32
  fn_part1 (F := F) main_arg0 main_arg1 main_arg2 main_arg3 main_v2 main_v9 main_v18 main_v20 main_c_1
-- ==== Kernel.lean ====
abbrev S294912x2x128 : Shape := ⟨3, ![294912, 2, 128]⟩
abbrev S8x32768 : Shape := ⟨2, ![8, 32768]⟩
abbrev S65536x2x128 : Shape := ⟨3, ![65536, 2, 128]⟩
abbrev S2x1x128 : Shape := ⟨3, ![2, 1, 128]⟩
abbrev S2 : Shape := ⟨1, ![2]⟩
abbrev S2x128x2x128 : Shape := ⟨4, ![2, 128, 2, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x2x128 : Shape := ⟨4, ![1, 128, 2, 128]⟩
abbrev S128x2x128 : Shape := ⟨3, ![128, 2, 128]⟩
abbrev S128 : Shape := ⟨1, ![128]⟩

abbrev nBuf : Table → Nat
  | .hbm => 3
  | .local .scVector .vmem => 2
  | _ => 0

abbrev bufTy : (tb : Table) → Fin (nBuf tb) → BufTy
  | .hbm, ⟨0, _⟩ => ⟨S294912x2x128, .i32⟩
  | .hbm, ⟨1, _⟩ => ⟨S8x32768, .i32⟩
  | .hbm, ⟨2, _⟩ => ⟨S65536x2x128, .i32⟩
  | .local .scVector .vmem, ⟨0, _⟩ => ⟨S2x1x128, .i32⟩
  | .local .scVector .vmem, ⟨1, _⟩ => ⟨S2x128x2x128, .i32⟩
  | _, _ => ⟨S294912x2x128, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_14_r0 : BitVec 32 := 0#32
  let c2_i32_r0 : BitVec 32 := 2#32
  let v21_r0 : BitVec 32 := Scalar.remui c0_i32_14_r0 c2_i32_r0
  let c0_i32_29_r0 : BitVec 32 := 0#32
  let c0_i32_30_r0 : BitVec 32 := 0#32
  ![v21_r0.toNat, 0, 0]
def k0_off2 (i : grid0.Coords) : Fin 2 → Nat :=
  let c1_i32_28_r0 : BitVec 32 := 1#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let c0_i32_15_r0 : BitVec 32 := 0#32
  let v23_r0 : BitVec 1 := Scalar.cmpi .sgt v7_r0 c0_i32_15_r0
  let v24_r0 : BitVec 32 := Scalar.extui v23_r0
  let c0_i32_16_r0 : BitVec 32 := 0#32
  let v25_r0 : BitVec 1 := Scalar.cmpi .slt v7_r0 c0_i32_16_r0
  let v26_r0 : BitVec 32 := Scalar.extui v25_r0
  let v27_r0 : BitVec 32 := Scalar.subi v24_r0 v26_r0
  let c64_i32_r0 : BitVec 32 := 64#32
  let c0_i32_17_r0 : BitVec 32 := 0#32
  let v28_r0 : BitVec 1 := Scalar.cmpi .sgt c64_i32_r0 c0_i32_17_r0
  let v29_r0 : BitVec 32 := Scalar.extui v28_r0
  let c0_i32_18_r0 : BitVec 32 := 0#32
  let v30_r0 : BitVec 1 := Scalar.cmpi .slt c64_i32_r0 c0_i32_18_r0
  let v31_r0 : BitVec 32 := Scalar.extui v30_r0
  let v32_r0 : BitVec 32 := Scalar.subi v29_r0 v31_r0
  let v33_r0 : BitVec 1 := Scalar.cmpi .ne v27_r0 v32_r0
  let v34_r0 : BitVec 32 := Scalar.remsi v7_r0 c64_i32_r0
  let c0_i32_19_r0 : BitVec 32 := 0#32
  let v35_r0 : BitVec 1 := Scalar.cmpi .ne v34_r0 c0_i32_19_r0
  let v36_r0 : BitVec 1 := Scalar.andi v33_r0 v35_r0
  let v22_r0 : BitVec 32 := Scalar.divsi v7_r0 c64_i32_r0
  let c1_i32_20_r0 : BitVec 32 := 1#32
  let v37_r0 : BitVec 32 := Scalar.subi v22_r0 c1_i32_20_r0
  let v38_r0 : BitVec 32 := Scalar.select v36_r0 v37_r0 v22_r0
  let v50_r0 : BitVec 32 := Scalar.muli c1_i32_28_r0 v38_r0
  let c128_i32_r0 : BitVec 32 := 128#32
  let c0_i32_27_r0 : BitVec 32 := 0#32
  let c64_i32_21_r0 : BitVec 32 := 64#32
  let c0_i32_22_r0 : BitVec 32 := 0#32
  let v39_r0 : BitVec 1 := Scalar.cmpi .eq c64_i32_21_r0 c0_i32_22_r0
  let c1_i32_23_r0 : BitVec 32 := 1#32
  let v40_r0 : BitVec 32 := Scalar.select v39_r0 c1_i32_23_r0 c64_i32_21_r0
  let v41_r0 : BitVec 32 := Scalar.remsi v7_r0 v40_r0
  let c0_i32_25_r0 : BitVec 32 := 0#32
  let v43_r0 : BitVec 1 := Scalar.cmpi .slt v41_r0 c0_i32_25_r0
  let c0_i32_26_r0 : BitVec 32 := 0#32
  let v44_r0 : BitVec 1 := Scalar.cmpi .slt v40_r0 c0_i32_26_r0
  let v45_r0 : BitVec 1 := Scalar.xori v43_r0 v44_r0
  let c0_i32_24_r0 : BitVec 32 := 0#32
  let v42_r0 : BitVec 1 := Scalar.cmpi .ne v41_r0 c0_i32_24_r0
  let v46_r0 : BitVec 1 := Scalar.andi v45_r0 v42_r0
  let v47_r0 : BitVec 32 := Scalar.addi v41_r0 v40_r0
  let v48_r0 : BitVec 32 := Scalar.select v46_r0 v47_r0 v41_r0
  let v49_r0 : BitVec 32 := Scalar.addi c0_i32_27_r0 v48_r0
  let v51_r0 : BitVec 32 := Scalar.muli c128_i32_r0 v49_r0
  ![v50_r0.toNat, v51_r0.toNat]
def k0_off3 : Fin 1 → Nat :=
  let c0_i32_14_r0 : BitVec 32 := 0#32
  let c2_i32_r0 : BitVec 32 := 2#32
  let v21_r0 : BitVec 32 := Scalar.remui c0_i32_14_r0 c2_i32_r0
  ![v21_r0.toNat]
@[reducible] def k0_t1_loop : Scf.Loop 32 :=
  let c0_i32_39_r0 : BitVec 32 := 0#32
  let c16_i32_40_r0 : BitVec 32 := 16#32
  let v61_r0 : BitVec 32 := Scalar.addi c0_i32_39_r0 c16_i32_40_r0
  let c1_i32_41_r0 : BitVec 32 := 1#32
  ⟨c0_i32_39_r0, v61_r0, c1_i32_41_r0⟩
def k0_off4 (arg6_r0 : BitVec 32) : Fin 3 → Nat :=
  let c2_i32_158_r0 : BitVec 32 := 2#32
  let v267_r0 : BitVec 32 := Scalar.remui arg6_r0 c2_i32_158_r0
  let c0_i32_175_r0 : BitVec 32 := 0#32
  let c0_i32_176_r0 : BitVec 32 := 0#32
  ![v267_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v95_r0 : BitVec 32 := Scalar.addi arg10_r0 v4
  let c0_i32_86_r0 : BitVec 32 := 0#32
  let v112_r0 : BitVec 1 := Scalar.cmpi .sgt v95_r0 c0_i32_86_r0
  let v113_r0 : BitVec 32 := Scalar.extui v112_r0
  let c0_i32_87_r0 : BitVec 32 := 0#32
  let v114_r0 : BitVec 1 := Scalar.cmpi .slt v95_r0 c0_i32_87_r0
  let v115_r0 : BitVec 32 := Scalar.extui v114_r0
  let v116_r0 : BitVec 32 := Scalar.subi v113_r0 v115_r0
  let c64_i32_85_r0 : BitVec 32 := 64#32
  let c0_i32_88_r0 : BitVec 32 := 0#32
  let v117_r0 : BitVec 1 := Scalar.cmpi .sgt c64_i32_85_r0 c0_i32_88_r0
  let v118_r0 : BitVec 32 := Scalar.extui v117_r0
  let c0_i32_89_r0 : BitVec 32 := 0#32
  let v119_r0 : BitVec 1 := Scalar.cmpi .slt c64_i32_85_r0 c0_i32_89_r0
  let v120_r0 : BitVec 32 := Scalar.extui v119_r0
  let v121_r0 : BitVec 32 := Scalar.subi v118_r0 v120_r0
  let v122_r0 : BitVec 1 := Scalar.cmpi .ne v116_r0 v121_r0
  let v123_r0 : BitVec 32 := Scalar.remsi v95_r0 c64_i32_85_r0
  let c0_i32_90_r0 : BitVec 32 := 0#32
  let v124_r0 : BitVec 1 := Scalar.cmpi .ne v123_r0 c0_i32_90_r0
  let v125_r0 : BitVec 1 := Scalar.andi v122_r0 v124_r0
  let v111_r0 : BitVec 32 := Scalar.divsi v95_r0 c64_i32_85_r0
  let c1_i32_91_r0 : BitVec 32 := 1#32
  let v126_r0 : BitVec 32 := Scalar.subi v111_r0 c1_i32_91_r0
  let v127_r0 : BitVec 32 := Scalar.select v125_r0 v126_r0 v111_r0
  let true_78_r0 : BitVec 1 := 1#1
  let c1_i32_77_r0 : BitVec 32 := 1#32
  let v101_r0 : BitVec 32 := Scalar.addi arg10_r0 c1_i32_77_r0
  let v102_r0 : BitVec 32 := Scalar.select true_78_r0 v101_r0 arg10_r0
  let c16_i32_79_r0 : BitVec 32 := 16#32
  let v103_r0 : BitVec 1 := Scalar.cmpi .eq v102_r0 c16_i32_79_r0
  let c0_i32_80_r0 : BitVec 32 := 0#32
  let v104_r0 : BitVec 32 := Scalar.select v103_r0 c0_i32_80_r0 v102_r0
  let v105_r0 : BitVec 32 := Scalar.addi v104_r0 v4
  let c0_i32_100_r0 : BitVec 32 := 0#32
  let v140_r0 : BitVec 1 := Scalar.cmpi .sgt v105_r0 c0_i32_100_r0
  let v141_r0 : BitVec 32 := Scalar.extui v140_r0
  let c0_i32_101_r0 : BitVec 32 := 0#32
  let v142_r0 : BitVec 1 := Scalar.cmpi .slt v105_r0 c0_i32_101_r0
  let v143_r0 : BitVec 32 := Scalar.extui v142_r0
  let v144_r0 : BitVec 32 := Scalar.subi v141_r0 v143_r0
  let c64_i32_99_r0 : BitVec 32 := 64#32
  let c0_i32_102_r0 : BitVec 32 := 0#32
  let v145_r0 : BitVec 1 := Scalar.cmpi .sgt c64_i32_99_r0 c0_i32_102_r0
  let v146_r0 : BitVec 32 := Scalar.extui v145_r0
  let c0_i32_103_r0 : BitVec 32 := 0#32
  let v147_r0 : BitVec 1 := Scalar.cmpi .slt c64_i32_99_r0 c0_i32_103_r0
  let v148_r0 : BitVec 32 := Scalar.extui v147_r0
  let v149_r0 : BitVec 32 := Scalar.subi v146_r0 v148_r0
  let v150_r0 : BitVec 1 := Scalar.cmpi .ne v144_r0 v149_r0
  let v151_r0 : BitVec 32 := Scalar.remsi v105_r0 c64_i32_99_r0
  let c0_i32_104_r0 : BitVec 32 := 0#32
  let v152_r0 : BitVec 1 := Scalar.cmpi .ne v151_r0 c0_i32_104_r0
  let v153_r0 : BitVec 1 := Scalar.andi v150_r0 v152_r0
  let v139_r0 : BitVec 32 := Scalar.divsi v105_r0 c64_i32_99_r0
  let c1_i32_105_r0 : BitVec 32 := 1#32
  let v154_r0 : BitVec 32 := Scalar.subi v139_r0 c1_i32_105_r0
  let v155_r0 : BitVec 32 := Scalar.select v153_r0 v154_r0 v139_r0
  let v167_r0 : BitVec 1 := Scalar.cmpi .ne v127_r0 v155_r0
  let c0_i32_98_r0 : BitVec 32 := 0#32
  let c64_i32_92_r0 : BitVec 32 := 64#32
  let c0_i32_93_r0 : BitVec 32 := 0#32
  let v128_r0 : BitVec 1 := Scalar.cmpi .eq c64_i32_92_r0 c0_i32_93_r0
  let c1_i32_94_r0 : BitVec 32 := 1#32
  let v129_r0 : BitVec 32 := Scalar.select v128_r0 c1_i32_94_r0 c64_i32_92_r0
  let v130_r0 : BitVec 32 := Scalar.remsi v95_r0 v129_r0
  let c0_i32_96_r0 : BitVec 32 := 0#32
  let v132_r0 : BitVec 1 := Scalar.cmpi .slt v130_r0 c0_i32_96_r0
  let c0_i32_97_r0 : BitVec 32 := 0#32
  let v133_r0 : BitVec 1 := Scalar.cmpi .slt v129_r0 c0_i32_97_r0
  let v134_r0 : BitVec 1 := Scalar.xori v132_r0 v133_r0
  let c0_i32_95_r0 : BitVec 32 := 0#32
  let v131_r0 : BitVec 1 := Scalar.cmpi .ne v130_r0 c0_i32_95_r0
  let v135_r0 : BitVec 1 := Scalar.andi v134_r0 v131_r0
  let v136_r0 : BitVec 32 := Scalar.addi v130_r0 v129_r0
  let v137_r0 : BitVec 32 := Scalar.select v135_r0 v136_r0 v130_r0
  let v138_r0 : BitVec 32 := Scalar.addi c0_i32_98_r0 v137_r0
  let c0_i32_112_r0 : BitVec 32 := 0#32
  let c64_i32_106_r0 : BitVec 32 := 64#32
  let c0_i32_107_r0 : BitVec 32 := 0#32
  let v156_r0 : BitVec 1 := Scalar.cmpi .eq c64_i32_106_r0 c0_i32_107_r0
  let c1_i32_108_r0 : BitVec 32 := 1#32
  let v157_r0 : BitVec 32 := Scalar.select v156_r0 c1_i32_108_r0 c64_i32_106_r0
  let v158_r0 : BitVec 32 := Scalar.remsi v105_r0 v157_r0
  let c0_i32_110_r0 : BitVec 32 := 0#32
  let v160_r0 : BitVec 1 := Scalar.cmpi .slt v158_r0 c0_i32_110_r0
  let c0_i32_111_r0 : BitVec 32 := 0#32
  let v161_r0 : BitVec 1 := Scalar.cmpi .slt v157_r0 c0_i32_111_r0
  let v162_r0 : BitVec 1 := Scalar.xori v160_r0 v161_r0
  let c0_i32_109_r0 : BitVec 32 := 0#32
  let v159_r0 : BitVec 1 := Scalar.cmpi .ne v158_r0 c0_i32_109_r0
  let v163_r0 : BitVec 1 := Scalar.andi v162_r0 v159_r0
  let v164_r0 : BitVec 32 := Scalar.addi v158_r0 v157_r0
  let v165_r0 : BitVec 32 := Scalar.select v163_r0 v164_r0 v158_r0
  let v166_r0 : BitVec 32 := Scalar.addi c0_i32_112_r0 v165_r0
  let v168_r0 : BitVec 1 := Scalar.cmpi .ne v138_r0 v166_r0
  let v169_r0 : BitVec 1 := Scalar.ori v167_r0 v168_r0
  let c0_i32_39_r0 : BitVec 32 := 0#32
  let c1_i32_41_r0 : BitVec 32 := 1#32
  let arg5_r0 : BitVec 32 := Scf.iv c0_i32_39_r0 c1_i32_41_r0 k0_t1
  let c15_i32_113_r0 : BitVec 32 := 15#32
  let v170_r0 : BitVec 1 := Scalar.cmpi .sge arg5_r0 c15_i32_113_r0
  let true_114_r0 : BitVec 1 := 1#1
  let v171_r0 : BitVec 1 := Scalar.xori v170_r0 true_114_r0
  let v172_r0 : BitVec 1 := Scalar.andi v169_r0 v171_r0
  let true_115_r0 : BitVec 1 := 1#1
  let v173_r0 : BitVec 1 := Scalar.andi v172_r0 true_115_r0
  let v174_r0 : BitVec 32 := Scalar.extui v173_r0
  let c0_i32_116_r0 : BitVec 32 := 0#32
  let v175_r0 : BitVec 1 := Scalar.cmpi .ne v174_r0 c0_i32_116_r0
  v175_r0

def k0_off5 (i : grid0.Coords) (arg10_r0 : BitVec 32) : Fin 2 → Nat :=
  let c1_i32_173_r0 : BitVec 32 := 1#32
  let true_78_r0 : BitVec 1 := 1#1
  let c1_i32_77_r0 : BitVec 32 := 1#32
  let v101_r0 : BitVec 32 := Scalar.addi arg10_r0 c1_i32_77_r0
  let v102_r0 : BitVec 32 := Scalar.select true_78_r0 v101_r0 arg10_r0
  let c16_i32_79_r0 : BitVec 32 := 16#32
  let v103_r0 : BitVec 1 := Scalar.cmpi .eq v102_r0 c16_i32_79_r0
  let c0_i32_80_r0 : BitVec 32 := 0#32
  let v104_r0 : BitVec 32 := Scalar.select v103_r0 c0_i32_80_r0 v102_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v105_r0 : BitVec 32 := Scalar.addi v104_r0 v4
  let c0_i32_160_r0 : BitVec 32 := 0#32
  let v269_r0 : BitVec 1 := Scalar.cmpi .sgt v105_r0 c0_i32_160_r0
  let v270_r0 : BitVec 32 := Scalar.extui v269_r0
  let c0_i32_161_r0 : BitVec 32 := 0#32
  let v271_r0 : BitVec 1 := Scalar.cmpi .slt v105_r0 c0_i32_161_r0
  let v272_r0 : BitVec 32 := Scalar.extui v271_r0
  let v273_r0 : BitVec 32 := Scalar.subi v270_r0 v272_r0
  let c64_i32_159_r0 : BitVec 32 := 64#32
  let c0_i32_162_r0 : BitVec 32 := 0#32
  let v274_r0 : BitVec 1 := Scalar.cmpi .sgt c64_i32_159_r0 c0_i32_162_r0
  let v275_r0 : BitVec 32 := Scalar.extui v274_r0
  let c0_i32_163_r0 : BitVec 32 := 0#32
  let v276_r0 : BitVec 1 := Scalar.cmpi .slt c64_i32_159_r0 c0_i32_163_r0
  let v277_r0 : BitVec 32 := Scalar.extui v276_r0
  let v278_r0 : BitVec 32 := Scalar.subi v275_r0 v277_r0
  let v279_r0 : BitVec 1 := Scalar.cmpi .ne v273_r0 v278_r0
  let v280_r0 : BitVec 32 := Scalar.remsi v105_r0 c64_i32_159_r0
  let c0_i32_164_r0 : BitVec 32 := 0#32
  let v281_r0 : BitVec 1 := Scalar.cmpi .ne v280_r0 c0_i32_164_r0
  let v282_r0 : BitVec 1 := Scalar.andi v279_r0 v281_r0
  let v268_r0 : BitVec 32 := Scalar.divsi v105_r0 c64_i32_159_r0
  let c1_i32_165_r0 : BitVec 32 := 1#32
  let v283_r0 : BitVec 32 := Scalar.subi v268_r0 c1_i32_165_r0
  let v284_r0 : BitVec 32 := Scalar.select v282_r0 v283_r0 v268_r0
  let v296_r0 : BitVec 32 := Scalar.muli c1_i32_173_r0 v284_r0
  let c128_i32_174_r0 : BitVec 32 := 128#32
  let c0_i32_172_r0 : BitVec 32 := 0#32
  let c64_i32_166_r0 : BitVec 32 := 64#32
  let c0_i32_167_r0 : BitVec 32 := 0#32
  let v285_r0 : BitVec 1 := Scalar.cmpi .eq c64_i32_166_r0 c0_i32_167_r0
  let c1_i32_168_r0 : BitVec 32 := 1#32
  let v286_r0 : BitVec 32 := Scalar.select v285_r0 c1_i32_168_r0 c64_i32_166_r0
  let v287_r0 : BitVec 32 := Scalar.remsi v105_r0 v286_r0
  let c0_i32_170_r0 : BitVec 32 := 0#32
  let v289_r0 : BitVec 1 := Scalar.cmpi .slt v287_r0 c0_i32_170_r0
  let c0_i32_171_r0 : BitVec 32 := 0#32
  let v290_r0 : BitVec 1 := Scalar.cmpi .slt v286_r0 c0_i32_171_r0
  let v291_r0 : BitVec 1 := Scalar.xori v289_r0 v290_r0
  let c0_i32_169_r0 : BitVec 32 := 0#32
  let v288_r0 : BitVec 1 := Scalar.cmpi .ne v287_r0 c0_i32_169_r0
  let v292_r0 : BitVec 1 := Scalar.andi v291_r0 v288_r0
  let v293_r0 : BitVec 32 := Scalar.addi v287_r0 v286_r0
  let v294_r0 : BitVec 32 := Scalar.select v292_r0 v293_r0 v287_r0
  let v295_r0 : BitVec 32 := Scalar.addi c0_i32_172_r0 v294_r0
  let v297_r0 : BitVec 32 := Scalar.muli c128_i32_174_r0 v295_r0
  ![v296_r0.toNat, v297_r0.toNat]
def k0_off6 (arg6_r0 : BitVec 32) : Fin 1 → Nat :=
  let c2_i32_158_r0 : BitVec 32 := 2#32
  let v267_r0 : BitVec 32 := Scalar.remui arg6_r0 c2_i32_158_r0
  ![v267_r0.toNat]
def k0_off7 (arg7_r0 : BitVec 32) : Fin 3 → Nat :=
  let c2_i32_174_r0 : BitVec 32 := 2#32
  let v297_r0 : BitVec 32 := Scalar.remui arg7_r0 c2_i32_174_r0
  let c0_i32_175_r0 : BitVec 32 := 0#32
  let c0_i32_176_r0 : BitVec 32 := 0#32
  ![v297_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v95_r0 : BitVec 32 := Scalar.addi arg10_r0 v4
  let c0_i32_86_r0 : BitVec 32 := 0#32
  let v112_r0 : BitVec 1 := Scalar.cmpi .sgt v95_r0 c0_i32_86_r0
  let v113_r0 : BitVec 32 := Scalar.extui v112_r0
  let c0_i32_87_r0 : BitVec 32 := 0#32
  let v114_r0 : BitVec 1 := Scalar.cmpi .slt v95_r0 c0_i32_87_r0
  let v115_r0 : BitVec 32 := Scalar.extui v114_r0
  let v116_r0 : BitVec 32 := Scalar.subi v113_r0 v115_r0
  let c64_i32_85_r0 : BitVec 32 := 64#32
  let c0_i32_88_r0 : BitVec 32 := 0#32
  let v117_r0 : BitVec 1 := Scalar.cmpi .sgt c64_i32_85_r0 c0_i32_88_r0
  let v118_r0 : BitVec 32 := Scalar.extui v117_r0
  let c0_i32_89_r0 : BitVec 32 := 0#32
  let v119_r0 : BitVec 1 := Scalar.cmpi .slt c64_i32_85_r0 c0_i32_89_r0
  let v120_r0 : BitVec 32 := Scalar.extui v119_r0
  let v121_r0 : BitVec 32 := Scalar.subi v118_r0 v120_r0
  let v122_r0 : BitVec 1 := Scalar.cmpi .ne v116_r0 v121_r0
  let v123_r0 : BitVec 32 := Scalar.remsi v95_r0 c64_i32_85_r0
  let c0_i32_90_r0 : BitVec 32 := 0#32
  let v124_r0 : BitVec 1 := Scalar.cmpi .ne v123_r0 c0_i32_90_r0
  let v125_r0 : BitVec 1 := Scalar.andi v122_r0 v124_r0
  let v111_r0 : BitVec 32 := Scalar.divsi v95_r0 c64_i32_85_r0
  let c1_i32_91_r0 : BitVec 32 := 1#32
  let v126_r0 : BitVec 32 := Scalar.subi v111_r0 c1_i32_91_r0
  let v127_r0 : BitVec 32 := Scalar.select v125_r0 v126_r0 v111_r0
  let true_74_r0 : BitVec 1 := 1#1
  let c1_i32_73_r0 : BitVec 32 := 1#32
  let v96_r0 : BitVec 32 := Scalar.subi arg10_r0 c1_i32_73_r0
  let v97_r0 : BitVec 32 := Scalar.select true_74_r0 v96_r0 arg10_r0
  let c_m1_i32_75_r0 : BitVec 32 := 4294967295#32
  let v98_r0 : BitVec 1 := Scalar.cmpi .eq v97_r0 c_m1_i32_75_r0
  let c15_i32_76_r0 : BitVec 32 := 15#32
  let v99_r0 : BitVec 32 := Scalar.select v98_r0 c15_i32_76_r0 v97_r0
  let v100_r0 : BitVec 32 := Scalar.addi v99_r0 v4
  let c0_i32_122_r0 : BitVec 32 := 0#32
  let v184_r0 : BitVec 1 := Scalar.cmpi .sgt v100_r0 c0_i32_122_r0
  let v185_r0 : BitVec 32 := Scalar.extui v184_r0
  let c0_i32_123_r0 : BitVec 32 := 0#32
  let v186_r0 : BitVec 1 := Scalar.cmpi .slt v100_r0 c0_i32_123_r0
  let v187_r0 : BitVec 32 := Scalar.extui v186_r0
  let v188_r0 : BitVec 32 := Scalar.subi v185_r0 v187_r0
  let c64_i32_121_r0 : BitVec 32 := 64#32
  let c0_i32_124_r0 : BitVec 32 := 0#32
  let v189_r0 : BitVec 1 := Scalar.cmpi .sgt c64_i32_121_r0 c0_i32_124_r0
  let v190_r0 : BitVec 32 := Scalar.extui v189_r0
  let c0_i32_125_r0 : BitVec 32 := 0#32
  let v191_r0 : BitVec 1 := Scalar.cmpi .slt c64_i32_121_r0 c0_i32_125_r0
  let v192_r0 : BitVec 32 := Scalar.extui v191_r0
  let v193_r0 : BitVec 32 := Scalar.subi v190_r0 v192_r0
  let v194_r0 : BitVec 1 := Scalar.cmpi .ne v188_r0 v193_r0
  let v195_r0 : BitVec 32 := Scalar.remsi v100_r0 c64_i32_121_r0
  let c0_i32_126_r0 : BitVec 32 := 0#32
  let v196_r0 : BitVec 1 := Scalar.cmpi .ne v195_r0 c0_i32_126_r0
  let v197_r0 : BitVec 1 := Scalar.andi v194_r0 v196_r0
  let v183_r0 : BitVec 32 := Scalar.divsi v100_r0 c64_i32_121_r0
  let c1_i32_127_r0 : BitVec 32 := 1#32
  let v198_r0 : BitVec 32 := Scalar.subi v183_r0 c1_i32_127_r0
  let v199_r0 : BitVec 32 := Scalar.select v197_r0 v198_r0 v183_r0
  let v211_r0 : BitVec 1 := Scalar.cmpi .ne v127_r0 v199_r0
  let c0_i32_98_r0 : BitVec 32 := 0#32
  let c64_i32_92_r0 : BitVec 32 := 64#32
  let c0_i32_93_r0 : BitVec 32 := 0#32
  let v128_r0 : BitVec 1 := Scalar.cmpi .eq c64_i32_92_r0 c0_i32_93_r0
  let c1_i32_94_r0 : BitVec 32 := 1#32
  let v129_r0 : BitVec 32 := Scalar.select v128_r0 c1_i32_94_r0 c64_i32_92_r0
  let v130_r0 : BitVec 32 := Scalar.remsi v95_r0 v129_r0
  let c0_i32_96_r0 : BitVec 32 := 0#32
  let v132_r0 : BitVec 1 := Scalar.cmpi .slt v130_r0 c0_i32_96_r0
  let c0_i32_97_r0 : BitVec 32 := 0#32
  let v133_r0 : BitVec 1 := Scalar.cmpi .slt v129_r0 c0_i32_97_r0
  let v134_r0 : BitVec 1 := Scalar.xori v132_r0 v133_r0
  let c0_i32_95_r0 : BitVec 32 := 0#32
  let v131_r0 : BitVec 1 := Scalar.cmpi .ne v130_r0 c0_i32_95_r0
  let v135_r0 : BitVec 1 := Scalar.andi v134_r0 v131_r0
  let v136_r0 : BitVec 32 := Scalar.addi v130_r0 v129_r0
  let v137_r0 : BitVec 32 := Scalar.select v135_r0 v136_r0 v130_r0
  let v138_r0 : BitVec 32 := Scalar.addi c0_i32_98_r0 v137_r0
  let c0_i32_134_r0 : BitVec 32 := 0#32
  let c64_i32_128_r0 : BitVec 32 := 64#32
  let c0_i32_129_r0 : BitVec 32 := 0#32
  let v200_r0 : BitVec 1 := Scalar.cmpi .eq c64_i32_128_r0 c0_i32_129_r0
  let c1_i32_130_r0 : BitVec 32 := 1#32
  let v201_r0 : BitVec 32 := Scalar.select v200_r0 c1_i32_130_r0 c64_i32_128_r0
  let v202_r0 : BitVec 32 := Scalar.remsi v100_r0 v201_r0
  let c0_i32_132_r0 : BitVec 32 := 0#32
  let v204_r0 : BitVec 1 := Scalar.cmpi .slt v202_r0 c0_i32_132_r0
  let c0_i32_133_r0 : BitVec 32 := 0#32
  let v205_r0 : BitVec 1 := Scalar.cmpi .slt v201_r0 c0_i32_133_r0
  let v206_r0 : BitVec 1 := Scalar.xori v204_r0 v205_r0
  let c0_i32_131_r0 : BitVec 32 := 0#32
  let v203_r0 : BitVec 1 := Scalar.cmpi .ne v202_r0 c0_i32_131_r0
  let v207_r0 : BitVec 1 := Scalar.andi v206_r0 v203_r0
  let v208_r0 : BitVec 32 := Scalar.addi v202_r0 v201_r0
  let v209_r0 : BitVec 32 := Scalar.select v207_r0 v208_r0 v202_r0
  let v210_r0 : BitVec 32 := Scalar.addi c0_i32_134_r0 v209_r0
  let v212_r0 : BitVec 1 := Scalar.cmpi .ne v138_r0 v210_r0
  let v213_r0 : BitVec 1 := Scalar.ori v211_r0 v212_r0
  let c0_i32_39_r0 : BitVec 32 := 0#32
  let c1_i32_41_r0 : BitVec 32 := 1#32
  let arg5_r0 : BitVec 32 := Scf.iv c0_i32_39_r0 c1_i32_41_r0 k0_t1
  let c0_i32_71_r0 : BitVec 32 := 0#32
  let v93_r0 : BitVec 1 := Scalar.cmpi .eq arg5_r0 c0_i32_71_r0
  let v214_r0 : BitVec 1 := Scalar.ori v213_r0 v93_r0
  let c0_i32_135_r0 : BitVec 32 := 0#32
  let v215_r0 : BitVec 1 := Scalar.cmpi .sge arg5_r0 c0_i32_135_r0
  let v216_r0 : BitVec 1 := Scalar.andi v214_r0 v215_r0
  let v217_r0 : BitVec 32 := Scalar.extui v216_r0
  let c0_i32_136_r0 : BitVec 32 := 0#32
  let v218_r0 : BitVec 1 := Scalar.cmpi .ne v217_r0 c0_i32_136_r0
  v218_r0

def k0_off8 (i : grid0.Coords) (arg10_r0 : BitVec 32) : Fin 2 → Nat :=
  let c1_i32_172_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v95_r0 : BitVec 32 := Scalar.addi arg10_r0 v4
  let c0_i32_159_r0 : BitVec 32 := 0#32
  let v268_r0 : BitVec 1 := Scalar.cmpi .sgt v95_r0 c0_i32_159_r0
  let v269_r0 : BitVec 32 := Scalar.extui v268_r0
  let c0_i32_160_r0 : BitVec 32 := 0#32
  let v270_r0 : BitVec 1 := Scalar.cmpi .slt v95_r0 c0_i32_160_r0
  let v271_r0 : BitVec 32 := Scalar.extui v270_r0
  let v272_r0 : BitVec 32 := Scalar.subi v269_r0 v271_r0
  let c64_i32_158_r0 : BitVec 32 := 64#32
  let c0_i32_161_r0 : BitVec 32 := 0#32
  let v273_r0 : BitVec 1 := Scalar.cmpi .sgt c64_i32_158_r0 c0_i32_161_r0
  let v274_r0 : BitVec 32 := Scalar.extui v273_r0
  let c0_i32_162_r0 : BitVec 32 := 0#32
  let v275_r0 : BitVec 1 := Scalar.cmpi .slt c64_i32_158_r0 c0_i32_162_r0
  let v276_r0 : BitVec 32 := Scalar.extui v275_r0
  let v277_r0 : BitVec 32 := Scalar.subi v274_r0 v276_r0
  let v278_r0 : BitVec 1 := Scalar.cmpi .ne v272_r0 v277_r0
  let v279_r0 : BitVec 32 := Scalar.remsi v95_r0 c64_i32_158_r0
  let c0_i32_163_r0 : BitVec 32 := 0#32
  let v280_r0 : BitVec 1 := Scalar.cmpi .ne v279_r0 c0_i32_163_r0
  let v281_r0 : BitVec 1 := Scalar.andi v278_r0 v280_r0
  let v267_r0 : BitVec 32 := Scalar.divsi v95_r0 c64_i32_158_r0
  let c1_i32_164_r0 : BitVec 32 := 1#32
  let v282_r0 : BitVec 32 := Scalar.subi v267_r0 c1_i32_164_r0
  let v283_r0 : BitVec 32 := Scalar.select v281_r0 v282_r0 v267_r0
  let v295_r0 : BitVec 32 := Scalar.muli c1_i32_172_r0 v283_r0
  let c128_i32_173_r0 : BitVec 32 := 128#32
  let c0_i32_171_r0 : BitVec 32 := 0#32
  let c64_i32_165_r0 : BitVec 32 := 64#32
  let c0_i32_166_r0 : BitVec 32 := 0#32
  let v284_r0 : BitVec 1 := Scalar.cmpi .eq c64_i32_165_r0 c0_i32_166_r0
  let c1_i32_167_r0 : BitVec 32 := 1#32
  let v285_r0 : BitVec 32 := Scalar.select v284_r0 c1_i32_167_r0 c64_i32_165_r0
  let v286_r0 : BitVec 32 := Scalar.remsi v95_r0 v285_r0
  let c0_i32_169_r0 : BitVec 32 := 0#32
  let v288_r0 : BitVec 1 := Scalar.cmpi .slt v286_r0 c0_i32_169_r0
  let c0_i32_170_r0 : BitVec 32 := 0#32
  let v289_r0 : BitVec 1 := Scalar.cmpi .slt v285_r0 c0_i32_170_r0
  let v290_r0 : BitVec 1 := Scalar.xori v288_r0 v289_r0
  let c0_i32_168_r0 : BitVec 32 := 0#32
  let v287_r0 : BitVec 1 := Scalar.cmpi .ne v286_r0 c0_i32_168_r0
  let v291_r0 : BitVec 1 := Scalar.andi v290_r0 v287_r0
  let v292_r0 : BitVec 32 := Scalar.addi v286_r0 v285_r0
  let v293_r0 : BitVec 32 := Scalar.select v291_r0 v292_r0 v286_r0
  let v294_r0 : BitVec 32 := Scalar.addi c0_i32_171_r0 v293_r0
  let v296_r0 : BitVec 32 := Scalar.muli c128_i32_173_r0 v294_r0
  ![v295_r0.toNat, v296_r0.toNat]
def k0_off9 (arg7_r0 : BitVec 32) : Fin 1 → Nat :=
  let c2_i32_174_r0 : BitVec 32 := 2#32
  let v297_r0 : BitVec 32 := Scalar.remui arg7_r0 c2_i32_174_r0
  ![v297_r0.toNat]
def k0_off10 (arg8_r0 : BitVec 32) : Fin 4 → Nat :=
  let c2_i32_140_r0 : BitVec 32 := 2#32
  let v226_r0 : BitVec 32 := Scalar.remui arg8_r0 c2_i32_140_r0
  let c0_i32_158_r1 : BitVec 32 := 0#32
  let c0_i32_159_r1 : BitVec 32 := 0#32
  let c0_i32_160_r1 : BitVec 32 := 0#32
  ![v226_r0.toNat, 0, 0, 0]

def k0_chk2 (arg8_r0 : BitVec 32) : Prop :=
  (∀ a, (k0_off10 arg8_r0) a + S1x128x2x128.size a ≤ S2x128x2x128.size a)
theorem k0_off10_inb : ∀ (arg8_r0 : BitVec 32) (k0_hw2 : k0_chk2 arg8_r0), ∀ a, (k0_off10 arg8_r0) a + S1x128x2x128.size a ≤ S2x128x2x128.size a := fun arg8_r0 k0_hw2 => k0_hw2

def k0_off11 (arg7_r0 : BitVec 32) : Fin 3 → Nat :=
  let c2_i32_139_r0 : BitVec 32 := 2#32
  let v225_r0 : BitVec 32 := Scalar.remui arg7_r0 c2_i32_139_r0
  let c0_i32_161_r1 : BitVec 32 := 0#32
  let c0_i32_162_r1 : BitVec 32 := 0#32
  ![v225_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 4 → Nat :=
  let c2_i32_158_r0 : BitVec 32 := 2#32
  let v267_r0 : BitVec 32 := Scalar.remui arg8_r0 c2_i32_158_r0
  let c0_i32_160_r0 : BitVec 32 := 0#32
  let c0_i32_161_r0 : BitVec 32 := 0#32
  let c0_i32_162_r0 : BitVec 32 := 0#32
  ![v267_r0.toNat, 0, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v95_r0 : BitVec 32 := Scalar.addi arg10_r0 v4
  let true_78_r0 : BitVec 1 := 1#1
  let c1_i32_77_r0 : BitVec 32 := 1#32
  let v101_r0 : BitVec 32 := Scalar.addi arg10_r0 c1_i32_77_r0
  let v102_r0 : BitVec 32 := Scalar.select true_78_r0 v101_r0 arg10_r0
  let c16_i32_79_r0 : BitVec 32 := 16#32
  let v103_r0 : BitVec 1 := Scalar.cmpi .eq v102_r0 c16_i32_79_r0
  let c0_i32_80_r0 : BitVec 32 := 0#32
  let v104_r0 : BitVec 32 := Scalar.select v103_r0 c0_i32_80_r0 v102_r0
  let v105_r0 : BitVec 32 := Scalar.addi v104_r0 v4
  let v234_r0 : BitVec 1 := Scalar.cmpi .ne v95_r0 v105_r0
  let c0_i32_39_r0 : BitVec 32 := 0#32
  let c1_i32_41_r0 : BitVec 32 := 1#32
  let arg5_r0 : BitVec 32 := Scf.iv c0_i32_39_r0 c1_i32_41_r0 k0_t1
  let c15_i32_72_r0 : BitVec 32 := 15#32
  let v94_r0 : BitVec 1 := Scalar.cmpi .eq arg5_r0 c15_i32_72_r0
  let v235_r0 : BitVec 1 := Scalar.ori v234_r0 v94_r0
  let v236_r0 : BitVec 32 := Scalar.extui v235_r0
  let c0_i32_143_r0 : BitVec 32 := 0#32
  let v237_r0 : BitVec 1 := Scalar.cmpi .ne v236_r0 c0_i32_143_r0
  v237_r0

def k0_off13 (i : grid0.Coords) (arg10_r0 : BitVec 32) : Fin 3 → Nat :=
  let c128_i32_159_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v95_r0 : BitVec 32 := Scalar.addi arg10_r0 v4
  let v268_r0 : BitVec 32 := Scalar.muli c128_i32_159_r0 v95_r0
  let c0_i32_163_r0 : BitVec 32 := 0#32
  let c0_i32_164_r0 : BitVec 32 := 0#32
  ![v268_r0.toNat, 0, 0]
def k0_off14 (arg8_r0 : BitVec 32) : Fin 1 → Nat :=
  let c2_i32_158_r0 : BitVec 32 := 2#32
  let v267_r0 : BitVec 32 := Scalar.remui arg8_r0 c2_i32_158_r0
  ![v267_r0.toNat]
def k0_off15 (arg9_r0 : BitVec 32) : Fin 4 → Nat :=
  let c2_i32_158_r0 : BitVec 32 := 2#32
  let v267_r0 : BitVec 32 := Scalar.remui arg9_r0 c2_i32_158_r0
  let c0_i32_160_r0 : BitVec 32 := 0#32
  let c0_i32_161_r0 : BitVec 32 := 0#32
  let c0_i32_162_r0 : BitVec 32 := 0#32
  ![v267_r0.toNat, 0, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v95_r0 : BitVec 32 := Scalar.addi arg10_r0 v4
  let true_74_r0 : BitVec 1 := 1#1
  let c1_i32_73_r0 : BitVec 32 := 1#32
  let v96_r0 : BitVec 32 := Scalar.subi arg10_r0 c1_i32_73_r0
  let v97_r0 : BitVec 32 := Scalar.select true_74_r0 v96_r0 arg10_r0
  let c_m1_i32_75_r0 : BitVec 32 := 4294967295#32
  let v98_r0 : BitVec 1 := Scalar.cmpi .eq v97_r0 c_m1_i32_75_r0
  let c15_i32_76_r0 : BitVec 32 := 15#32
  let v99_r0 : BitVec 32 := Scalar.select v98_r0 c15_i32_76_r0 v97_r0
  let v100_r0 : BitVec 32 := Scalar.addi v99_r0 v4
  let v249_r0 : BitVec 1 := Scalar.cmpi .ne v95_r0 v100_r0
  let c0_i32_39_r0 : BitVec 32 := 0#32
  let c1_i32_41_r0 : BitVec 32 := 1#32
  let arg5_r0 : BitVec 32 := Scf.iv c0_i32_39_r0 c1_i32_41_r0 k0_t1
  let c0_i32_71_r0 : BitVec 32 := 0#32
  let v93_r0 : BitVec 1 := Scalar.cmpi .eq arg5_r0 c0_i32_71_r0
  let true_149_r0 : BitVec 1 := 1#1
  let v250_r0 : BitVec 1 := Scalar.xori v93_r0 true_149_r0
  let v251_r0 : BitVec 1 := Scalar.andi v249_r0 v250_r0
  let v252_r0 : BitVec 32 := Scalar.extui v251_r0
  let c0_i32_150_r0 : BitVec 32 := 0#32
  let v253_r0 : BitVec 1 := Scalar.cmpi .ne v252_r0 c0_i32_150_r0
  v253_r0

def k0_off16 (i : grid0.Coords) (arg10_r0 : BitVec 32) : Fin 3 → Nat :=
  let c128_i32_159_r0 : BitVec 32 := 128#32
  let true_74_r0 : BitVec 1 := 1#1
  let c1_i32_73_r0 : BitVec 32 := 1#32
  let v96_r0 : BitVec 32 := Scalar.subi arg10_r0 c1_i32_73_r0
  let v97_r0 : BitVec 32 := Scalar.select true_74_r0 v96_r0 arg10_r0
  let c_m1_i32_75_r0 : BitVec 32 := 4294967295#32
  let v98_r0 : BitVec 1 := Scalar.cmpi .eq v97_r0 c_m1_i32_75_r0
  let c15_i32_76_r0 : BitVec 32 := 15#32
  let v99_r0 : BitVec 32 := Scalar.select v98_r0 c15_i32_76_r0 v97_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v100_r0 : BitVec 32 := Scalar.addi v99_r0 v4
  let v268_r0 : BitVec 32 := Scalar.muli c128_i32_159_r0 v100_r0
  let c0_i32_163_r0 : BitVec 32 := 0#32
  let c0_i32_164_r0 : BitVec 32 := 0#32
  ![v268_r0.toNat, 0, 0]
def k0_off17 (arg9_r0 : BitVec 32) : Fin 1 → Nat :=
  let c2_i32_158_r0 : BitVec 32 := 2#32
  let v267_r0 : BitVec 32 := Scalar.remui arg9_r0 c2_i32_158_r0
  ![v267_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S8x32768.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S8x32768.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x2x128.size a ≤ S2x128x2x128.size a) ∧
  (∀ (k0_h5 : k0_cond5 i k0_t1 arg10_r0 = 1#1), ∀ a, (k0_off13 i arg10_r0) a + S128x2x128.size a ≤ S65536x2x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x2x128.size a ≤ S2x128x2x128.size a) ∧
  (∀ (k0_h7 : k0_cond7 i k0_t1 arg10_r0 = 1#1), ∀ a, (k0_off16 i arg10_r0) a + S128x2x128.size a ≤ S65536x2x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S8x32768.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S8x32768.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x2x128.size a ≤ S2x128x2x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x2x128.size a ≤ S65536x2x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x2x128.size a ≤ S2x128x2x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x2x128.size a ≤ S65536x2x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v62_3_r0 : BitVec 32) : Fin 4 → Nat :=
  let c2_i32_59_r0 : BitVec 32 := 2#32
  let v83_r0 : BitVec 32 := Scalar.remui v62_3_r0 c2_i32_59_r0
  let c0_i32_61_r0 : BitVec 32 := 0#32
  let c0_i32_62_r0 : BitVec 32 := 0#32
  let c0_i32_63_r0 : BitVec 32 := 0#32
  ![v83_r0.toNat, 0, 0, 0]

def k0_off19 (i : grid0.Coords) (v62_4_r0 : BitVec 32) : Fin 3 → Nat :=
  let c128_i32_60_r0 : BitVec 32 := 128#32
  let true_44_r0 : BitVec 1 := 1#1
  let c1_i32_43_r0 : BitVec 32 := 1#32
  let v63_r0 : BitVec 32 := Scalar.subi v62_4_r0 c1_i32_43_r0
  let v64_r0 : BitVec 32 := Scalar.select true_44_r0 v63_r0 v62_4_r0
  let c_m1_i32_45_r0 : BitVec 32 := 4294967295#32
  let v65_r0 : BitVec 1 := Scalar.cmpi .eq v64_r0 c_m1_i32_45_r0
  let c15_i32_46_r0 : BitVec 32 := 15#32
  let v66_r0 : BitVec 32 := Scalar.select v65_r0 c15_i32_46_r0 v64_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v67_r0 : BitVec 32 := Scalar.addi v66_r0 v4
  let v84_r0 : BitVec 32 := Scalar.muli c128_i32_60_r0 v67_r0
  let c0_i32_64_r0 : BitVec 32 := 0#32
  let c0_i32_65_r0 : BitVec 32 := 0#32
  ![v84_r0.toNat, 0, 0]

def k0_chk5 (i : grid0.Coords) (v62_4_r0 : BitVec 32) : Prop :=
  (∀ a, (k0_off19 i v62_4_r0) a + S128x2x128.size a ≤ S65536x2x128.size a)
theorem k0_off19_inb : ∀ (i : grid0.Coords) (v62_4_r0 : BitVec 32) (k0_hw5 : k0_chk5 i v62_4_r0), ∀ a, (k0_off19 i v62_4_r0) a + S128x2x128.size a ≤ S65536x2x128.size a := fun i v62_4_r0 k0_hw5 => k0_hw5

def k0_off20 (v62_3_r0 : BitVec 32) : Fin 1 → Nat :=
  let c2_i32_59_r0 : BitVec 32 := 2#32
  let v83_r0 : BitVec 32 := Scalar.remui v62_3_r0 c2_i32_59_r0
  ![v83_r0.toNat]
def k0_off21 (v62_3_r0 : BitVec 32) : Fin 4 → Nat :=
  let c2_i32_59_r0 : BitVec 32 := 2#32
  let v83_r0 : BitVec 32 := Scalar.remui v62_3_r0 c2_i32_59_r0
  let c0_i32_68_r0 : BitVec 32 := 0#32
  let c0_i32_69_r0 : BitVec 32 := 0#32
  let c0_i32_70_r0 : BitVec 32 := 0#32
  ![v83_r0.toNat, 0, 0, 0]

def k0_chk4 (v62_3_r0 : BitVec 32) : Prop :=
  (∀ a, (k0_off18 v62_3_r0) a + S1x128x2x128.size a ≤ S2x128x2x128.size a) ∧
  (∀ a, (k0_off20 v62_3_r0) a + S1.size a ≤ S2.size a) ∧
  (∀ a, (k0_off21 v62_3_r0) a + S1x128x2x128.size a ≤ S2x128x2x128.size a)
theorem k0_off18_inb : ∀ (v62_3_r0 : BitVec 32) (k0_hw4 : k0_chk4 v62_3_r0), ∀ a, (k0_off18 v62_3_r0) a + S1x128x2x128.size a ≤ S2x128x2x128.size a := fun v62_3_r0 k0_hw4 => k0_hw4.1
theorem k0_off20_inb : ∀ (v62_3_r0 : BitVec 32) (k0_hw4 : k0_chk4 v62_3_r0), ∀ a, (k0_off20 v62_3_r0) a + S1.size a ≤ S2.size a := fun v62_3_r0 k0_hw4 => k0_hw4.2.1
theorem k0_off21_inb : ∀ (v62_3_r0 : BitVec 32) (k0_hw4 : k0_chk4 v62_3_r0), ∀ a, (k0_off21 v62_3_r0) a + S1x128x2x128.size a ≤ S2x128x2x128.size a := fun v62_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S294912x2x128 : Shape := ⟨3, ![294912, 2, 128]⟩
abbrev S8x32768 : Shape := ⟨2, ![8, 32768]⟩
abbrev S8x8192 : Shape := ⟨2, ![8, 8192]⟩
abbrev S65536 : Shape := ⟨1, ![65536]⟩
abbrev S_ : Shape := ⟨0, ![]⟩
abbrev S65536x1 : Shape := ⟨2, ![65536, 1]⟩
abbrev S65536x2x128 : Shape := ⟨3, ![65536, 2, 128]⟩

abbrev nBuf : Space → Nat
  | .hbm => 13
  | .vmem => 0
  | .smem => 0
  | _ => 0

abbrev bufTy : (tb : Table) → Fin (tcTables nBuf tb) → BufTy
  | .hbm, ⟨0, _⟩ => ⟨S294912x2x128, .i32⟩
  | .hbm, ⟨1, _⟩ => ⟨S8x32768, .i32⟩
  | .hbm, ⟨2, _⟩ => ⟨S8x8192, .i32⟩
  | .hbm, ⟨3, _⟩ => ⟨S65536, .i32⟩
  | .hbm, ⟨4, _⟩ => ⟨S_, .i32⟩
  | .hbm, ⟨5, _⟩ => ⟨S65536, .i32⟩
  | .hbm, ⟨6, _⟩ => ⟨S65536, .i1⟩
  | .hbm, ⟨7, _⟩ => ⟨S_, .i32⟩
  | .hbm, ⟨8, _⟩ => ⟨S65536, .i32⟩
  | .hbm, ⟨9, _⟩ => ⟨S65536, .i32⟩
  | .hbm, ⟨10, _⟩ => ⟨S65536, .i32⟩
  | .hbm, ⟨11, _⟩ => ⟨S65536x1, .i32⟩
  | .hbm, ⟨12, _⟩ => ⟨S65536x2x128, .i32⟩
  | _, _ => ⟨S294912x2x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel2.lean ====
abbrev S288 : Shape := ⟨1, ![288]⟩
abbrev S2x147456x256 : Shape := ⟨3, ![2, 147456, 256]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S2x147456x512 : Shape := ⟨3, ![2, 147456, 512]⟩
abbrev S2x512x256 : Shape := ⟨3, ![2, 512, 256]⟩
abbrev S1x1x1x2048 : Shape := ⟨4, ![1, 1, 1, 2048]⟩
abbrev S1 : Shape := ⟨1, ![1]⟩
abbrev S1x1x1x1024 : Shape := ⟨4, ![1, 1, 1, 1024]⟩
abbrev S2x512x512 : Shape := ⟨3, ![2, 512, 512]⟩
abbrev S2x1024x2048 : Shape := ⟨3, ![2, 1024, 2048]⟩
abbrev S2x1024x1024 : Shape := ⟨3, ![2, 1024, 1024]⟩
abbrev S1024x2048 : Shape := ⟨2, ![1024, 2048]⟩
abbrev S1024x1024 : Shape := ⟨2, ![1024, 1024]⟩
abbrev S2x2 : Shape := ⟨2, ![2, 2]⟩
abbrev S1x1 : Shape := ⟨2, ![1, 1]⟩
abbrev S_ : Shape := ⟨0, ![]⟩
abbrev S1x1024x2048 : Shape := ⟨3, ![1, 1024, 2048]⟩
abbrev S1x1x1024x2048 : Shape := ⟨4, ![1, 1, 1024, 2048]⟩
abbrev S1x1024x1024 : Shape := ⟨3, ![1, 1024, 1024]⟩
abbrev S1x1x1024x1024 : Shape := ⟨4, ![1, 1, 1024, 1024]⟩
abbrev S1x512x256 : Shape := ⟨3, ![1, 512, 256]⟩
abbrev S512x256 : Shape := ⟨2, ![512, 256]⟩
abbrev S512x512 : Shape := ⟨2, ![512, 512]⟩
abbrev S512x1 : Shape := ⟨2, ![512, 1]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩
abbrev S1x512x512 : Shape := ⟨3, ![1, 512, 512]⟩
abbrev S1x256x256 : Shape := ⟨3, ![1, 256, 256]⟩
abbrev S256x256 : Shape := ⟨2, ![256, 256]⟩
abbrev S256x512 : Shape := ⟨2, ![256, 512]⟩
abbrev S256x1 : Shape := ⟨2, ![256, 1]⟩
abbrev S256x1024 : Shape := ⟨2, ![256, 1024]⟩
abbrev S256x2048 : Shape := ⟨2, ![256, 2048]⟩
abbrev S1x256x512 : Shape := ⟨3, ![1, 256, 512]⟩

abbrev nBuf : Space → Nat
  | .hbm => 6
  | .vmem => 12
  | .smem => 4
  | _ => 0

abbrev bufTy : (tb : Table) → Fin (tcTables nBuf tb) → BufTy
  | .hbm, ⟨0, _⟩ => ⟨S2x147456x256, .i32⟩
  | .hbm, ⟨1, _⟩ => ⟨S4x32x1024x2048, .f32⟩
  | .hbm, ⟨2, _⟩ => ⟨S4x32x1x2048, .f32⟩
  | .hbm, ⟨3, _⟩ => ⟨S4x32x1024x1024, .f32⟩
  | .hbm, ⟨4, _⟩ => ⟨S4x32x1x1024, .f32⟩
  | .hbm, ⟨5, _⟩ => ⟨S2x147456x512, .bf16⟩
  | .local _ .vmem, ⟨0, _⟩ => ⟨S2x512x256, .i32⟩
  | .local _ .vmem, ⟨1, _⟩ => ⟨S2x512x256, .i32⟩
  | .local _ .vmem, ⟨2, _⟩ => ⟨S1x1x1x2048, .f32⟩
  | .local _ .vmem, ⟨3, _⟩ => ⟨S1x1x1x2048, .f32⟩
  | .local _ .vmem, ⟨4, _⟩ => ⟨S1x1x1x1024, .f32⟩
  | .local _ .vmem, ⟨5, _⟩ => ⟨S1x1x1x1024, .f32⟩
  | .local _ .vmem, ⟨6, _⟩ => ⟨S2x512x512, .bf16⟩
  | .local _ .vmem, ⟨7, _⟩ => ⟨S2x512x512, .bf16⟩
  | .local _ .vmem, ⟨8, _⟩ => ⟨S2x1024x2048, .f32⟩
  | .local _ .vmem, ⟨9, _⟩ => ⟨S2x1024x1024, .f32⟩
  | .local _ .vmem, ⟨10, _⟩ => ⟨S1024x2048, .bf16⟩
  | .local _ .vmem, ⟨11, _⟩ => ⟨S1024x1024, .bf16⟩
  | .local _ .smem, ⟨0, _⟩ => ⟨S288, .i32⟩
  | .local _ .smem, ⟨1, _⟩ => ⟨S288, .i32⟩
  | .local _ .smem, ⟨2, _⟩ => ⟨S288, .i32⟩
  | .local _ .smem, ⟨3, _⟩ => ⟨S288, .i32⟩
  | _, _ => ⟨S2x147456x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![288], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_off2 (v27 : BitVec 32) : Fin 2 → Nat :=
  let c0_i32_11 : BitVec 32 := 0#32
  ![0, v27.toNat]

def k0_off3 (v27 : BitVec 32) : Fin 3 → Nat :=
  let c0_i32_12 : BitVec 32 := 0#32
  let c0_i32_13 : BitVec 32 := 0#32
  ![v27.toNat, 0, 0]
def k0_off4 (v3 : BitVec 32) : Fin 4 → Nat :=
  let c0_i32_10 : BitVec 32 := 0#32
  let c0_i32_14 : BitVec 32 := 0#32
  let c0_i32_15 : BitVec 32 := 0#32
  ![0, v3.toNat, 0, 0]

def k0_off5 (v27 : BitVec 32) : Fin 2 → Nat :=
  let c1_i32_17 : BitVec 32 := 1#32
  ![1, v27.toNat]
def k0_off6 (v27 : BitVec 32) : Fin 3 → Nat :=
  let c0_i32_18 : BitVec 32 := 0#32
  let c0_i32_19 : BitVec 32 := 0#32
  ![v27.toNat, 0, 0]

def k0_chk1 (i : grid0.Coords) (v27 : BitVec 32) : Prop :=
  (∀ (k0_h1 : k0_cond1 i = 1#1), ∀ a, (k0_off2 v27) a + S1x1.size a ≤ S2x2.size a) ∧
  (∀ (k0_h1 : k0_cond1 i = 1#1), ∀ a, (k0_off3 v27) a + S1x1024x2048.size a ≤ S2x1024x2048.size a) ∧
  (∀ (k0_h1 : k0_cond1 i = 1#1), ∀ a, (k0_off5 v27) a + S1x1.size a ≤ S2x2.size a) ∧
  (∀ (k0_h1 : k0_cond1 i = 1#1), ∀ a, (k0_off6 v27) a + S1x1024x1024.size a ≤ S2x1024x1024.size a)
theorem k0_off2_inb : ∀ (i : grid0.Coords) (v27 : BitVec 32) (k0_hw1 : k0_chk1 i v27), ∀ (k0_h1 : k0_cond1 i = 1#1), ∀ a, (k0_off2 v27) a + S1x1.size a ≤ S2x2.size a := fun i v27 k0_hw1 k0_h1 => k0_hw1.1 k0_h1
theorem k0_off3_inb : ∀ (i : grid0.Coords) (v27 : BitVec 32) (k0_hw1 : k0_chk1 i v27), ∀ (k0_h1 : k0_cond1 i = 1#1), ∀ a, (k0_off3 v27) a + S1x1024x2048.size a ≤ S2x1024x2048.size a := fun i v27 k0_hw1 k0_h1 => k0_hw1.2.1 k0_h1
theorem k0_off5_inb : ∀ (i : grid0.Coords) (v27 : BitVec 32) (k0_hw1 : k0_chk1 i v27), ∀ (k0_h1 : k0_cond1 i = 1#1), ∀ a, (k0_off5 v27) a + S1x1.size a ≤ S2x2.size a := fun i v27 k0_hw1 k0_h1 => k0_hw1.2.2.1 k0_h1
theorem k0_off6_inb : ∀ (i : grid0.Coords) (v27 : BitVec 32) (k0_hw1 : k0_chk1 i v27), ∀ (k0_h1 : k0_cond1 i = 1#1), ∀ a, (k0_off6 v27) a + S1x1024x1024.size a ≤ S2x1024x1024.size a := fun i v27 k0_hw1 k0_h1 => k0_hw1.2.2.2 k0_h1

def k0_off7 (v3 : BitVec 32) : Fin 4 → Nat :=
  let c0_i32_16 : BitVec 32 := 0#32
  let c0_i32_20 : BitVec 32 := 0#32
  let c0_i32_21 : BitVec 32 := 0#32
  ![0, v3.toNat, 0, 0]

def k0_chk2 (i : grid0.Coords) (v3 : BitVec 32) : Prop :=
  (∀ (k0_h1 : k0_cond1 i = 1#1), ∀ a, (k0_off4 v3) a + S1x1x1024x2048.size a ≤ S4x32x1024x2048.size a) ∧
  (∀ (k0_h1 : k0_cond1 i = 1#1), ∀ a, (k0_off7 v3) a + S1x1x1024x1024.size a ≤ S4x32x1024x1024.size a)
theorem k0_off4_inb : ∀ (i : grid0.Coords) (v3 : BitVec 32) (k0_hw2 : k0_chk2 i v3), ∀ (k0_h1 : k0_cond1 i = 1#1), ∀ a, (k0_off4 v3) a + S1x1x1024x2048.size a ≤ S4x32x1024x2048.size a := fun i v3 k0_hw2 k0_h1 => k0_hw2.1 k0_h1
theorem k0_off7_inb : ∀ (i : grid0.Coords) (v3 : BitVec 32) (k0_hw2 : k0_chk2 i v3), ∀ (k0_h1 : k0_cond1 i = 1#1), ∀ a, (k0_off7 v3) a + S1x1x1024x1024.size a ≤ S4x32x1024x1024.size a := fun i v3 k0_hw2 k0_h1 => k0_hw2.2 k0_h1

def k0_off8 (i : grid0.Coords) : Fin 1 → Nat :=
  let arg0 : BitVec 32 := BitVec.ofNat 32 (i 0).val
  let c1_i32 : BitVec 32 := 1#32
  let v8 : BitVec 32 := Scalar.subi arg0 c1_i32
  let c0_i32_2 : BitVec 32 := 0#32
  let v9 : BitVec 32 := Scalar.maxsi v8 c0_i32_2
  let v10 : Index := Scalar.indexCast v9
  ![v10.toNat]
def k0_off9 (i : grid0.Coords) : Fin 1 → Nat :=
  let arg0 : BitVec 32 := BitVec.ofNat 32 (i 0).val
  let v27 : Index := Scalar.indexCast arg0
  ![v27.toNat]
def k0_off10 (v28 : BitVec 32) : Fin 2 → Nat :=
  let c0_i32_11 : BitVec 32 := 0#32
  ![0, v28.toNat]
def k0_cond2 (i : grid0.Coords) (v3 : BitVec 32) (v11 : BitVec 32) : BitVec 1 :=
  let arg0 : BitVec 32 := BitVec.ofNat 32 (i 0).val
  let c0_i32_1 : BitVec 32 := 0#32
  let v7 : BitVec 1 := Scalar.cmpi .eq arg0 c0_i32_1
  let v12 : BitVec 1 := Scalar.cmpi .ne v3 v11
  let v13 : BitVec 1 := Scalar.ori v7 v12
  let v14 : BitVec 32 := Scalar.extui v13
  let c0_i32_3 : BitVec 32 := 0#32
  let v15 : BitVec 1 := Scalar.cmpi .ne v14 c0_i32_3
  v15

def k0_off11 (v28 : BitVec 32) : Fin 3 → Nat :=
  let c0_i32_12 : BitVec 32 := 0#32
  let c0_i32_13 : BitVec 32 := 0#32
  ![v28.toNat, 0, 0]
def k0_off12 (v3 : BitVec 32) : Fin 4 → Nat :=
  let c0_i32_10 : BitVec 32 := 0#32
  let c0_i32_14 : BitVec 32 := 0#32
  let c0_i32_15 : BitVec 32 := 0#32
  ![0, v3.toNat, 0, 0]

def k0_off13 (v28 : BitVec 32) : Fin 2 → Nat :=
  let c1_i32_17 : BitVec 32 := 1#32
  ![1, v28.toNat]
def k0_off14 (v28 : BitVec 32) : Fin 3 → Nat :=
  let c0_i32_18 : BitVec 32 := 0#32
  let c0_i32_19 : BitVec 32 := 0#32
  ![v28.toNat, 0, 0]
def k0_off15 (v3 : BitVec 32) : Fin 4 → Nat :=
  let c0_i32_16 : BitVec 32 := 0#32
  let c0_i32_20 : BitVec 32 := 0#32
  let c0_i32_21 : BitVec 32 := 0#32
  ![0, v3.toNat, 0, 0]

def k0_chk4 (i : grid0.Coords) (v3 : BitVec 32) (v11 : BitVec 32) : Prop :=
  (∀ (k0_h2 : k0_cond2 i v3 v11 = 1#1), ∀ a, (k0_off12 v3) a + S1x1x1024x2048.size a ≤ S4x32x1024x2048.size a) ∧
  (∀ (k0_h2 : k0_cond2 i v3 v11 = 1#1), ∀ a, (k0_off15 v3) a + S1x1x1024x1024.size a ≤ S4x32x1024x1024.size a)
theorem k0_off12_inb : ∀ (i : grid0.Coords) (v3 : BitVec 32) (v11 : BitVec 32) (k0_hw4 : k0_chk4 i v3 v11), ∀ (k0_h2 : k0_cond2 i v3 v11 = 1#1), ∀ a, (k0_off12 v3) a + S1x1x1024x2048.size a ≤ S4x32x1024x2048.size a := fun i v3 v11 k0_hw4 k0_h2 => k0_hw4.1 k0_h2
theorem k0_off15_inb : ∀ (i : grid0.Coords) (v3 : BitVec 32) (v11 : BitVec 32) (k0_hw4 : k0_chk4 i v3 v11), ∀ (k0_h2 : k0_cond2 i v3 v11 = 1#1), ∀ a, (k0_off15 v3) a + S1x1x1024x1024.size a ≤ S4x32x1024x1024.size a := fun i v3 v11 k0_hw4 k0_h2 => k0_hw4.2 k0_h2

def k0_off16 (v28 : BitVec 32) : Fin 3 → Nat :=
  let v41 : Index := Scalar.indexCast v28
  let c0 : Index := 0#32
  let c0_22 : Index := 0#32
  ![v41.toNat, 0, 0]
def k0_off17 (v28 : BitVec 32) : Fin 3 → Nat :=
  let v48 : Index := Scalar.indexCast v28
  let c0_25 : Index := 0#32
  let c0_26 : Index := 0#32
  ![v48.toNat, 0, 0]

def k0_chk3 (i : grid0.Coords) (v3 : BitVec 32) (v11 : BitVec 32) (v28 : BitVec 32) : Prop :=
  (∀ (k0_h2 : k0_cond2 i v3 v11 = 1#1), ∀ a, (k0_off10 v28) a + S1x1.size a ≤ S2x2.size a) ∧
  (∀ (k0_h2 : k0_cond2 i v3 v11 = 1#1), ∀ a, (k0_off11 v28) a + S1x1024x2048.size a ≤ S2x1024x2048.size a) ∧
  (∀ (k0_h2 : k0_cond2 i v3 v11 = 1#1), ∀ a, (k0_off13 v28) a + S1x1.size a ≤ S2x2.size a) ∧
  (∀ (k0_h2 : k0_cond2 i v3 v11 = 1#1), ∀ a, (k0_off14 v28) a + S1x1024x1024.size a ≤ S2x1024x1024.size a) ∧
  (∀ (k0_h2 : k0_cond2 i v3 v11 = 1#1), ∀ a, (k0_off16 v28) a + S1x1024x2048.size a ≤ S2x1024x2048.size a) ∧
  (∀ (k0_h2 : k0_cond2 i v3 v11 = 1#1), ∀ a, (k0_off17 v28) a + S1x1024x1024.size a ≤ S2x1024x1024.size a)
theorem k0_off10_inb : ∀ (i : grid0.Coords) (v3 : BitVec 32) (v11 : BitVec 32) (v28 : BitVec 32) (k0_hw3 : k0_chk3 i v3 v11 v28), ∀ (k0_h2 : k0_cond2 i v3 v11 = 1#1), ∀ a, (k0_off10 v28) a + S1x1.size a ≤ S2x2.size a := fun i v3 v11 v28 k0_hw3 k0_h2 => k0_hw3.1 k0_h2
theorem k0_off11_inb : ∀ (i : grid0.Coords) (v3 : BitVec 32) (v11 : BitVec 32) (v28 : BitVec 32) (k0_hw3 : k0_chk3 i v3 v11 v28), ∀ (k0_h2 : k0_cond2 i v3 v11 = 1#1), ∀ a, (k0_off11 v28) a + S1x1024x2048.size a ≤ S2x1024x2048.size a := fun i v3 v11 v28 k0_hw3 k0_h2 => k0_hw3.2.1 k0_h2
theorem k0_off13_inb : ∀ (i : grid0.Coords) (v3 : BitVec 32) (v11 : BitVec 32) (v28 : BitVec 32) (k0_hw3 : k0_chk3 i v3 v11 v28), ∀ (k0_h2 : k0_cond2 i v3 v11 = 1#1), ∀ a, (k0_off13 v28) a + S1x1.size a ≤ S2x2.size a := fun i v3 v11 v28 k0_hw3 k0_h2 => k0_hw3.2.2.1 k0_h2
theorem k0_off14_inb : ∀ (i : grid0.Coords) (v3 : BitVec 32) (v11 : BitVec 32) (v28 : BitVec 32) (k0_hw3 : k0_chk3 i v3 v11 v28), ∀ (k0_h2 : k0_cond2 i v3 v11 = 1#1), ∀ a, (k0_off14 v28) a + S1x1024x1024.size a ≤ S2x1024x1024.size a := fun i v3 v11 v28 k0_hw3 k0_h2 => k0_hw3.2.2.2.1 k0_h2
theorem k0_off16_inb : ∀ (i : grid0.Coords) (v3 : BitVec 32) (v11 : BitVec 32) (v28 : BitVec 32) (k0_hw3 : k0_chk3 i v3 v11 v28), ∀ (k0_h2 : k0_cond2 i v3 v11 = 1#1), ∀ a, (k0_off16 v28) a + S1x1024x2048.size a ≤ S2x1024x2048.size a := fun i v3 v11 v28 k0_hw3 k0_h2 => k0_hw3.2.2.2.2.1 k0_h2
theorem k0_off17_inb : ∀ (i : grid0.Coords) (v3 : BitVec 32) (v11 : BitVec 32) (v28 : BitVec 32) (k0_hw3 : k0_chk3 i v3 v11 v28), ∀ (k0_h2 : k0_cond2 i v3 v11 = 1#1), ∀ a, (k0_off17 v28) a + S1x1024x1024.size a ≤ S2x1024x1024.size a := fun i v3 v11 v28 k0_hw3 k0_h2 => k0_hw3.2.2.2.2.2 k0_h2

def k0_off18 (i : grid0.Coords) : Fin 1 → Nat :=
  let arg0 : BitVec 32 := BitVec.ofNat 32 (i 0).val
  let v55 : Index := Scalar.indexCast arg0
  ![v55.toNat]
def k0_off19 (i : grid0.Coords) : Fin 1 → Nat :=
  let arg0 : BitVec 32 := BitVec.ofNat 32 (i 0).val
  let v60 : Index := Scalar.indexCast arg0
  ![v60.toNat]
def k0_off20 (v28 : BitVec 32) : Fin 2 → Nat :=
  let c0_i32_33 : BitVec 32 := 0#32
  let c1_i32_31 : BitVec 32 := 1#32
  let v62 : BitVec 32 := Scalar.subi c1_i32_31 v28
  ![0, v62.toNat]
def k0_cond3 (v56 : BitVec 32) : BitVec 1 :=
  let c0_i32_29 : BitVec 32 := 0#32
  let v57 : BitVec 1 := Scalar.cmpi .sge v56 c0_i32_29
  let v58 : BitVec 32 := Scalar.extui v57
  let c0_i32_30 : BitVec 32 := 0#32
  let v59 : BitVec 1 := Scalar.cmpi .ne v58 c0_i32_30
  v59

def k0_off21 (v28 : BitVec 32) : Fin 3 → Nat :=
  let c1_i32_31 : BitVec 32 := 1#32
  let v62 : BitVec 32 := Scalar.subi c1_i32_31 v28
  let c0_i32_34 : BitVec 32 := 0#32
  let c0_i32_35 : BitVec 32 := 0#32
  ![v62.toNat, 0, 0]
def k0_off22 (v61 : BitVec 32) : Fin 4 → Nat :=
  let c0_i32_32 : BitVec 32 := 0#32
  let c0_i32_36 : BitVec 32 := 0#32
  let c0_i32_37 : BitVec 32 := 0#32
  ![0, v61.toNat, 0, 0]

def k0_off23 (v28 : BitVec 32) : Fin 2 → Nat :=
  let c1_i32_39 : BitVec 32 := 1#32
  let c1_i32_31 : BitVec 32 := 1#32
  let v62 : BitVec 32 := Scalar.subi c1_i32_31 v28
  ![1, v62.toNat]
def k0_off24 (v28 : BitVec 32) : Fin 3 → Nat :=
  let c1_i32_31 : BitVec 32 := 1#32
  let v62 : BitVec 32 := Scalar.subi c1_i32_31 v28
  let c0_i32_40 : BitVec 32 := 0#32
  let c0_i32_41 : BitVec 32 := 0#32
  ![v62.toNat, 0, 0]

def k0_chk5 (i : grid0.Coords) (v3 : BitVec 32) (v11 : BitVec 32) (v28 : BitVec 32) (v56 : BitVec 32) : Prop :=
  (∀ (k0_h2 : k0_cond2 i v3 v11 = 1#1), ∀ (k0_h3 : k0_cond3 v56 = 1#1), ∀ a, (k0_off20 v28) a + S1x1.size a ≤ S2x2.size a) ∧
  (∀ (k0_h2 : k0_cond2 i v3 v11 = 1#1), ∀ (k0_h3 : k0_cond3 v56 = 1#1), ∀ a, (k0_off21 v28) a + S1x1024x2048.size a ≤ S2x1024x2048.size a) ∧
  (∀ (k0_h2 : k0_cond2 i v3 v11 = 1#1), ∀ (k0_h3 : k0_cond3 v56 = 1#1), ∀ a, (k0_off23 v28) a + S1x1.size a ≤ S2x2.size a) ∧
  (∀ (k0_h2 : k0_cond2 i v3 v11 = 1#1), ∀ (k0_h3 : k0_cond3 v56 = 1#1), ∀ a, (k0_off24 v28) a + S1x1024x1024.size a ≤ S2x1024x1024.size a)
theorem k0_off20_inb : ∀ (i : grid0.Coords) (v3 : BitVec 32) (v11 : BitVec 32) (v28 : BitVec 32) (v56 : BitVec 32) (k0_hw5 : k0_chk5 i v3 v11 v28 v56), ∀ (k0_h2 : k0_cond2 i v3 v11 = 1#1), ∀ (k0_h3 : k0_cond3 v56 = 1#1), ∀ a, (k0_off20 v28) a + S1x1.size a ≤ S2x2.size a := fun i v3 v11 v28 v56 k0_hw5 k0_h2 k0_h3 => k0_hw5.1 k0_h2 k0_h3
theorem k0_off21_inb : ∀ (i : grid0.Coords) (v3 : BitVec 32) (v11 : BitVec 32) (v28 : BitVec 32) (v56 : BitVec 32) (k0_hw5 : k0_chk5 i v3 v11 v28 v56), ∀ (k0_h2 : k0_cond2 i v3 v11 = 1#1), ∀ (k0_h3 : k0_cond3 v56 = 1#1), ∀ a, (k0_off21 v28) a + S1x1024x2048.size a ≤ S2x1024x2048.size a := fun i v3 v11 v28 v56 k0_hw5 k0_h2 k0_h3 => k0_hw5.2.1 k0_h2 k0_h3
theorem k0_off23_inb : ∀ (i : grid0.Coords) (v3 : BitVec 32) (v11 : BitVec 32) (v28 : BitVec 32) (v56 : BitVec 32) (k0_hw5 : k0_chk5 i v3 v11 v28 v56), ∀ (k0_h2 : k0_cond2 i v3 v11 = 1#1), ∀ (k0_h3 : k0_cond3 v56 = 1#1), ∀ a, (k0_off23 v28) a + S1x1.size a ≤ S2x2.size a := fun i v3 v11 v28 v56 k0_hw5 k0_h2 k0_h3 => k0_hw5.2.2.1 k0_h2 k0_h3
theorem k0_off24_inb : ∀ (i : grid0.Coords) (v3 : BitVec 32) (v11 : BitVec 32) (v28 : BitVec 32) (v56 : BitVec 32) (k0_hw5 : k0_chk5 i v3 v11 v28 v56), ∀ (k0_h2 : k0_cond2 i v3 v11 = 1#1), ∀ (k0_h3 : k0_cond3 v56 = 1#1), ∀ a, (k0_off24 v28) a + S1x1024x1024.size a ≤ S2x1024x1024.size a := fun i v3 v11 v28 v56 k0_hw5 k0_h2 k0_h3 => k0_hw5.2.2.2 k0_h2 k0_h3

def k0_off25 (v61 : BitVec 32) : Fin 4 → Nat :=
  let c0_i32_38 : BitVec 32 := 0#32
  let c0_i32_42 : BitVec 32 := 0#32
  let c0_i32_43 : BitVec 32 := 0#32
  ![0, v61.toNat, 0, 0]

def k0_chk6 (i : grid0.Coords) (v3 : BitVec 32) (v11 : BitVec 32) (v56 : BitVec 32) (v61 : BitVec 32) : Prop :=
  (∀ (k0_h2 : k0_cond2 i v3 v11 = 1#1), ∀ (k0_h3 : k0_cond3 v56 = 1#1), ∀ a, (k0_off22 v61) a + S1x1x1024x2048.size a ≤ S4x32x1024x2048.size a) ∧
  (∀ (k0_h2 : k0_cond2 i v3 v11 = 1#1), ∀ (k0_h3 : k0_cond3 v56 = 1#1), ∀ a, (k0_off25 v61) a + S1x1x1024x1024.size a ≤ S4x32x1024x1024.size a)
theorem k0_off22_inb : ∀ (i : grid0.Coords) (v3 : BitVec 32) (v11 : BitVec 32) (v56 : BitVec 32) (v61 : BitVec 32) (k0_hw6 : k0_chk6 i v3 v11 v56 v61), ∀ (k0_h2 : k0_cond2 i v3 v11 = 1#1), ∀ (k0_h3 : k0_cond3 v56 = 1#1), ∀ a, (k0_off22 v61) a + S1x1x1024x2048.size a ≤ S4x32x1024x2048.size a := fun i v3 v11 v56 v61 k0_hw6 k0_h2 k0_h3 => k0_hw6.1 k0_h2 k0_h3
theorem k0_off25_inb : ∀ (i : grid0.Coords) (v3 : BitVec 32) (v11 : BitVec 32) (v56 : BitVec 32) (v61 : BitVec 32) (k0_hw6 : k0_chk6 i v3 v11 v56 v61), ∀ (k0_h2 : k0_cond2 i v3 v11 = 1#1), ∀ (k0_h3 : k0_cond3 v56 = 1#1), ∀ a, (k0_off25 v61) a + S1x1x1024x1024.size a ≤ S4x32x1024x1024.size a := fun i v3 v11 v56 v61 k0_hw6 k0_h2 k0_h3 => k0_hw6.2 k0_h2 k0_h3

def k0_cond4 (v1 : BitVec 32) : BitVec 1 :=
  let c256_i32 : BitVec 32 := 256#32
  let v16 : BitVec 1 := Scalar.cmpi .sgt v1 c256_i32
  let v17 : BitVec 32 := Scalar.extui v16
  let c0_i32_4 : BitVec 32 := 0#32
  let v18 : BitVec 1 := Scalar.cmpi .ne v17 c0_i32_4
  v18

def k0_cond5 (v1 : BitVec 32) : BitVec 1 :=
  let c0_i32_5 : BitVec 32 := 0#32
  let v19 : BitVec 1 := Scalar.cmpi .sgt v1 c0_i32_5
  let c256_i32_6 : BitVec 32 := 256#32
  let v20 : BitVec 1 := Scalar.cmpi .sle v1 c256_i32_6
  let v21 : BitVec 1 := Scalar.andi v19 v20
  let v22 : BitVec 32 := Scalar.extui v21
  let c0_i32_7 : BitVec 32 := 0#32
  let v23 : BitVec 1 := Scalar.cmpi .ne v22 c0_i32_7
  v23

def k0_cond6 (v1 : BitVec 32) : BitVec 1 :=
  let c0_i32_8 : BitVec 32 := 0#32
  let v24 : BitVec 1 := Scalar.cmpi .eq v1 c0_i32_8
  let v25 : BitVec 32 := Scalar.extui v24
  let c0_i32_9 : BitVec 32 := 0#32
  let v26 : BitVec 1 := Scalar.cmpi .ne v25 c0_i32_9
  v26

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x512x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S288 : Shape := ⟨1, ![288]⟩
abbrev S2x147456x256 : Shape := ⟨3, ![2, 147456, 256]⟩
abbrev S4x32x1024x2048 : Shape := ⟨4, ![4, 32, 1024, 2048]⟩
abbrev S4x32x1x2048 : Shape := ⟨4, ![4, 32, 1, 2048]⟩
abbrev S4x32x1024x1024 : Shape := ⟨4, ![4, 32, 1024, 1024]⟩
abbrev S4x32x1x1024 : Shape := ⟨4, ![4, 32, 1, 1024]⟩
abbrev S_ : Shape := ⟨0, ![]⟩
abbrev S1x147456x256 : Shape := ⟨3, ![1, 147456, 256]⟩
abbrev S147456x256 : Shape := ⟨2, ![147456, 256]⟩
abbrev S147456x1024 : Shape := ⟨2, ![147456, 1024]⟩
abbrev S288x512x1024 : Shape := ⟨3, ![288, 512, 1024]⟩
abbrev S1x32x1024x2048 : Shape := ⟨4, ![1, 32, 1024, 2048]⟩
abbrev S32x1024x2048 : Shape := ⟨3, ![32, 1024, 2048]⟩
abbrev S288x1 : Shape := ⟨2, ![288, 1]⟩
abbrev S288x1024x2048 : Shape := ⟨3, ![288, 1024, 2048]⟩
abbrev S288x512x2048 : Shape := ⟨3, ![288, 512, 2048]⟩
abbrev S1x32x1x2048 : Shape := ⟨4, ![1, 32, 1, 2048]⟩
abbrev S32x1x2048 : Shape := ⟨3, ![32, 1, 2048]⟩
abbrev S288x1x2048 : Shape := ⟨3, ![288, 1, 2048]⟩
abbrev S1x32x1024x1024 : Shape := ⟨4, ![1, 32, 1024, 1024]⟩
abbrev S32x1024x1024 : Shape := ⟨3, ![32, 1024, 1024]⟩
abbrev S288x1024x1024 : Shape := ⟨3, ![288, 1024, 1024]⟩
abbrev S1x32x1x1024 : Shape := ⟨4, ![1, 32, 1, 1024]⟩
abbrev S32x1x1024 : Shape := ⟨3, ![32, 1, 1024]⟩
abbrev S288x1x1024 : Shape := ⟨3, ![288, 1, 1024]⟩
abbrev S147456x2x512 : Shape := ⟨3, ![147456, 2, 512]⟩
abbrev S2x147456x512 : Shape := ⟨3, ![2, 147456, 512]⟩

abbrev nBuf : Space → Nat
  | .hbm => 109
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S288, .i32⟩
  | .hbm, ⟨3, _⟩ => ⟨S288, .i32⟩
  | .hbm, ⟨4, _⟩ => ⟨S2x147456x256, .i32⟩
  | .hbm, ⟨5, _⟩ => ⟨S4x32x1024x2048, .f32⟩
  | .hbm, ⟨6, _⟩ => ⟨S4x32x1x2048, .f32⟩
  | .hbm, ⟨7, _⟩ => ⟨S4x32x1024x1024, .f32⟩
  | .hbm, ⟨8, _⟩ => ⟨S4x32x1x1024, .f32⟩
  | .hbm, ⟨9, _⟩ => ⟨S_, .i32⟩
  | .hbm, ⟨10, _⟩ => ⟨S2x147456x256, .i32⟩
  | .hbm, ⟨11, _⟩ => ⟨S2x147456x256, .i32⟩
  | .hbm, ⟨12, _⟩ => ⟨S2x147456x256, .f32⟩
  | .hbm, ⟨13, _⟩ => ⟨S_, .i32⟩
  | .hbm, ⟨14, _⟩ => ⟨S2x147456x256, .i32⟩
  | .hbm, ⟨15, _⟩ => ⟨S2x147456x256, .i32⟩
  | .hbm, ⟨16, _⟩ => ⟨S2x147456x256, .f32⟩
  | .hbm, ⟨17, _⟩ => ⟨S1x147456x256, .f32⟩
  | .hbm, ⟨18, _⟩ => ⟨S147456x256, .f32⟩
  | .hbm, ⟨19, _⟩ => ⟨S1x147456x256, .f32⟩
  | .hbm, ⟨20, _⟩ => ⟨S147456x256, .f32⟩
  | .hbm, ⟨21, _⟩ => ⟨S1x147456x256, .f32⟩
  | .hbm, ⟨22, _⟩ => ⟨S147456x256, .f32⟩
  | .hbm, ⟨23, _⟩ => ⟨S1x147456x256, .f32⟩
  | .hbm, ⟨24, _⟩ => ⟨S147456x256, .f32⟩
  | .hbm, ⟨25, _⟩ => ⟨S147456x1024, .f32⟩
  | .hbm, ⟨26, _⟩ => ⟨S288x512x1024, .f32⟩
  | .hbm, ⟨27, _⟩ => ⟨S1x32x1024x2048, .f32⟩
  | .hbm, ⟨28, _⟩ => ⟨S32x1024x2048, .f32⟩
  | .hbm, ⟨29, _⟩ => ⟨S_, .i32⟩
  | .hbm, ⟨30, _⟩ => ⟨S288, .i32⟩
  | .hbm, ⟨31, _⟩ => ⟨S288, .i1⟩
  | .hbm, ⟨32, _⟩ => ⟨S_, .i32⟩
  | .hbm, ⟨33, _⟩ => ⟨S288, .i32⟩
  | .hbm, ⟨34, _⟩ => ⟨S288, .i32⟩
  | .hbm, ⟨35, _⟩ => ⟨S288, .i32⟩
  | .hbm, ⟨36, _⟩ => ⟨S288x1, .i32⟩
  | .hbm, ⟨37, _⟩ => ⟨S288x1024x2048, .f32⟩
  | .hbm, ⟨38, _⟩ => ⟨S288x512x2048, .f32⟩
  | .hbm, ⟨39, _⟩ => ⟨S1x32x1x2048, .f32⟩
  | .hbm, ⟨40, _⟩ => ⟨S32x1x2048, .f32⟩
  | .hbm, ⟨41, _⟩ => ⟨S_, .i32⟩
  | .hbm, ⟨42, _⟩ => ⟨S288, .i32⟩
  | .hbm, ⟨43, _⟩ => ⟨S288, .i1⟩
  | .hbm, ⟨44, _⟩ => ⟨S_, .i32⟩
  | .hbm, ⟨45, _⟩ => ⟨S288, .i32⟩
  | .hbm, ⟨46, _⟩ => ⟨S288, .i32⟩
  | .hbm, ⟨47, _⟩ => ⟨S288, .i32⟩
  | .hbm, ⟨48, _⟩ => ⟨S288x1, .i32⟩
  | .hbm, ⟨49, _⟩ => ⟨S288x1x2048, .f32⟩
  | .hbm, ⟨50, _⟩ => ⟨S288x512x2048, .f32⟩
  | .hbm, ⟨51, _⟩ => ⟨S288x512x2048, .f32⟩
  | .hbm, ⟨52, _⟩ => ⟨S288x512x1024, .f32⟩
  | .hbm, ⟨53, _⟩ => ⟨S_, .f32⟩
  | .hbm, ⟨54, _⟩ => ⟨S288x512x1024, .f32⟩
  | .hbm, ⟨55, _⟩ => ⟨S288x512x1024, .f32⟩
  | .hbm, ⟨56, _⟩ => ⟨S288x512x1024, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S288x512x1024, .f32⟩
  | .hbm, ⟨61, _⟩ => ⟨S288x512x1024, .f32⟩
  | .hbm, ⟨62, _⟩ => ⟨S_, .f32⟩
  | .hbm, ⟨63, _⟩ => ⟨S288x512x1024, .f32⟩
  | .hbm, ⟨64, _⟩ => ⟨S288x512x1024, .f32⟩
  | .hbm, ⟨65, _⟩ => ⟨S_, .f32⟩
  | .hbm, ⟨66, _⟩ => ⟨S288x512x1024, .f32⟩
  | .hbm, ⟨67, _⟩ => ⟨S288x512x1024, .f32⟩
  | .hbm, ⟨68, _⟩ => ⟨S_, .f32⟩
  | .hbm, ⟨69, _⟩ => ⟨S288x512x1024, .f32⟩
  | .hbm, ⟨70, _⟩ => ⟨S288x512x1024, .f32⟩
  | .hbm, ⟨71, _⟩ => ⟨S288x512x1024, .f32⟩
  | .hbm, ⟨72, _⟩ => ⟨S288x512x1024, .f32⟩
  | .hbm, ⟨73, _⟩ => ⟨S_, .f32⟩
  | .hbm, ⟨74, _⟩ => ⟨S288x512x1024, .f32⟩
  | .hbm, ⟨75, _⟩ => ⟨S288x512x1024, .f32⟩
  | .hbm, ⟨76, _⟩ => ⟨S_, .f32⟩
  | .hbm, ⟨77, _⟩ => ⟨S288x512x1024, .f32⟩
  | .hbm, ⟨78, _⟩ => ⟨S288x512x1024, .f32⟩
  | .hbm, ⟨79, _⟩ => ⟨S288x512x1024, .f32⟩
  | .hbm, ⟨80, _⟩ => ⟨S288x512x1024, .f32⟩
  | .hbm, ⟨81, _⟩ => ⟨S1x32x1024x1024, .f32⟩
  | .hbm, ⟨82, _⟩ => ⟨S32x1024x1024, .f32⟩
  | .hbm, ⟨83, _⟩ => ⟨S_, .i32⟩
  | .hbm, ⟨84, _⟩ => ⟨S288, .i32⟩
  | .hbm, ⟨85, _⟩ => ⟨S288, .i1⟩
  | .hbm, ⟨86, _⟩ => ⟨S_, .i32⟩
  | .hbm, ⟨87, _⟩ => ⟨S288, .i32⟩
  | .hbm, ⟨88, _⟩ => ⟨S288, .i32⟩
  | .hbm, ⟨89, _⟩ => ⟨S288, .i32⟩
  | .hbm, ⟨90, _⟩ => ⟨S288x1, .i32⟩
  | .hbm, ⟨91, _⟩ => ⟨S288x1024x1024, .f32⟩
  | .hbm, ⟨92, _⟩ => ⟨S288x512x1024, .f32⟩
  | .hbm, ⟨93, _⟩ => ⟨S1x32x1x1024, .f32⟩
  | .hbm, ⟨94, _⟩ => ⟨S32x1x1024, .f32⟩
  | .hbm, ⟨95, _⟩ => ⟨S_, .i32⟩
  | .hbm, ⟨96, _⟩ => ⟨S288, .i32⟩
  | .hbm, ⟨97, _⟩ => ⟨S288, .i1⟩
  | .hbm, ⟨98, _⟩ => ⟨S_, .i32⟩
  | .hbm, ⟨99, _⟩ => ⟨S288, .i32⟩
  | .hbm, ⟨100, _⟩ => ⟨S288, .i32⟩
  | .hbm, ⟨101, _⟩ => ⟨S288, .i32⟩
  | .hbm, ⟨102, _⟩ => ⟨S288x1, .i32⟩
  | .hbm, ⟨103, _⟩ => ⟨S288x1x1024, .f32⟩
  | .hbm, ⟨104, _⟩ => ⟨S288x512x1024, .f32⟩
  | .hbm, ⟨105, _⟩ => ⟨S288x512x1024, .f32⟩
  | .hbm, ⟨106, _⟩ => ⟨S147456x2x512, .f32⟩
  | .hbm, ⟨107, _⟩ => ⟨S2x147456x512, .f32⟩
  | .hbm, ⟨108, _⟩ => ⟨S2x147456x512, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_3 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_cst_6 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_13 : Ref sig .tc := ⟨.hbm, 95, rfl⟩
abbrev main_v66 : Ref sig .tc := ⟨.hbm, 96, rfl⟩
abbrev main_v67 : Ref sig .tc := ⟨.hbm, 97, rfl⟩
abbrev main_c_14 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]
-- ==== Kernel3.lean ====
abbrev S32768x512 : Shape := ⟨2, ![32768, 512]⟩
abbrev S32768x3072 : Shape := ⟨2, ![32768, 3072]⟩
abbrev S32768x1024 : Shape := ⟨2, ![32768, 1024]⟩
abbrev S1024x1024 : Shape := ⟨2, ![1024, 1024]⟩
abbrev S512 : Shape := ⟨1, ![512]⟩
abbrev S1024 : Shape := ⟨1, ![1024]⟩
abbrev S1024x32 : Shape := ⟨2, ![1024, 32]⟩
abbrev S32 : Shape := ⟨1, ![32]⟩
abbrev S512x1 : Shape := ⟨2, ![512, 1]⟩
abbrev S1x512 : Shape := ⟨2, ![1, 512]⟩
abbrev S512x512 : Shape := ⟨2, ![512, 512]⟩
abbrev S32x1024 : Shape := ⟨2, ![32, 1024]⟩
abbrev S64x1024 : Shape := ⟨2, ![64, 1024]⟩
abbrev S1x1024 : Shape := ⟨2, ![1, 1024]⟩
abbrev S32x1 : Shape := ⟨2, ![32, 1]⟩
abbrev S2x32768x512 : Shape := ⟨3, ![2, 32768, 512]⟩
abbrev S4x32768 : Shape := ⟨2, ![4, 32768]⟩
abbrev S512x1024 : Shape := ⟨2, ![512, 1024]⟩
abbrev S2x512x512 : Shape := ⟨3, ![2, 512, 512]⟩
abbrev S4x512 : Shape := ⟨2, ![4, 512]⟩
abbrev S512x128 : Shape := ⟨2, ![512, 128]⟩
abbrev S1x512x512 : Shape := ⟨3, ![1, 512, 512]⟩
abbrev S64x512 : Shape := ⟨2, ![64, 512]⟩
abbrev S32x512 : Shape := ⟨2, ![32, 512]⟩

abbrev nBuf : Space → Nat
  | .hbm => 40
  | .vmem => 34
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x3072, .bf16⟩
  | .hbm, ⟨5, _⟩ => ⟨S32768x1024, .f32⟩
  | .hbm, ⟨6, _⟩ => ⟨S1024x1024, .f32⟩
  | .hbm, ⟨7, _⟩ => ⟨S512, .f32⟩
  | .hbm, ⟨8, _⟩ => ⟨S512, .f32⟩
  | .hbm, ⟨9, _⟩ => ⟨S1024, .f32⟩
  | .hbm, ⟨10, _⟩ => ⟨S1024, .f32⟩
  | .hbm, ⟨11, _⟩ => ⟨S1024x32, .f32⟩
  | .hbm, ⟨12, _⟩ => ⟨S32, .f32⟩
  | .hbm, ⟨13, _⟩ => ⟨S512, .i32⟩
  | .hbm, ⟨14, _⟩ => ⟨S512x1, .i32⟩
  | .hbm, ⟨15, _⟩ => ⟨S512, .i32⟩
  | .hbm, ⟨16, _⟩ => ⟨S1x512, .i32⟩
  | .hbm, ⟨17, _⟩ => ⟨S512x512, .i32⟩
  | .hbm, ⟨18, _⟩ => ⟨S512x512, .i32⟩
  | .hbm, ⟨19, _⟩ => ⟨S512x512, .i1⟩
  | .hbm, ⟨20, _⟩ => ⟨S512x512, .bf16⟩
  | .hbm, ⟨21, _⟩ => ⟨S32x1024, .f32⟩
  | .hbm, ⟨22, _⟩ => ⟨S32x1024, .bf16⟩
  | .hbm, ⟨23, _⟩ => ⟨S32x1024, .f32⟩
  | .hbm, ⟨24, _⟩ => ⟨S32x1024, .f32⟩
  | .hbm, ⟨25, _⟩ => ⟨S32x1024, .f32⟩
  | .hbm, ⟨26, _⟩ => ⟨S32x1024, .bf16⟩
  | .hbm, ⟨27, _⟩ => ⟨S64x1024, .bf16⟩
  | .hbm, ⟨28, _⟩ => ⟨S1024x1024, .bf16⟩
  | .hbm, ⟨29, _⟩ => ⟨S1x512, .f32⟩
  | .hbm, ⟨30, _⟩ => ⟨S1x512, .f32⟩
  | .hbm, ⟨31, _⟩ => ⟨S1x1024, .f32⟩
  | .hbm, ⟨32, _⟩ => ⟨S1x1024, .f32⟩
  | .hbm, ⟨33, _⟩ => ⟨S32x1, .f32⟩
  | .hbm, ⟨34, _⟩ => ⟨S32768x1024, .f32⟩
  | .hbm, ⟨35, _⟩ => ⟨S2x32768x512, .bf16⟩
  | .hbm, ⟨36, _⟩ => ⟨S4x32768, .i32⟩
  | .hbm, ⟨37, _⟩ => ⟨S4x32768, .f32⟩
  | .hbm, ⟨38, _⟩ => ⟨S4x32768, .i32⟩
  | .hbm, ⟨39, _⟩ => ⟨S32x1, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1x512, .f32⟩
  | .local _ .vmem, ⟨16, _⟩ => ⟨S1x512, .f32⟩
  | .local _ .vmem, ⟨17, _⟩ => ⟨S1x1024, .f32⟩
  | .local _ .vmem, ⟨18, _⟩ => ⟨S1x1024, .f32⟩
  | .local _ .vmem, ⟨19, _⟩ => ⟨S64x1024, .bf16⟩
  | .local _ .vmem, ⟨20, _⟩ => ⟨S32x1, .f32⟩
  | .local _ .vmem, ⟨21, _⟩ => ⟨S512x512, .bf16⟩
  | .local _ .vmem, ⟨22, _⟩ => ⟨S512x1024, .f32⟩
  | .local _ .vmem, ⟨23, _⟩ => ⟨S512x1024, .f32⟩
  | .local _ .vmem, ⟨24, _⟩ => ⟨S2x512x512, .bf16⟩
  | .local _ .vmem, ⟨25, _⟩ => ⟨S2x512x512, .bf16⟩
  | .local _ .vmem, ⟨26, _⟩ => ⟨S4x512, .i32⟩
  | .local _ .vmem, ⟨27, _⟩ => ⟨S4x512, .i32⟩
  | .local _ .vmem, ⟨28, _⟩ => ⟨S4x512, .f32⟩
  | .local _ .vmem, ⟨29, _⟩ => ⟨S4x512, .f32⟩
  | .local _ .vmem, ⟨30, _⟩ => ⟨S4x512, .i32⟩
  | .local _ .vmem, ⟨31, _⟩ => ⟨S4x512, .i32⟩
  | .local _ .vmem, ⟨32, _⟩ => ⟨S32x1, .f32⟩
  | .local _ .vmem, ⟨33, _⟩ => ⟨S32x1, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev main_v21_2 : Ref sig .tc := ⟨.hbm, 36, rfl⟩
abbrev main_v21_3 : Ref sig .tc := ⟨.hbm, 37, rfl⟩
abbrev main_v21_4 : Ref sig .tc := ⟨.hbm, 38, rfl⟩
abbrev main_v21_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x512 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x512 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S32x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference3Ideal.lean ====
abbrev S32768x512 : Shape := ⟨2, ![32768, 512]⟩
abbrev S32768x3072 : Shape := ⟨2, ![32768, 3072]⟩
abbrev S32768x1024 : Shape := ⟨2, ![32768, 1024]⟩
abbrev S1024x1024 : Shape := ⟨2, ![1024, 1024]⟩
abbrev S512 : Shape := ⟨1, ![512]⟩
abbrev S1024 : Shape := ⟨1, ![1024]⟩
abbrev S1024x32 : Shape := ⟨2, ![1024, 32]⟩
abbrev S32 : Shape := ⟨1, ![32]⟩
abbrev S32768x4x128 : Shape := ⟨3, ![32768, 4, 128]⟩
abbrev S_ : Shape := ⟨0, ![]⟩
abbrev S32768x4 : Shape := ⟨2, ![32768, 4]⟩
abbrev S32768x4x1 : Shape := ⟨3, ![32768, 4, 1]⟩
abbrev S4x128 : Shape := ⟨2, ![4, 128]⟩
abbrev S1x4x128 : Shape := ⟨3, ![1, 4, 128]⟩
abbrev S32768 : Shape := ⟨1, ![32768]⟩
abbrev S32768x1 : Shape := ⟨2, ![32768, 1]⟩
abbrev S1x512 : Shape := ⟨2, ![1, 512]⟩
abbrev S1x1024 : Shape := ⟨2, ![1, 1024]⟩

abbrev nBuf : Space → Nat
  | .hbm => 95
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x3072, .bf16⟩
  | .hbm, ⟨5, _⟩ => ⟨S32768x1024, .f32⟩
  | .hbm, ⟨6, _⟩ => ⟨S1024x1024, .f32⟩
  | .hbm, ⟨7, _⟩ => ⟨S512, .f32⟩
  | .hbm, ⟨8, _⟩ => ⟨S512, .f32⟩
  | .hbm, ⟨9, _⟩ => ⟨S1024, .f32⟩
  | .hbm, ⟨10, _⟩ => ⟨S1024, .f32⟩
  | .hbm, ⟨11, _⟩ => ⟨S1024x32, .f32⟩
  | .hbm, ⟨12, _⟩ => ⟨S32, .f32⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S32768x4x128, .f32⟩
  | .hbm, ⟨17, _⟩ => ⟨S32768x4x128, .f32⟩
  | .hbm, ⟨18, _⟩ => ⟨S_, .f32⟩
  | .hbm, ⟨19, _⟩ => ⟨S32768x4, .f32⟩
  | .hbm, ⟨20, _⟩ => ⟨S32768x4x1, .f32⟩
  | .hbm, ⟨21, _⟩ => ⟨S_, .f32⟩
  | .hbm, ⟨22, _⟩ => ⟨S32768x4x1, .f32⟩
  | .hbm, ⟨23, _⟩ => ⟨S32768x4x1, .f32⟩
  | .hbm, ⟨24, _⟩ => ⟨S_, .f32⟩
  | .hbm, ⟨25, _⟩ => ⟨S32768x4x1, .f32⟩
  | .hbm, ⟨26, _⟩ => ⟨S32768x4x1, .f32⟩
  | .hbm, ⟨27, _⟩ => ⟨S32768x4x1, .f32⟩
  | .hbm, ⟨28, _⟩ => ⟨S32768x4x128, .f32⟩
  | .hbm, ⟨29, _⟩ => ⟨S32768x4x128, .f32⟩
  | .hbm, ⟨30, _⟩ => ⟨S4x128, .f32⟩
  | .hbm, ⟨31, _⟩ => ⟨S1x4x128, .f32⟩
  | .hbm, ⟨32, _⟩ => ⟨S32768x4x128, .f32⟩
  | .hbm, ⟨33, _⟩ => ⟨S32768x4x128, .f32⟩
  | .hbm, ⟨34, _⟩ => ⟨S32768x512, .f32⟩
  | .hbm, ⟨35, _⟩ => ⟨S32768x512, .bf16⟩
  | .hbm, ⟨36, _⟩ => ⟨S32768x512, .f32⟩
  | .hbm, ⟨37, _⟩ => ⟨S32768x512, .f32⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S32768x512, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S32768x1, .f32⟩
  | .hbm, ⟨52, _⟩ => ⟨S32768x512, .f32⟩
  | .hbm, ⟨53, _⟩ => ⟨S32768x512, .f32⟩
  | .hbm, ⟨54, _⟩ => ⟨S1x512, .f32⟩
  | .hbm, ⟨55, _⟩ => ⟨S32768x512, .f32⟩
  | .hbm, ⟨56, _⟩ => ⟨S32768x512, .f32⟩
  | .hbm, ⟨57, _⟩ => ⟨S32768x512, .bf16⟩
  | .hbm, ⟨58, _⟩ => ⟨S32768x512, .f32⟩
  | .hbm, ⟨59, _⟩ => ⟨S32768x512, .f32⟩
  | .hbm, ⟨60, _⟩ => ⟨S32768x1024, .f32⟩
  | .hbm, ⟨61, _⟩ => ⟨S32768x1024, .f32⟩
  | .hbm, ⟨62, _⟩ => ⟨S_, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S_, .f32⟩
  | .hbm, ⟨67, _⟩ => ⟨S32768, .f32⟩
  | .hbm, ⟨68, _⟩ => ⟨S32768x1, .f32⟩
  | .hbm, ⟨69, _⟩ => ⟨S_, .f32⟩
  | .hbm, ⟨70, _⟩ => ⟨S32768x1, .f32⟩
  | .hbm, ⟨71, _⟩ => ⟨S32768x1, .f32⟩
  | .hbm, ⟨72, _⟩ => ⟨S32768x1024, .f32⟩
  | .hbm, ⟨73, _⟩ => ⟨S32768x1024, .f32⟩
  | .hbm, ⟨74, _⟩ => ⟨S32768x1024, .f32⟩
  | .hbm, ⟨75, _⟩ => ⟨S_, .f32⟩
  | .hbm, ⟨76, _⟩ => ⟨S32768, .f32⟩
  | .hbm, ⟨77, _⟩ => ⟨S32768x1, .f32⟩
  | .hbm, ⟨78, _⟩ => ⟨S_, .f32⟩
  | .hbm, ⟨79, _⟩ => ⟨S32768x1, .f32⟩
  | .hbm, ⟨80, _⟩ => ⟨S32768x1, .f32⟩
  | .hbm, ⟨81, _⟩ => ⟨S32768x1024, .f32⟩
  | .hbm, ⟨82, _⟩ => ⟨S32768x1024, .f32⟩
  | .hbm, ⟨83, _⟩ => ⟨S_, .f32⟩
  | .hbm, ⟨84, _⟩ => ⟨S32768x1, .f32⟩
  | .hbm, ⟨85, _⟩ => ⟨S32768x1, .f32⟩
  | .hbm, ⟨86, _⟩ => ⟨S32768x1, .f32⟩
  | .hbm, ⟨87, _⟩ => ⟨S32768x1024, .f32⟩
  | .hbm, ⟨88, _⟩ => ⟨S32768x1024, .f32⟩
  | .hbm, ⟨89, _⟩ => ⟨S1x1024, .f32⟩
  | .hbm, ⟨90, _⟩ => ⟨S32768x1024, .f32⟩
  | .hbm, ⟨91, _⟩ => ⟨S32768x1024, .f32⟩
  | .hbm, ⟨92, _⟩ => ⟨S1x1024, .f32⟩
  | .hbm, ⟨93, _⟩ => ⟨S32768x1024, .f32⟩
  | .hbm, ⟨94, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]
-- ==== Proof.Arith.lean ====
/-
  The word arithmetic of the gather kernel's pipeline, decided once for all its points.

  Thirty-two tasks, `(core, subcore)` with 2 × 16 values, each walk sixteen windows. The pipeline carries five counters
  from trip to trip (windows fetched, windows whose index list was consumed, windows gathered, windows written back, the
  window itself); here are their values at the start of trip `t`, the window each task works on, and what every printed
  offset, condition and check says at those values. All of it is arithmetic of 32-bit words at 512 points, so each
  statement is decided by evaluation.
-/
module

public import proofs.«01_k».proof.Defs
public import proofs.«01_k».proof.Proof.Gen.KernelIdeal
public import proofs.«01_k».proof.Proof.Gen.KernelIdeal.Skeleton

@[expose] public section

noncomputable section

namespace Cert.Proof.Gather

open Cert.KernelIdeal Cert.KernelIdeal.Gen
open Idealize.ShloMosaic

/-- The grid point of the task on subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- The task's number, `16 · core + subcore`. -/
abbrev unit' (L : grid0.Coords) : Nat := 16 * (L 0).val + (L 1).val

/-- Window `t` of the task, one of 512: 128 consecutive rows of the result. -/
def wn (L : grid0.Coords) (t : Nat) : Fin 512 := ⟨(16 * unit' L + t) % 512, Nat.mod_lt _ (by decide)⟩
/-- The slot, one of two, that the `t`-th use of a double buffer takes. -/
def par (t : Nat) : Fin 2 := ⟨t % 2, Nat.mod_lt _ (by decide)⟩

/-- Every grid point is one of the 32. -/
theorem coords_all {P : grid0.Coords → Prop} (h : ∀ c s, P (coordsV c s)) (L : grid0.Coords) : P L := by
  have e : L = coordsV (L 0) (L 1) := by
    funext a; match a with | 0 => rfl | 1 => rfl
  rw [e]; exact h _ _

theorem unit_lt : ∀ L : grid0.Coords, unit' L < 32 := coords_all (by decide +kernel)

/-! ## The counters at the start of trip `t` -/

/-- Windows fetched so far. -/
def A6 (t : Nat) : BitVec 32 := BitVec.ofNat 32 (min (t + 1) 16)
/-- Windows whose list has been consumed, windows gathered. -/
def A7 (t : Nat) : BitVec 32 := BitVec.ofNat 32 t
/-- Windows whose write-back was waited for. -/
def A9 (t : Nat) : BitVec 32 := BitVec.ofNat 32 (t - 1)
/-- The window itself, back at zero after the last. -/
def A10 (t : Nat) : BitVec 32 := BitVec.ofNat 32 (t % 16)
/-- The first window of the task, as the program computes it. -/
def base (L : grid0.Coords) : BitVec 32 := BitVec.ofNat 32 (16 * unit' L)

/-- The five counters together. -/
def args (t : Nat) : BitVec 32 × BitVec 32 × BitVec 32 × BitVec 32 × BitVec 32 := (A6 t, A7 t, A7 t, A9 t, A10 t)

theorem trips_eq : k0_t1_loop.trips = 16 := by decide +kernel

/-! ## Offsets -/

/-- Where window `w`'s index list lies in `dest`: row `w / 64`, 128 columns from `128 · (w % 64)`. -/
abbrev winOff (w : Fin 512) : Fin 2 → Nat := ![w.val / 64, 128 * (w.val % 64)]
/-- Where window `w`'s rows lie in the result. -/
abbrev rowOff (w : Fin 512) : Fin 3 → Nat := ![128 * w.val, 0, 0]

theorem off1_eq : k0_off1 = ![(par 0).val, 0, 0] := by decide +kernel
theorem off3_eq : k0_off3 = ![(par 0).val] := by decide +kernel
theorem off2_eq : ∀ L : grid0.Coords, k0_off2 L = winOff (wn L 0) := coords_all (by decide +kernel)
theorem off4_eq : ∀ t : Fin 16, t.val < 15 → k0_off4 (A6 t.val) = ![(par (t.val + 1)).val, 0, 0] := by decide +kernel
theorem off5_eq : ∀ L : grid0.Coords, ∀ t : Fin 16, t.val < 15 → k0_off5 L (A10 t.val) = winOff (wn L (t.val + 1)) := coords_all (by decide +kernel)
theorem off6_eq : ∀ t : Fin 16, t.val < 15 → k0_off6 (A6 t.val) = ![(par (t.val + 1)).val] := by decide +kernel
theorem off7_eq : ∀ t : Fin 16, k0_off7 (A7 t.val) = ![(par t.val).val, 0, 0] := by decide +kernel
theorem off8_eq : ∀ L : grid0.Coords, ∀ t : Fin 16, k0_off8 L (A10 t.val) = winOff (wn L t.val) := coords_all (by decide +kernel)
theorem off9_eq : ∀ t : Fin 16, k0_off9 (A7 t.val) = ![(par t.val).val] := by decide +kernel
theorem off10_eq : ∀ t : Fin 16, k0_off10 (A7 t.val) = ![(par t.val).val, 0, 0, 0] := by decide +kernel
theorem off11_eq : ∀ t : Fin 16, k0_off11 (A7 t.val) = ![(par t.val).val, 0, 0] := by decide +kernel
theorem off12_eq : ∀ t : Fin 16, k0_off12 (A7 t.val) = ![(par t.val).val, 0, 0, 0] := by decide +kernel
theorem off13_eq : ∀ L : grid0.Coords, ∀ t : Fin 16, k0_off13 L (A10 t.val) = rowOff (wn L t.val) := coords_all (by decide +kernel)
theorem off14_eq : ∀ t : Fin 16, k0_off14 (A7 t.val) = ![(par t.val).val] := by decide +kernel
theorem off15_eq : ∀ t : Fin 16, k0_off15 (A9 t.val) = ![(par (t.val - 1)).val, 0, 0, 0] := by decide +kernel
theorem off16_eq : ∀ L : grid0.Coords, ∀ t : Fin 16, 0 < t.val → k0_off16 L (A10 t.val) = rowOff (wn L (t.val - 1)) := coords_all (by decide +kernel)
theorem off17_eq : ∀ t : Fin 16, k0_off17 (A9 t.val) = ![(par (t.val - 1)).val] := by decide +kernel
theorem off19_eq : ∀ L : grid0.Coords, k0_off19 L (A10 16) = rowOff (wn L 15) := coords_all (by decide +kernel)
theorem off20_eq : k0_off20 (A9 16) = ![(par 15).val] := by decide +kernel
theorem off21_eq : k0_off21 (A9 16) = ![(par 15).val, 0, 0, 0] := by decide +kernel

/-! ## Conditions and checks -/

theorem cond1_eq : ∀ L : grid0.Coords, ∀ t : Fin k0_t1_loop.trips, k0_cond1 L t (A10 t) = if t.val < 15 then 1#1 else 0#1 := coords_all (by decide +kernel)
theorem cond2_eq : ∀ L : grid0.Coords, ∀ t : Fin k0_t1_loop.trips, k0_cond2 L t (A10 t) = 1#1 := coords_all (by decide +kernel)
theorem cond5_eq : ∀ L : grid0.Coords, ∀ t : Fin k0_t1_loop.trips, k0_cond5 L t (A10 t) = 1#1 := coords_all (by decide +kernel)
theorem cond7_eq : ∀ L : grid0.Coords, ∀ t : Fin k0_t1_loop.trips, k0_cond7 L t (A10 t) = if 0 < t.val then 1#1 else 0#1 := coords_all (by decide +kernel)

instance (L : grid0.Coords) (t : Fin k0_t1_loop.trips) (a b c d e : BitVec 32) : Decidable (k0_chk1 L t a b c d e) := k0_chk1.dec L t a b c d e
instance (a : BitVec 32) : Decidable (k0_chk2 a) := k0_chk2.dec a
instance (a : BitVec 32) : Decidable (k0_chk3 a) := k0_chk3.dec a
instance (a : BitVec 32) : Decidable (k0_chk4 a) := k0_chk4.dec a
instance (L : grid0.Coords) (a : BitVec 32) : Decidable (k0_chk5 L a) := k0_chk5.dec L a

theorem chk1_ok : ∀ L : grid0.Coords, ∀ t : Fin k0_t1_loop.trips, k0_chk1 L t (A6 t) (A7 t) (A7 t) (A9 t) (A10 t) := coords_all (by decide +kernel)
theorem chk2_ok : ∀ t : Fin k0_t1_loop.trips, k0_chk2 (A7 t) := by decide +kernel
theorem chk3_ok : ∀ t : Fin k0_t1_loop.trips, k0_chk3 (A7 t) := by decide +kernel
theorem chk4_ok : k0_chk4 (A9 16) := by decide +kernel
theorem chk5_ok : ∀ L : grid0.Coords, k0_chk5 L (A10 16) := coords_all (by decide +kernel)

end Cert.Proof.Gather

end
-- ==== Proof.Setup.lean ====
/-
  The gather kernel as the launch theorem sees it, and the vocabulary of its proof: the buffers, the windows and slots a
  task transfers between, the shares the tasks read at, and the values the result holds.
-/
module

public import proofs.«01_k».proof.Defs
public import proofs.«01_k».proof.Proof.Arith
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev xLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

/-- The rows gathered from, the row numbers, the result, and the two double buffers of a task. -/
abbrev xM : Memref sig .scVector .hbm S294912x2x128 .i32 := Memref.whole main_arg0_scv
abbrev iM : Memref sig .scVector .hbm S8x32768 .i32 := Memref.whole main_arg1_scv
abbrev oM : Memref sig .scVector .hbm S65536x2x128 .i32 := Memref.whole main_v0_scv
abbrev lM : Memref sig .scVector .vmem S2x1x128 .i32 := Memref.whole cc0_scoped0
abbrev rM : Memref sig .scVector .vmem S2x128x2x128 .i32 := Memref.whole cc0_scoped2

abbrev cV (L : grid0.Coords) : Fin τ.nSC := (L 0).castLE hcore0
abbrev jV (L : grid0.Coords) : Fin τ.nSub := (L 1).castLE hsub0
/-- The vector subcore the task at grid point `L` runs on. -/
abbrev thr (d : Dev nD) (L : grid0.Coords) : Thread nD τ := V d (cV L) (jV L)

/-! ## Slots and windows -/

/-- A slot of the index double buffer, at an offset inside it; a slot of the row double buffer; the semaphores of the
    two double buffers; a window of the row numbers; a window of the result. -/
abbrev idxAt (o : Fin 3 → ℕ) (h : ∀ a, o a + S1x1x128.size a ≤ S2x1x128.size a) : Memref sig .scVector .vmem S1x128 .i32 :=
  (lM.slice (Rect.unit (s := S2x1x128) o S1x1x128.size h) (fun _ => rfl)).squeeze S1x128 squeezes_S1x1x128_S1x128
abbrev rowAt (o : Fin 4 → ℕ) (h : ∀ a, o a + S1x128x2x128.size a ≤ S2x128x2x128.size a) : Memref sig .scVector .vmem S128x2x128 .i32 :=
  (rM.slice (Rect.unit (s := S2x128x2x128) o S1x128x2x128.size h) (fun _ => rfl)).squeeze S128x2x128 squeezes_S1x128x2x128_S128x2x128
abbrev semIAt (o : Fin 1 → ℕ) (h : ∀ a, o a + S1.size a ≤ S2.size a) : DmaSem sig :=
  ((cc0_scoped1.slice (Rect.unit (s := S2) o S1.size h)).squeeze S_ squeezes_S1_S_).sem
abbrev semOAt (o : Fin 1 → ℕ) (h : ∀ a, o a + S1.size a ≤ S2.size a) : DmaSem sig :=
  ((cc0_scoped3.slice (Rect.unit (s := S2) o S1.size h)).squeeze S_ squeezes_S1_S_).sem
abbrev winAt (o : Fin 2 → ℕ) (h : ∀ a, o a + S1x128.size a ≤ S8x32768.size a) : Memref sig .scVector .hbm S1x128 .i32 :=
  iM.slice (Rect.unit (s := S8x32768) o S1x128.size h) (fun _ => rfl)
abbrev outAt (o : Fin 3 → ℕ) (h : ∀ a, o a + S128x2x128.size a ≤ S65536x2x128.size a) : Memref sig .scVector .hbm S128x2x128 .i32 :=
  oM.slice (Rect.unit (s := S65536x2x128) o S128x2x128.size h) (fun _ => rfl)

theorem idx_inb : ∀ p : Fin 2, ∀ a, (![p.val, 0, 0] : Fin 3 → ℕ) a + S1x1x128.size a ≤ S2x1x128.size a := by decide
theorem row_inb : ∀ p : Fin 2, ∀ a, (![p.val, 0, 0, 0] : Fin 4 → ℕ) a + S1x128x2x128.size a ≤ S2x128x2x128.size a := by decide
theorem sem_inb : ∀ p : Fin 2, ∀ a, (![p.val] : Fin 1 → ℕ) a + S1.size a ≤ S2.size a := by decide
theorem win_inb : ∀ w : Fin 512, ∀ a, winOff w a + S1x128.size a ≤ S8x32768.size a := by decide +kernel
theorem out_inb : ∀ w : Fin 512, ∀ a, rowOff w a + S128x2x128.size a ≤ S65536x2x128.size a := by decide +kernel

/-- Slot `p` of each double buffer, and window `w` of each array. -/
abbrev idxS (p : Fin 2) := idxAt ![p.val, 0, 0] (idx_inb p)
abbrev rowS (p : Fin 2) := rowAt ![p.val, 0, 0, 0] (row_inb p)
abbrev semI (p : Fin 2) : DmaSem sig := semIAt ![p.val] (sem_inb p)
abbrev semO (p : Fin 2) : DmaSem sig := semOAt ![p.val] (sem_inb p)
abbrev winS (w : Fin 512) := winAt (winOff w) (win_inb w)
abbrev outS (w : Fin 512) := outAt (rowOff w) (out_inb w)
/-- All of the source, as the stream addresses it. -/
abbrev xAll : Memref sig .scVector .hbm S294912x2x128 .i32 :=
  xM.slice (Rect.unit (s := S294912x2x128) ![0, 0, 0] S294912x2x128.size inb_S294912x2x128_S294912x2x128_0_0_0) (fun _ => rfl)
/-- An index slot as the stream's list of 128 row numbers. -/
abbrev listAt (o : Fin 3 → ℕ) (h : ∀ a, o a + S1x1x128.size a ≤ S2x1x128.size a) : Memref sig .scVector .vmem S128 .i32 :=
  ((idxAt o h).slice (Rect.unit (s := S1x128) ![0, 0] S1x128.size inb_S1x128_S1x128_0_0) (fun _ => rfl)).squeeze S128 squeezes_S1x128_S128
abbrev listS (p : Fin 2) := listAt ![p.val, 0, 0] (idx_inb p)

/-! ## The values -/

variable (m : (ℓ : Loc nD τ sig) → Buf (Elt F) ℓ) (d : Dev nD) (L : grid0.Coords)

/-- What the proof asks of the launch memory: every row number names a row of the source. -/
def PreOK : Prop := ∀ (d : Dev nD) (j : S8x32768.Idx), (m (iLoc d) j).toNat < 294912

/-- Where the row number of row `r` of the result lies: row `r / 8192`, column `r % 8192`. -/
def numAt (r : Fin 65536) : S8x32768.Idx
  | 0 => ⟨r.val / 8192, by show r.val / 8192 < 8; omega⟩
  | 1 => ⟨r.val % 8192, by show r.val % 8192 < 32768; omega⟩
  | ⟨_ + 2, h⟩ => absurd h (Nat.not_lt.2 (Nat.le_add_left _ _))

/-- The place in the source that element `z` of the result is read from. -/
def srcAt (z : S65536x2x128.Idx) : S294912x2x128.Idx
  | 0 => ⟨(m (iLoc d) (numAt (z 0))).toNat % 294912, Nat.mod_lt _ (by decide)⟩
  | 1 => z 1
  | 2 => z 2
  | ⟨_ + 3, h⟩ => absurd h (Nat.not_lt.2 (Nat.le_add_left _ _))

/-- The result: row `r` is the source's row numbered at `r`. -/
def G : Buf (Elt F) (oLoc d) := fun z => m (xLoc d) (srcAt m d z)

/-- A list read from window `w`: the 128 row numbers of its rows. -/
abbrev listVal (w : Fin 512) : S1x128.Idx → Elt F .i32 := fun y => m (iLoc d) ((winS w).view.emb y)

/-- The rows of window `w` of the result. -/
abbrev rowVal (w : Fin 512) : S128x2x128.Idx → Elt F .i32 := fun y => G m d ((outS w).view.emb y)

end Cert.Proof.Gather

end
-- ==== Proof.Ops.lean ====
/-
  The gather task's transfers and waits, one lemma each: fetching a window's row numbers into an index slot, the
  indirect gather of the rows they name into a row slot, writing a row slot back to a window of the result, and the
  three waits. Each is stated at the offset the program computes with its value as a hypothesis, and speaks of the slot
  and the window by number.
-/
module

public import proofs.«01_k».proof.Defs
public import proofs.«01_k».proof.Proof.Setup

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

/-! ## What a task holds -/

/-- An index slot, holding anything; holding window `w`'s row numbers. -/
def idxAny (p : Fin 2) : sProp 𝕄 := iprop(∃ f : Buf (Elt F) ((thr d L).loc cc0_scoped0), (idxS p).view.loc (thr d L) ↦[(idxS p).view.set]{fullShare} f)
def idxHas (p : Fin 2) (w : Fin 512) : sProp 𝕄 :=
  iprop(∃ f : Buf (Elt F) ((thr d L).loc cc0_scoped0), ⌜(idxS p).view.read (Elt F) f = listVal m d w⌝ ∗ (idxS p).view.loc (thr d L) ↦[(idxS p).view.set]{fullShare} f)
/-- A row slot, holding anything; holding window `w`'s rows. -/
def rowAny (p : Fin 2) : sProp 𝕄 := iprop(∃ f : Buf (Elt F) ((thr d L).loc cc0_scoped2), (rowS p).view.loc (thr d L) ↦[(rowS p).view.set]{fullShare} f)
def rowHas (p : Fin 2) (w : Fin 512) : sProp 𝕄 :=
  iprop(∃ f : Buf (Elt F) ((thr d L).loc cc0_scoped2), ⌜(rowS p).view.read (Elt F) f = rowVal m d w⌝ ∗ (rowS p).view.loc (thr d L) ↦[(rowS p).view.set]{fullShare} f)
/-- A share of window `w`'s row numbers; a share of the whole source; window `w` of the result. -/
def winPts (q : PosShare TreeShare) (w : Fin 512) : sProp 𝕄 := iLoc d ↦[(winS w).view.set]{q} m (iLoc d)
def srcPts (q : PosShare TreeShare) : sProp 𝕄 := xLoc d ↦{q} m (xLoc d)
def outPts (w : Fin 512) (f : Buf (Elt F) (oLoc d)) : sProp 𝕄 := oLoc d ↦[(outS w).view.set]{fullShare} f

/-- The units a fetch, a gather and a write-back credit their semaphores. -/
abbrev nFetch : ℕ := (idxS 0).view.dmaCredit
abbrev nRows : ℕ := (rowS 0).view.dmaCredit
abbrev nBack : ℕ := (outS 0).view.dmaCredit

/-- Slot `p`'s fetch of window `w`, in flight. -/
def Fetching (q : PosShare TreeShare) (p : Fin 2) (w : Fin 512) : sProp 𝕄 :=
  Transfers.Flight countersEmb (thr d L) (.dma (semI p)) (default : HIx 1) nFetch iprop(idxHas m d L p w ∗ winPts m d q w)
/-- The gather of window `w` into row slot `p`, in flight. -/
def Gathering (q : PosShare TreeShare) (p : Fin 2) (w : Fin 512) : sProp 𝕄 :=
  Transfers.Flight countersEmb (thr d L) (.dma cc0_scoped4.sem) (default : HIx 1) nRows iprop(rowHas m d L p w ∗ srcPts m d q ∗ idxAny d L p)
/-- Row slot `p`'s write-back of window `w`, in flight. -/
def Writing (p : Fin 2) (w : Fin 512) : sProp 𝕄 :=
  Transfers.Flight countersEmb (thr d L) (.dma (semO p)) (default : HIx 1) nBack iprop(outPts d w (G m d) ∗ rowAny d L p)

variable [FloatOps F]

abbrev WP {α : Type} (p : Prog (TpuEff nD τ sig (Elt F) Λ₀ (thr d L).2) α) (Q : α → sProp 𝕄) : sProp 𝕄 :=
  wp frame (wpE (defs₀ (F := F)) 𝒱₀ (thr d L) none) Set.univ p Q

/-- A program that has returned. -/
theorem ret_intro {α : Type} {x : α} {Q : α → sProp 𝕄} : Q x ⊢ WP d L (.ret x) Q := fupd_intro

/-! ## Fetching -/

theorem fetch_run {o : Fin 3 → ℕ} {o₂ : Fin 2 → ℕ} {o₃ : Fin 1 → ℕ} {h₁ : ∀ a, o a + S1x1x128.size a ≤ S2x1x128.size a}
    {h₂ : ∀ a, o₂ a + S1x128.size a ≤ S8x32768.size a} {h₃ : ∀ a, o₃ a + S1.size a ≤ S2.size a}
    (p : Fin 2) (w : Fin 512) (ho : o = ![p.val, 0, 0]) (ho₂ : o₂ = winOff w) (ho₃ : o₃ = ![p.val]) {q : PosShare TreeShare}
    {hs : (winAt o₂ h₂).view.WordExact} {hd : (DmaTarget.here (idxAt o h₁) : DmaTarget nD τ sig (thr d L).2 .vmem S1x128 .i32).view.WordExact}
    {ht : DmaTarget.Typed (nD := nD) (p := (thr d L).2) .hbm (.dma (semIAt o₃ h₃)) (.here (idxAt o h₁))} {Q : PUnit → sProp 𝕄} :
    iprop(winPts m d q w ∗ idxAny d L p ∗ semVal (thr d L, .dma (semI p)) 0 ∗ (Fetching m d L q p w -∗ Q ⟨⟩))
      ⊢ WP d L (Prog.lift (.enqueueDma (winAt o₂ h₂) (.here (idxAt o h₁)) (.dma (semIAt o₃ h₃)) hs hd ht)) Q := by
  subst ho ho₂ ho₃
  unfold winPts idxAny Fetching
  iintro ⟨Hw, ⟨%f, Hi⟩, Hv, Hk⟩
  iapply (Transfers.wp_dmaLocal (src := winS w) (dst := idxS p) (fs := m (iLoc d)) (fd := f) (sm := .dma (semI p)) countersEmb 𝒱₀ (thr d L) none (default : HIx 1) nFetch rfl (by decide) (Finset.Subset.refl _)) $$ [Hw Hi Hv]
  · isplitl [Hw]; · iexact Hw
    isplitl [Hi]; · iexact Hi
    iexact Hv
  iintro Hfl
  iapply (ret_intro d L)
  iapply Hk
  iapply (Transfers.Flight_mono countersEmb (thr d L) ?_) $$ Hfl
  unfold idxHas winPts
  iintro ⟨Hi, Hw⟩
  isplitl [Hi]
  · iexists _
    isplitr
    swap; · iexact Hi
    ipureintro
    rw [View.read_write_univ]
    rfl
  · iexact Hw

theorem fetch_wait {o : Fin 3 → ℕ} {o₃ : Fin 1 → ℕ} {h₁ : ∀ a, o a + S1x1x128.size a ≤ S2x1x128.size a}
    {h₃ : ∀ a, o₃ a + S1.size a ≤ S2.size a} {s' : Shape} {e' : EltTy} {sp' : Space} {srcw : Memref sig (thr d L).2.kind sp' s' e'}
    (p : Fin 2) (w : Fin 512) (ho : o = ![p.val, 0, 0]) (ho₃ : o₃ = ![p.val]) {q : PosShare TreeShare}
    {hs : srcw.view.WordExact} {hd : (idxAt o h₁).view.WordExact} {O : CellTallies nD τ sig (HIx 1)} {W : Waits sig (HIx 1)} {Q : PUnit → sProp 𝕄} :
    iprop(Fetching m d L q p w ∗ owes (thr d L) O W ∗ Transfers.MayWaits (thr d L) (default : HIx 1) O
        ∗ (iprop(idxHas m d L p w ∗ winPts m d q w ∗ semVal (thr d L, .dma (semI p)) 0 ∗ ∃ W', ⌜∀ x ∈ W', x ∈ W ∨ x.2 = none⌝ ∗ owes (thr d L) O W') -∗ Q ⟨⟩))
      ⊢ WP d L (Prog.lift (.waitDma2 (semIAt o₃ h₃) srcw (idxAt o h₁) hs hd)) Q := by
  subst ho ho₃
  unfold Fetching
  iintro ⟨Hfl, HO, Hmw, Hk⟩
  iapply (Transfers.wp_waitLocalO (dstw := idxS p) (hsrc := hs) (hdst := hd) countersEmb 𝒱₀ (thr d L) none (default : HIx 1) (N := nFetch) rfl) $$ [Hfl HO Hmw]
  · isplitl [Hfl]; · iexact Hfl
    isplitl [HO]; · iexact HO
    iapply (Transfers.MayWaits.elim (SemLoc.dma (semI p))) $$ Hmw
  iintro ⟨⟨Hi, Hw⟩, Hv, HO⟩
  iapply (ret_intro d L)
  iapply Hk
  isplitl [Hi]; · iexact Hi
  isplitl [Hw]; · iexact Hw
  isplitl [Hv]; · iexact Hv
  iexists _; isplitr
  swap; · iexact HO
  ipureintro; intro x hx
  rcases Finset.mem_insert.mp hx with hx | hx
  · exact .inr (hx ▸ rfl)
  · exact .inl hx

/-! ## Writing back -/

theorem back_run {o : Fin 4 → ℕ} {o₂ : Fin 3 → ℕ} {o₃ : Fin 1 → ℕ} {h₁ : ∀ a, o a + S1x128x2x128.size a ≤ S2x128x2x128.size a}
    {h₂ : ∀ a, o₂ a + S128x2x128.size a ≤ S65536x2x128.size a} {h₃ : ∀ a, o₃ a + S1.size a ≤ S2.size a}
    (p : Fin 2) (w : Fin 512) (ho : o = ![p.val, 0, 0, 0]) (ho₂ : o₂ = rowOff w) (ho₃ : o₃ = ![p.val]) {g : Buf (Elt F) (oLoc d)}
    {hs : (rowAt o h₁).view.WordExact} {hd : (DmaTarget.here (outAt o₂ h₂) : DmaTarget nD τ sig (thr d L).2 .hbm S128x2x128 .i32).view.WordExact}
    {ht : DmaTarget.Typed (nD := nD) (p := (thr d L).2) .vmem (.dma (semOAt o₃ h₃)) (.here (outAt o₂ h₂))} {Q : PUnit → sProp 𝕄} :
    iprop(rowHas m d L p w ∗ outPts d w g ∗ semVal (thr d L, .dma (semO p)) 0 ∗ (Writing m d L p w -∗ Q ⟨⟩))
      ⊢ WP d L (Prog.lift (.enqueueDma (rowAt o h₁) (.here (outAt o₂ h₂)) (.dma (semOAt o₃ h₃)) hs hd ht)) Q := by
  subst ho ho₂ ho₃
  unfold rowHas outPts Writing
  iintro ⟨⟨%f, %hf, Hr⟩, Ho, Hv, Hk⟩
  iapply (Transfers.wp_dmaLocal (src := rowS p) (dst := outS w) (fs := f) (fd := g) (sm := .dma (semO p)) countersEmb 𝒱₀ (thr d L) none (default : HIx 1) nBack rfl (by decide) (Finset.Subset.refl _)) $$ [Hr Ho Hv]
  · isplitl [Hr]; · iexact Hr
    isplitl [Ho]; · iexact Ho
    iexact Hv
  iintro Hfl
  iapply (ret_intro d L)
  iapply Hk
  iapply (Transfers.Flight_mono countersEmb (thr d L) ?_) $$ Hfl
  unfold rowAny outPts
  iintro ⟨Ho, Hr⟩
  isplitl [Ho]
  · iapply (Entails.of_eq (pointsTo_congr (ℓ := oLoc d) (I := (outS w).view.set) (q := fullShare) (g := G m d) ?_)) $$ Ho
    intro i hi
    obtain ⟨y, -, rfl⟩ := Finset.mem_map.mp hi
    rw [View.write_emb_of_mem _ _ (Finset.mem_univ y)]
    rw [hf]
    rfl
  · iexists f; iexact Hr

theorem back_wait {o₂ : Fin 3 → ℕ} {o₃ : Fin 1 → ℕ} {h₂ : ∀ a, o₂ a + S128x2x128.size a ≤ S65536x2x128.size a}
    {h₃ : ∀ a, o₃ a + S1.size a ≤ S2.size a} {s' : Shape} {e' : EltTy} {sp' : Space} {srcw : Memref sig (thr d L).2.kind sp' s' e'}
    (p : Fin 2) (w : Fin 512) (ho₂ : o₂ = rowOff w) (ho₃ : o₃ = ![p.val])
    {hs : srcw.view.WordExact} {hd : (outAt o₂ h₂).view.WordExact} {O : CellTallies nD τ sig (HIx 1)} {W : Waits sig (HIx 1)} {Q : PUnit → sProp 𝕄} :
    iprop(Writing m d L p w ∗ owes (thr d L) O W ∗ Transfers.MayWaits (thr d L) (default : HIx 1) O
        ∗ (iprop(outPts d w (G m d) ∗ rowAny d L p ∗ semVal (thr d L, .dma (semO p)) 0 ∗ ∃ W', ⌜∀ x ∈ W', x ∈ W ∨ x.2 = none⌝ ∗ owes (thr d L) O W') -∗ Q ⟨⟩))
      ⊢ WP d L (Prog.lift (.waitDma2 (semOAt o₃ h₃) srcw (outAt o₂ h₂) hs hd)) Q := by
  subst ho₂ ho₃
  unfold Writing
  iintro ⟨Hfl, HO, Hmw, Hk⟩
  iapply (Transfers.wp_waitLocalO (dstw := outS w) (hsrc := hs) (hdst := hd) countersEmb 𝒱₀ (thr d L) none (default : HIx 1) (N := nBack) rfl) $$ [Hfl HO Hmw]
  · isplitl [Hfl]; · iexact Hfl
    isplitl [HO]; · iexact HO
    iapply (Transfers.MayWaits.elim (SemLoc.dma (semO p))) $$ Hmw
  iintro ⟨⟨Hi, Hw⟩, Hv, HO⟩
  iapply (ret_intro d L)
  iapply Hk
  isplitl [Hi]; · iexact Hi
  isplitl [Hw]; · iexact Hw
  isplitl [Hv]; · iexact Hv
  iexists _; isplitr
  swap; · iexact HO
  ipureintro; intro x hx
  rcases Finset.mem_insert.mp hx with hx | hx
  · exact .inr (hx ▸ rfl)
  · exact .inl hx

/-! ## The gather -/

/-- Entry `k` of a list, in the window it was read from. -/
def entryAt (k : Fin 128) : S1x128.Idx :=
  (Rect.unit (s := S1x128) ![0, 0] S1x128.size inb_S1x128_S1x128_0_0).emb (Shape.reshapeEquiv squeezes_S1x128_S128.numel_eq (S128.rowMajor.symm (k.cast rfl)))

theorem entryAt_val : ∀ k : Fin 128, (entryAt k 0).val = 0 ∧ (entryAt k 1).val = k.val := by decide +kernel

theorem xAll_set : xAll.view.set = Finset.univ := by
  rw [View.set_slice_whole, ← Rect.map_emb_univ]
  refine Finset.eq_univ_of_forall fun z => Finset.mem_map.mpr ?_
  refine ⟨z, Finset.mem_univ z, ?_⟩
  funext a; apply Fin.ext
  match a with
  | 0 => show 0 + 1 * (z 0).val = (z 0).val; omega
  | 1 => show 0 + 1 * (z 1).val = (z 1).val; omega
  | 2 => show 0 + 1 * (z 2).val = (z 2).val; omega

/-- Entry `k` of window `w`'s list is the row number of row `128 · w + k` of the result. -/
theorem listVal_entry (w : Fin 512) (k : Fin 128) : listVal m d w (entryAt k) = m (iLoc d) (numAt ⟨128 * w.val + k.val, by omega⟩) := by
  unfold listVal
  congr 1
  funext a; apply Fin.ext
  match a with
  | 0 =>
    show w.val / 64 + 1 * (entryAt k 0).val = (128 * w.val + k.val) / 8192
    rw [(entryAt_val k).1]; omega
  | 1 =>
    show 128 * (w.val % 64) + 1 * (entryAt k 1).val = (128 * w.val + k.val) % 8192
    rw [(entryAt_val k).2]; omega

theorem list_inb (hpre : PreOK m) {p : Fin 2} {w : Fin 512} {f : Buf (Elt F) ((thr d L).loc cc0_scoped0)} (hf : (idxS p).view.read (Elt F) f = listVal m d w) :
    ∀ x, ((listS p).view.read (Elt F) f x).toNat < S294912x2x128.size gathers_S294912x2x128_S128x2x128.axis := by
  intro x
  show ((idxS p).view.read (Elt F) f _).toNat < 294912
  rw [hf]
  exact hpre d _

theorem gathered_eq (hpre : PreOK m) {p : Fin 2} {w : Fin 512} {f : Buf (Elt F) ((thr d L).loc cc0_scoped0)} (hf : (idxS p).view.read (Elt F) f = listVal m d w)
    (hn : S128.numel = S128x2x128.size gathers_S294912x2x128_S128x2x128.axis')
    (hin : ∀ x, ((listS p).view.read (Elt F) f x).toNat < S294912x2x128.size gathers_S294912x2x128_S128x2x128.axis) :
    SparseCore.gatherPayload gathers_S294912x2x128_S128x2x128 (xAll.view.read (Elt F) (m (xLoc d))) (SparseCore.rows ((listS p).view.read (Elt F) f) hn hin)
      = rowVal m d w := by
  funext y
  show m (xLoc d) (xAll.view.emb (gathers_S294912x2x128_S128x2x128.idx _ y)) = m (xLoc d) (srcAt m d ((outS w).view.emb y))
  congr 1
  funext a; apply Fin.ext
  match a with
  | 0 =>
    have e : (y 0).val < 128 := (y 0).isLt
    have h0 : numAt ((outS w).view.emb y 0) = numAt ⟨128 * w.val + (y 0).val, by omega⟩ := by
      congr 1; apply Fin.ext
      show 128 * w.val + 1 * (y 0).val = 128 * w.val + (y 0).val
      omega
    show 0 + 1 * (gathers_S294912x2x128_S128x2x128.idx _ y gathers_S294912x2x128_S128x2x128.axis).val = (m (iLoc d) (numAt ((outS w).view.emb y 0))).toNat % 294912
    rw [h0, Nat.mod_eq_of_lt (hpre d _), Shape.Gathers.idx_axis, ← listVal_entry m d w ⟨(y 0).val, e⟩, ← hf, Nat.zero_add, Nat.one_mul]
    rfl
  | 1 =>
    show 0 + 1 * (gathers_S294912x2x128_S128x2x128.idx _ y 1).val = 0 + 1 * (y 1).val
    rw [Shape.Gathers.idx_of_ne _ _ _ _ (by decide)]; rfl
  | 2 =>
    show 0 + 1 * (gathers_S294912x2x128_S128x2x128.idx _ y 2).val = 0 + 1 * (y 2).val
    rw [Shape.Gathers.idx_of_ne _ _ _ _ (by decide)]; rfl

theorem rows_credit : ∀ p : Fin 2, ∀ h : S294912x2x128.Gathers 0 S128x2x128,
    ∑ j, ((rowS p).slice (S128x2x128.rowRect h.axis' j) (S128x2x128.stride_rowRect h.axis' j)).view.dmaCredit = nRows := by decide +kernel

theorem list_set (p : Fin 2) : (listS p).view.set = (idxS p).view.set := by
  show ((((idxS p).view.slice (Rect.unit (s := S1x128) ![0, 0] S1x128.size inb_S1x128_S1x128_0_0))).reshape S128 _).set = _
  rw [View.set_reshape, View.set_slice]
  rw [show (Rect.unit (s := S1x128) ![0, 0] S1x128.size inb_S1x128_S1x128_0_0).set = Finset.univ by decide +kernel]
  rfl

theorem gather_run (hpre : PreOK m) {o : Fin 4 → ℕ} {o₂ : Fin 3 → ℕ} {h₁ : ∀ a, o a + S1x128x2x128.size a ≤ S2x128x2x128.size a}
    {h₂ : ∀ a, o₂ a + S1x1x128.size a ≤ S2x1x128.size a}
    (p : Fin 2) (w : Fin 512) (ho : o = ![p.val, 0, 0, 0]) (ho₂ : o₂ = ![p.val, 0, 0]) {q : PosShare TreeShare}
    {hp : (thr d L).2.kind = .scVector} {hn : S128.numel = S128x2x128.size gathers_S294912x2x128_S128x2x128.axis'}
    {hs : xAll.view.WordExact} {he : EltTy.i32.bits = 32} {hsp : Space.hbm = .hbm ∨ Space.hbm = .shared} {hr : S294912x2x128.StreamRows 0} {Q : PUnit → sProp 𝕄} :
    iprop(srcPts m d q ∗ idxHas m d L p w ∗ rowAny d L p ∗ semVal (thr d L, .dma cc0_scoped4.sem) 0 ∗ (Gathering m d L q p w -∗ Q ⟨⟩))
      ⊢ WP d L (SparseCore.enqueueIndirectGather (p := (thr d L).2) hp xAll (rowAt o h₁) gathers_S294912x2x128_S128x2x128 (listAt o₂ h₂) hn cc0_scoped4.sem hs he hsp hr) Q := by
  subst ho ho₂
  unfold srcPts idxHas rowAny Gathering
  iintro ⟨Hx, ⟨%f, %hf, Hi⟩, ⟨%g, Hr⟩, Hv, Hk⟩
  rw [← bind_pure (SparseCore.enqueueIndirectGather _ _ _ _ _ _ _ _ _ _ _)]
  ihave Hx' := (Entails.of_eq (show (xLoc d ↦{q} m (xLoc d) : sProp 𝕄) = xLoc d ↦[xAll.view.set]{q} m (xLoc d) by rw [xAll_set])) $$ Hx
  ihave Hi' := (Entails.of_eq (show ((idxS p).view.loc (thr d L) ↦[(idxS p).view.set]{fullShare} f : sProp 𝕄)
      = (idxS p).view.loc (thr d L) ↦[(listS p).view.set]{fullShare} f by rw [list_set])) $$ Hi
  iapply (SparseCore.wp_indirectGatherLocal (c := thr d L) (dst := rowS p) (offs := listS p) (src := xAll) (fs := m (xLoc d)) (fo := f) (fd := g) (hg := gathers_S294912x2x128_S128x2x128)
      (hn := hn) (hsrc := hs) (he := he) (hsp := hsp) (hr := hr) (hp := hp) (sem := cc0_scoped4.sem)
      countersEmb 𝒱₀ none (default : HIx 1) nRows (rows_credit p _) (by decide) (list_inb m d L hpre hf)) $$ [Hx' Hr Hi' Hv]
  · isplitl [Hx']; · iexact Hx'
    isplitl [Hr]; · iexact Hr
    isplitl [Hi']; · iexact Hi'
    iexact Hv
  iintro Hfl
  iapply (ret_intro d L)
  iapply Hk
  iapply (Transfers.Flight_mono countersEmb (thr d L) ?_) $$ Hfl
  unfold rowHas srcPts idxAny
  iintro ⟨Hr, Hx, Hi⟩
  isplitl [Hr]
  · iexists _
    isplitr
    swap; · iexact Hr
    ipureintro
    rw [View.read_write_univ]
    exact gathered_eq m d L hpre hf _ _
  isplitl [Hx]
  · iapply (Entails.of_eq (show (xLoc d ↦[xAll.view.set]{q} m (xLoc d) : sProp 𝕄) = xLoc d ↦{q} m (xLoc d) by rw [xAll_set])) $$ Hx
  · iexists f
    iapply (Entails.of_eq (show ((idxS p).view.loc (thr d L) ↦[(listS p).view.set]{fullShare} f : sProp 𝕄)
      = (idxS p).view.loc (thr d L) ↦[(idxS p).view.set]{fullShare} f by rw [list_set])) $$ Hi

theorem gather_wait {o : Fin 4 → ℕ} {h₁ : ∀ a, o a + S1x128x2x128.size a ≤ S2x128x2x128.size a}
    (p : Fin 2) (w : Fin 512) (ho : o = ![p.val, 0, 0, 0]) {q : PosShare TreeShare}
    {hs : xAll.view.WordExact} {hd : (rowAt o h₁).view.WordExact} {O : CellTallies nD τ sig (HIx 1)} {W : Waits sig (HIx 1)} {Q : PUnit → sProp 𝕄} :
    iprop(Gathering m d L q p w ∗ owes (thr d L) O W ∗ Transfers.MayWaits (thr d L) (default : HIx 1) O
        ∗ (iprop(rowHas m d L p w ∗ srcPts m d q ∗ idxAny d L p ∗ semVal (thr d L, .dma cc0_scoped4.sem) 0
            ∗ ∃ W', ⌜∀ x ∈ W', x ∈ W ∨ x.2 = none⌝ ∗ owes (thr d L) O W') -∗ Q ⟨⟩))
      ⊢ WP d L (SparseCore.waitIndirectGather (p := (thr d L).2) cc0_scoped4.sem xAll (rowAt o h₁) hs hd) Q := by
  subst ho
  unfold Gathering SparseCore.waitIndirectGather
  iintro ⟨Hfl, HO, Hmw, Hk⟩
  iapply (Transfers.wp_waitLocalO (dstw := rowS p) (hsrc := hs) (hdst := hd) countersEmb 𝒱₀ (thr d L) none (default : HIx 1) (N := nRows) rfl) $$ [Hfl HO Hmw]
  · isplitl [Hfl]; · iexact Hfl
    isplitl [HO]; · iexact HO
    iapply (Transfers.MayWaits.elim (SemLoc.dma cc0_scoped4.sem)) $$ Hmw
  iintro ⟨⟨Hi, Hx, Hw⟩, Hv, HO⟩
  iapply (ret_intro d L)
  iapply Hk
  isplitl [Hi]; · iexact Hi
  isplitl [Hx]; · iexact Hx
  isplitl [Hw]; · iexact Hw
  isplitl [Hv]; · iexact Hv
  iexists _; isplitr
  swap; · iexact HO
  ipureintro; intro x hx
  rcases Finset.mem_insert.mp hx with hx | hx
  · exact .inr (hx ▸ rfl)
  · exact .inl hx

end Cert.Proof.Gather

end
-- ==== Proof.Trip.lean ====
/-
  One trip of the gather task's pipeline, and its loop.
-/
module

public import proofs.«01_k».proof.Defs
public import proofs.«01_k».proof.Proof.Ops
public import Idealize.SL.BI.BigOpNat

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

/-! ## The loop's invariant -/

/-- A share of all the row numbers, and what is left of it beside window `w`. -/
def numPts (q : PosShare TreeShare) : sProp 𝕄 := iLoc d ↦{q} m (iLoc d)
def winRest (q : PosShare TreeShare) (w : Fin 512) : sProp 𝕄 := iLoc d ↦[Finset.univ \ (winS w).view.set]{q} m (iLoc d)

theorem numPts_split (q : PosShare TreeShare) (w : Fin 512) : numPts m d q ⊣⊢ iprop(winPts m d q w ∗ winRest m d q w) :=
  pointsTo_split_subset (Finset.subset_univ _)

/-- The index slot the coming window's list arrives in. -/
def coming (q : PosShare TreeShare) (t : ℕ) : sProp 𝕄 :=
  if t < 16 then iprop(Fetching m d L q (par t) (wn L t) ∗ winRest m d q (wn L t))
  else iprop(idxAny d L (par t) ∗ semVal (thr d L, .dma (semI (par t))) 0 ∗ numPts m d q)

theorem coming_lt (q : PosShare TreeShare) {t : ℕ} (ht : t < 16) :
    coming m d L q t = iprop(Fetching m d L q (par t) (wn L t) ∗ winRest m d q (wn L t)) := if_pos ht
theorem coming_ge (q : PosShare TreeShare) {t : ℕ} (ht : ¬t < 16) :
    coming m d L q t = iprop(idxAny d L (par t) ∗ semVal (thr d L, .dma (semI (par t))) 0 ∗ numPts m d q) := if_neg ht

/-- The row slot the last window is being written back from. -/
def going (t : ℕ) : sProp 𝕄 :=
  if t = 0 then iprop(rowAny d L (par (t + 1)) ∗ semVal (thr d L, .dma (semO (par (t + 1)))) 0)
  else Writing m d L (par (t + 1)) (wn L (t - 1))

theorem going_zero : going m d L 0 = iprop(rowAny d L (par (0 + 1)) ∗ semVal (thr d L, .dma (semO (par (0 + 1)))) 0) := if_pos rfl
theorem going_pos {t : ℕ} (ht : t ≠ 0) : going m d L t = Writing m d L (par (t + 1)) (wn L (t - 1)) := if_neg ht

/-- At the start of trip `t`: the counters; window `t`'s list on its way; the other index slot, the coming row slot, the
    source and the gather's semaphore idle; the last window's rows on their way out; the windows before it final, the
    windows from `t` on untouched. -/
def Inv (qi : Fin 2 → PosShare TreeShare) (qx : PosShare TreeShare) (O : CellTallies nD τ sig (HIx 1)) (W : Waits sig (HIx 1)) (t : ℕ)
    (acc : BitVec 32 × BitVec 32 × BitVec 32 × BitVec 32 × BitVec 32) : sProp 𝕄 :=
  iprop(⌜acc = args t⌝ ∗ Transfers.MayWaits (thr d L) (default : HIx 1) O ∗ coming m d L (qi (par t)) t
    ∗ (idxAny d L (par (t + 1)) ∗ semVal (thr d L, .dma (semI (par (t + 1)))) 0 ∗ numPts m d (qi (par (t + 1))))
    ∗ (srcPts m d qx ∗ semVal (thr d L, .dma cc0_scoped4.sem) 0)
    ∗ (rowAny d L (par t) ∗ semVal (thr d L, .dma (semO (par t))) 0) ∗ going m d L t
    ∗ (bigSep (Finset.range (t - 1)) fun j => outPts d (wn L j) (G m d)) ∗ (bigSep (Finset.Ico t 16) fun j => outPts d (wn L j) (m (oLoc d)))
    ∗ ∃ W', ⌜∀ x ∈ W', x ∈ W ∨ x.2 = none⌝ ∗ owes (thr d L) O W')

variable [FloatOps F]

/-- A check that holds. -/
theorem assume_run {C : Prop} {dec : Decidable C} {Q : PLift C → sProp 𝕄} (h : C) :
    Q ⟨h⟩ ⊢ WP d L (Prog.lift (TpuEff.assume C dec)) Q := by
  refine BIBase.Entails.trans ?_ (wp_assume 𝒱₀ (thr d L) none Set.univ h)
  exact ret_intro d L (x := (⟨h⟩ : PLift C))

set_option maxRecDepth 65536 in
/-- The fifth part: the next window's list is fetched, if there is a next window. -/
theorem part5_run (t : Fin k0_t1_loop.trips) (qi : PosShare TreeShare) (h : k0_chk1 L t (A6 t.val) (A7 t.val) (A7 t.val) (A9 t.val) (A10 t.val))
    (w₅ w₉₅ w₁₀₀ w₁₀₅ w₁₂₇ w₁₃₈ w₁₅₅ w₁₆₆ : BitVec 32) {Q} :
    iprop((idxAny d L (par (t.val + 1)) ∗ semVal (thr d L, .dma (semI (par (t.val + 1)))) 0 ∗ numPts m d qi)
        ∗ (∀ r, ⌜r.1 = Scalar.select (Scalar.andi (Scalar.andi (Scalar.ori (Scalar.cmpi .ne w₁₂₇ w₁₅₅) (Scalar.cmpi .ne w₁₃₈ w₁₆₆)) (Scalar.xori (Scalar.cmpi .sge w₅ 15#32) 1#1)) 1#1)
              (Scalar.addi (A6 t.val) 1#32) (A6 t.val)⌝ -∗ coming m d L qi (t.val + 1) -∗ Q r))
      ⊢ WP d L (k0_part5_skel (F := F) L xM (Memref.isWhole_whole _) iM (Memref.isWhole_whole _) oM (Memref.isWhole_whole _) lM (Memref.isWhole_whole _)
          cc0_scoped1 rM (Memref.isWhole_whole _) cc0_scoped3 cc0_scoped4 t
          (A6 t.val) (A7 t.val) (A7 t.val) (A9 t.val) (A10 t.val) h w₅ w₉₅ w₁₀₀ w₁₀₅ w₁₂₇ w₁₃₈ w₁₅₅ w₁₆₆) Q := by
  have ht : t.val < 16 := Nat.lt_of_lt_of_eq t.isLt trips_eq
  unfold k0_part5_skel
  by_cases hn : t.val < 15
  · rw [coming_lt m d L _ (by omega : t.val + 1 < 16)]
    dsimp only
    rw [dif_pos (show k0_cond1 L t (A10 t.val) = 1#1 by rw [cond1_eq L t, if_pos hn])]
    simp only [wp_bind, k0_part1_eq_skeleton]
    unfold k0_part1_skel
    iintro ⟨⟨Hi', HsI', Hn'⟩, Hk⟩
    iapply (ret_intro d L)
    icases (numPts_split m d qi (wn L (t.val + 1))).1 $$ Hn' with ⟨Hw', Hrest'⟩
    iapply (fetch_run m d L (par (t.val + 1)) (wn L (t.val + 1)) (off4_eq ⟨t.val, ht⟩ hn) (off5_eq L ⟨t.val, ht⟩ hn) (off6_eq ⟨t.val, ht⟩ hn) (q := qi))
    isplitl [Hw']; · iexact Hw'
    isplitl [Hi']; · iexact Hi'
    isplitl [HsI']; · iexact HsI'
    iintro Hfetch'
    iapply (ret_intro d L)
    iapply Hk
    · ipureintro; rfl
    isplitl [Hfetch']; · iexact Hfetch'
    iexact Hrest'
  · rw [coming_ge m d L _ (by omega : ¬t.val + 1 < 16)]
    dsimp only
    rw [dif_neg (show ¬k0_cond1 L t (A10 t.val) = 1#1 by rw [cond1_eq L t, if_neg hn]; decide)]
    iintro ⟨Hp, Hk⟩
    iapply (ret_intro d L)
    iapply Hk
    · ipureintro; rfl
    iexact Hp

set_option maxRecDepth 65536 in
/-- The sixth part: this window's list is waited for, and the gather of the rows it names started. -/
theorem part6_run (hpre : PreOK m) (t : Fin k0_t1_loop.trips) (qi qx : PosShare TreeShare) (O : CellTallies nD τ sig (HIx 1)) (W : Waits sig (HIx 1))
    (h₃ : k0_chk3 (A7 t.val)) (h₂ : k0_chk2 (A7 t.val)) (h : k0_chk1 L t (A6 t.val) (A7 t.val) (A7 t.val) (A9 t.val) (A10 t.val))
    (w₅ : BitVec 32) (w₉₃ : BitVec 1) (w₉₅ w₁₀₀ w₁₂₇ w₁₃₈ w₁₉₉ w₂₀₁ w₂₀₂ : BitVec 32) (w₂₀₃ w₂₀₄ : BitVec 1) (z : BitVec 32) {Q} :
    iprop((Transfers.MayWaits (thr d L) (default : HIx 1) O ∗ coming m d L qi t.val ∗ srcPts m d qx ∗ rowAny d L (par t.val) ∗ semVal (thr d L, .dma cc0_scoped4.sem) 0
          ∗ ∃ W', ⌜∀ x ∈ W', x ∈ W ∨ x.2 = none⌝ ∗ owes (thr d L) O W')
        ∗ (∀ r, Gathering m d L qx (par t.val) (wn L t.val) -∗ numPts m d qi -∗ semVal (thr d L, .dma (semI (par t.val))) 0
          -∗ (∃ W', ⌜∀ x ∈ W', x ∈ W ∨ x.2 = none⌝ ∗ owes (thr d L) O W') -∗ Q r))
      ⊢ WP d L (k0_part6_skel (F := F) L xM (Memref.isWhole_whole _) iM (Memref.isWhole_whole _) oM (Memref.isWhole_whole _) lM (Memref.isWhole_whole _)
          cc0_scoped1 rM (Memref.isWhole_whole _) cc0_scoped3 cc0_scoped4 t
          (A6 t.val) (A7 t.val) (A7 t.val) (A9 t.val) (A10 t.val) h₃ h₂ h w₅ w₉₃ w₉₅ w₁₀₀ w₁₂₇ w₁₃₈ w₁₉₉ w₂₀₁ w₂₀₂ w₂₀₃ w₂₀₄ z) Q := by
  have ht : t.val < 16 := Nat.lt_of_lt_of_eq t.isLt trips_eq
  unfold k0_part6_skel
  rw [coming_lt m d L _ ht]
  dsimp only
  rw [dif_pos (cond2_eq L t)]
  simp only [ite_self, wp_bind, k0_part2_eq_skeleton]
  unfold k0_part2_skel
  iintro ⟨⟨#Hmw, ⟨Hf, Hrest⟩, Hx, Hr, HsG, ⟨%W₁, %hW₁, HO⟩⟩, Hk⟩
  iapply (ret_intro d L)
  iapply (fetch_wait m d L (par t.val) (wn L t.val) (off7_eq ⟨t.val, ht⟩) (off9_eq ⟨t.val, ht⟩) (q := qi) (O := O) (W := W₁))
  isplitl [Hf]; · iexact Hf
  isplitl [HO]; · iexact HO
  isplitr; · iexact Hmw
  iintro ⟨Hi, Hw, HsI, ⟨%W₂, %hW₂, HO⟩⟩
  iapply (gather_run m d L hpre (par t.val) (wn L t.val) (off10_eq ⟨t.val, ht⟩) (off11_eq ⟨t.val, ht⟩) (q := qx))
  isplitl [Hx]; · iexact Hx
  isplitl [Hi]; · iexact Hi
  isplitl [Hr]; · iexact Hr
  isplitl [HsG]; · iexact HsG
  iintro Hg
  iapply (ret_intro d L)
  iapply Hk $$ Hg [Hw Hrest] HsI [HO]
  · iapply (numPts_split m d qi (wn L t.val)).2
    isplitl [Hw]; · iexact Hw
    iexact Hrest
  iexists W₂; isplitr; · ipureintro; exact fun x hx => (hW₂ x hx).elim (hW₁ x) .inr
  iexact HO

set_option maxRecDepth 65536 in
/-- The seventh part: the gather is waited for, its rows start on their way out, and the window before is waited for, if
    there was one. -/
theorem part7_run (t : Fin k0_t1_loop.trips) (qx : PosShare TreeShare) (O : CellTallies nD τ sig (HIx 1)) (W : Waits sig (HIx 1))
    (h₃ : k0_chk3 (A7 t.val)) (h₂ : k0_chk2 (A7 t.val)) (h : k0_chk1 L t (A6 t.val) (A7 t.val) (A7 t.val) (A9 t.val) (A10 t.val))
    (w₉₃ w₉₄ : BitVec 1) (w₉₅ w₁₀₀ w₁₀₅ w₁₂₇ w₁₃₈ w₁₅₅ w₁₆₆ w₁₉₉ w₂₁₀ : BitVec 32) {Q} :
    iprop((Transfers.MayWaits (thr d L) (default : HIx 1) O ∗ Gathering m d L qx (par t.val) (wn L t.val) ∗ outPts d (wn L t.val) (m (oLoc d))
          ∗ semVal (thr d L, .dma (semO (par t.val))) 0 ∗ going m d L t.val ∗ (bigSep (Finset.range (t.val - 1)) fun j => outPts d (wn L j) (G m d)) ∗ ∃ W', ⌜∀ x ∈ W', x ∈ W ∨ x.2 = none⌝ ∗ owes (thr d L) O W')
        ∗ (∀ r, ⌜r.1 = Scalar.select (Scalar.andi (Scalar.ori (Scalar.cmpi .ne w₉₅ w₁₀₅) w₉₄) 1#1) (Scalar.addi (A7 t.val) 1#32) (A7 t.val)
            ∧ r.2.1 = Scalar.select (Scalar.andi (Scalar.andi (Scalar.cmpi .ne w₉₅ w₁₀₀) (Scalar.xori w₉₃ 1#1)) 1#1) (Scalar.addi (A9 t.val) 1#32) (A9 t.val)
            ∧ r.2.2.1 = Scalar.select (Scalar.ori (Scalar.ori (Scalar.cmpi .ne w₁₂₇ w₁₅₅) (Scalar.cmpi .ne w₁₃₈ w₁₆₆)) w₉₄) (Scalar.addi (A7 t.val) 1#32) (A7 t.val)
            ∧ r.2.2.2 = 1#32⌝
          -∗ srcPts m d qx -∗ idxAny d L (par t.val) -∗ semVal (thr d L, .dma cc0_scoped4.sem) 0 -∗ Writing m d L (par t.val) (wn L t.val)
          -∗ (rowAny d L (par (t.val + 1)) ∗ semVal (thr d L, .dma (semO (par (t.val + 1)))) 0)
          -∗ (bigSep (Finset.range t.val) fun j => outPts d (wn L j) (G m d)) -∗ (∃ W', ⌜∀ x ∈ W', x ∈ W ∨ x.2 = none⌝ ∗ owes (thr d L) O W') -∗ Q r))
      ⊢ WP d L (k0_part7_skel (F := F) L xM (Memref.isWhole_whole _) iM (Memref.isWhole_whole _) oM (Memref.isWhole_whole _) lM (Memref.isWhole_whole _)
          cc0_scoped1 rM (Memref.isWhole_whole _) cc0_scoped3 cc0_scoped4 t
          (A6 t.val) (A7 t.val) (A7 t.val) (A9 t.val) (A10 t.val) h₃ h₂ h w₉₃ w₉₄ w₉₅ w₁₀₀ w₁₀₅ w₁₂₇ w₁₃₈ w₁₅₅ w₁₆₆ w₁₉₉ w₂₁₀) Q := by
  have ht : t.val < 16 := Nat.lt_of_lt_of_eq t.isLt trips_eq
  unfold k0_part7_skel
  dsimp only
  rw [dif_pos (cond5_eq L t)]
  by_cases hz : 0 < t.val
  · have hb : (bigSep (Finset.range t.val) fun j => outPts d (wn L j) (G m d)) = iprop(outPts d (wn L (t.val - 1)) (G m d) ∗ bigSep (Finset.range (t.val - 1)) fun j => outPts d (wn L j) (G m d)) := by
      conv_lhs => rw [show t.val = t.val - 1 + 1 by omega]
      exact bigSep_range_succ _ _
    have hp : par (t.val - 1) = par (t.val + 1) := by apply Fin.ext; show (t.val - 1) % 2 = (t.val + 1) % 2; omega
    rw [going_pos m d L (by omega), hb, dif_pos (show k0_cond7 L t (A10 t.val) = 1#1 by rw [cond7_eq L t, if_pos hz])]
    simp only [ite_self, wp_bind]
    iintro ⟨⟨#Hmw, Hg, Ho, HsO, Hgo, Hdone, ⟨%W₁, %hW₁, HO⟩⟩, Hk⟩
    iapply (gather_wait m d L (par t.val) (wn L t.val) (off10_eq ⟨t.val, ht⟩) (q := qx) (O := O) (W := W₁))
    isplitl [Hg]; · iexact Hg
    isplitl [HO]; · iexact HO
    isplitr; · iexact Hmw
    iintro ⟨Hr, Hx, Hi, HsG, ⟨%W₂, %hW₂, HO⟩⟩
    iapply (back_run m d L (par t.val) (wn L t.val) (off12_eq ⟨t.val, ht⟩) (off13_eq L ⟨t.val, ht⟩) (off14_eq ⟨t.val, ht⟩))
    isplitl [Hr]; · iexact Hr
    isplitl [Ho]; · iexact Ho
    isplitl [HsO]; · iexact HsO
    iintro Hwr
    iapply (back_wait m d L (par (t.val + 1)) (wn L (t.val - 1)) (off16_eq L ⟨t.val, ht⟩ hz) (hp ▸ off17_eq ⟨t.val, ht⟩) (O := O) (W := W₂))
    isplitl [Hgo]; · iexact Hgo
    isplitl [HO]; · iexact HO
    isplitr; · iexact Hmw
    iintro ⟨Ho, Hr, HsO, ⟨%W₃, %hW₃, HO⟩⟩
    iapply (ret_intro d L)
    iapply Hk $$ %⟨_, _, _, _⟩ [] Hx Hi HsG Hwr [Hr HsO] [Hdone Ho] [HO]
    · ipureintro; exact ⟨rfl, rfl, rfl, rfl⟩
    · isplitl [Hr]; · iexact Hr
      iexact HsO
    · isplitl [Ho]; · iexact Ho
      iexact Hdone
    iexists W₃; isplitr; · ipureintro; exact fun x hx => (hW₃ x hx).elim (fun hx => (hW₂ x hx).elim (hW₁ x) .inr) .inr
    iexact HO
  · have hz0 : t.val = 0 := by omega
    have hg : going m d L t.val = iprop(rowAny d L (par (t.val + 1)) ∗ semVal (thr d L, .dma (semO (par (t.val + 1)))) 0) := if_pos hz0
    rw [hg, dif_neg (show ¬k0_cond7 L t (A10 t.val) = 1#1 by rw [cond7_eq L t, if_neg hz]; decide)]
    simp only [ite_self, wp_bind]
    iintro ⟨⟨#Hmw, Hg, Ho, HsO, Hgo, Hdone, ⟨%W₁, %hW₁, HO⟩⟩, Hk⟩
    iapply (gather_wait m d L (par t.val) (wn L t.val) (off10_eq ⟨t.val, ht⟩) (q := qx) (O := O) (W := W₁))
    isplitl [Hg]; · iexact Hg
    isplitl [HO]; · iexact HO
    isplitr; · iexact Hmw
    iintro ⟨Hr, Hx, Hi, HsG, ⟨%W₂, %hW₂, HO⟩⟩
    iapply (back_run m d L (par t.val) (wn L t.val) (off12_eq ⟨t.val, ht⟩) (off13_eq L ⟨t.val, ht⟩) (off14_eq ⟨t.val, ht⟩))
    isplitl [Hr]; · iexact Hr
    isplitl [Ho]; · iexact Ho
    isplitl [HsO]; · iexact HsO
    iintro Hwr
    iapply (ret_intro d L)
    iapply Hk $$ %⟨_, _, _, _⟩ [] Hx Hi HsG Hwr Hgo [Hdone] [HO]
    · ipureintro; exact ⟨rfl, rfl, rfl, rfl⟩
    · iapply (Entails.of_eq (show (bigSep (Finset.range (t.val - 1)) fun j => outPts d (wn L j) (G m d)) = (bigSep (Finset.range t.val) fun j => outPts d (wn L j) (G m d)) by rw [hz0])) $$ Hdone
    iexists W₂; isplitr; · ipureintro; exact fun x hx => (hW₂ x hx).elim (hW₁ x) .inr
    iexact HO

set_option maxRecDepth 65536 in
/-- One trip keeps the invariant. -/
theorem trip (hpre : PreOK m) (qi : Fin 2 → PosShare TreeShare) (qx : PosShare TreeShare) (O : CellTallies nD τ sig (HIx 1)) (W : Waits sig (HIx 1))
    (v7 c64 v22 : BitVec 32) (v33 : BitVec 1) (t : Fin k0_t1_loop.trips) (acc : BitVec 32 × BitVec 32 × BitVec 32 × BitVec 32 × BitVec 32) :
    Inv m d L qi qx O W t.val acc
      ⊢ WP d L (k0_t1_body (F := F) L xM (Memref.isWhole_whole _) iM (Memref.isWhole_whole _) oM (Memref.isWhole_whole _) lM (Memref.isWhole_whole _)
          cc0_scoped1 rM (Memref.isWhole_whole _) cc0_scoped3 cc0_scoped4 (base L) v7 c64 v22 v33 t acc) (Inv m d L qi qx O W (t.val + 1)) := by
  have ht : t.val < 16 := Nat.lt_of_lt_of_eq t.isLt trips_eq
  unfold Inv
  rw [show (bigSep (Finset.Ico t.val 16) fun j => outPts d (wn L j) (m (oLoc d)))
      = iprop(outPts d (wn L t.val) (m (oLoc d)) ∗ bigSep (Finset.Ico (t.val + 1) 16) fun j => outPts d (wn L j) (m (oLoc d))) from bigSep_Ico_succ_bot ht _]
  have hp2 : par (t.val + 1 + 1) = par t.val := by apply Fin.ext; show (t.val + 1 + 1) % 2 = t.val % 2; omega
  rw [hp2, going_pos m d L (by omega : t.val + 1 ≠ 0), hp2, Nat.add_sub_cancel]
  iintro ⟨%hacc, #Hmw, Hcoming, Hnext, ⟨Hx, HsG⟩, ⟨Hr, HsO⟩, Hgoing, Hdone, ⟨Ho, Htodo⟩, HO⟩
  subst hacc
  unfold k0_t1_body args
  simp only [k0_part3_eq_skeleton, k0_part4_eq_skeleton, k0_part5_eq_skeleton, k0_part6_eq_skeleton, k0_part7_eq_skeleton]
  unfold k0_part3_skel
  simp only [wp_bind, bind_assoc]
  iapply (assume_run d L (chk3_ok t))
  iapply (assume_run d L (chk2_ok t))
  iapply (assume_run d L (chk1_ok L t))
  unfold k0_part4_skel
  simp only [wp_bind]
  iapply (ret_intro d L)
  iapply (ret_intro d L)
  iapply (part5_run m d L t (qi (par (t.val + 1))))
  isplitl [Hnext]; · iexact Hnext
  iintro %r₅ %hr₅ Hcoming'
  iapply (part6_run m d L hpre t (qi (par t.val)) qx O W)
  isplitl [Hcoming Hx Hr HsG HO]
  · isplitr; · iexact Hmw
    isplitl [Hcoming]; · iexact Hcoming
    isplitl [Hx]; · iexact Hx
    isplitl [Hr]; · iexact Hr
    isplitl [HsG]; · iexact HsG
    iexact HO
  iintro %r₆ Hg Hn HsI HO
  iapply (part7_run m d L t qx O W)
  isplitl [Hg Ho HsO Hgoing Hdone HO]
  · isplitr; · iexact Hmw
    isplitl [Hg]; · iexact Hg
    isplitl [Ho]; · iexact Ho
    isplitl [HsO]; · iexact HsO
    isplitl [Hgoing]; · iexact Hgoing
    isplitl [Hdone]; · iexact Hdone
    iexact HO
  iintro %r₇ %hr₇ Hx Hi HsG Hwr Hr Hdone HO
  iapply (ret_intro d L)
  isplitr
  · ipureintro
    obtain ⟨h₁, h₂, h₃, h₄⟩ := hr₇
    rw [hr₅, h₁, h₂, h₃, h₄]
    clear * -
    revert t
    revert L
    exact coords_all (by decide +kernel)
  isplitr; · iexact Hmw
  isplitl [Hcoming']; · iexact Hcoming'
  isplitl [Hi HsI Hn]
  · isplitl [Hi]; · iexact Hi
    isplitl [HsI]; · iexact HsI
    iexact Hn
  isplitl [Hx HsG]
  · isplitl [Hx]; · iexact Hx
    iexact HsG
  isplitl [Hr]; · iexact Hr
  isplitl [Hwr]; · iexact Hwr
  isplitl [Hdone]; · iexact Hdone
  isplitl [Htodo]; · iexact Htodo
  iexact HO

end Cert.Proof.Gather

end
-- ==== Proof.Tile.lean ====
/-
  The whole of a gather task: the first fetch, the loop, the last write-back's wait; and what the task owns around it.
-/
module

public import proofs.«01_k».proof.Defs
public import proofs.«01_k».proof.Proof.Trip
public import Idealize.SL.BI.BigOpNat

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

variable [FloatOps F]

/-! ## The task, from its resources taken apart -/

/-- The word the program computes for the task's first window. -/
theorem base_eq : ∀ L : grid0.Coords,
    Scalar.muli (Scalar.addi (Scalar.addi 0#32 (Scalar.muli (BitVec.ofNat 32 (L 1).val) 1#32)) (Scalar.muli (BitVec.ofNat 32 (L 0).val) 16#32)) 16#32 = base L :=
  coords_all (by decide +kernel)

/-- What a task reads and writes: its shares of the row numbers, one per slot; of the source; its sixteen windows. -/
def taskRes (qi : Fin 2 → PosShare TreeShare) (qx : PosShare TreeShare) (f : Buf (Elt F) (oLoc d)) : sProp 𝕄 :=
  iprop(numPts m d (qi 0) ∗ numPts m d (qi 1) ∗ srcPts m d qx ∗ bigSep (Finset.range 16) fun j => outPts d (wn L j) f)

/-- The slots and semaphores of a task, idle. -/
def idle : sProp 𝕄 :=
  iprop(idxAny d L 0 ∗ idxAny d L 1 ∗ rowAny d L 0 ∗ rowAny d L 1 ∗ semVal (thr d L, .dma (semI 0)) 0 ∗ semVal (thr d L, .dma (semI 1)) 0
    ∗ semVal (thr d L, .dma (semO 0)) 0 ∗ semVal (thr d L, .dma (semO 1)) 0 ∗ semVal (thr d L, .dma cc0_scoped4.sem) 0)

theorem inv_start (qi : Fin 2 → PosShare TreeShare) (qx : PosShare TreeShare) (O : CellTallies nD τ sig (HIx 1)) (W : Waits sig (HIx 1)) :
    iprop(Transfers.MayWaits (thr d L) (default : HIx 1) O ∗ Fetching m d L (qi 0) 0 (wn L 0) ∗ winRest m d (qi 0) (wn L 0) ∗ numPts m d (qi 1) ∗ srcPts m d qx
        ∗ (bigSep (Finset.range 16) fun j => outPts d (wn L j) (m (oLoc d)))
        ∗ idxAny d L 1 ∗ rowAny d L 0 ∗ rowAny d L 1 ∗ semVal (thr d L, .dma (semI 1)) 0 ∗ semVal (thr d L, .dma (semO 0)) 0 ∗ semVal (thr d L, .dma (semO 1)) 0
        ∗ semVal (thr d L, .dma cc0_scoped4.sem) 0 ∗ owes (thr d L) O W)
      ⊢ Inv m d L qi qx O W 0 (Scalar.addi 0#32 1#32, 0#32, 0#32, 0#32, 0#32) := by
  unfold Inv
  rw [coming_lt m d L _ (by decide : 0 < 16), going_zero, Finset.range_eq_Ico]
  iintro ⟨Hmw, Hf, Hrest, Hn1, Hx, Hout, Hi1, Hr0, Hr1, HsI1, HsO0, HsO1, HsG, HO⟩
  isplitr; · ipureintro; decide
  isplitl [Hmw]; · iexact Hmw
  isplitl [Hf Hrest]
  · isplitl [Hf]; · iexact Hf
    iexact Hrest
  isplitl [Hi1 HsI1 Hn1]
  · isplitl [Hi1]; · iexact Hi1
    isplitl [HsI1]; · iexact HsI1
    iexact Hn1
  isplitl [Hx HsG]
  · isplitl [Hx]; · iexact Hx
    iexact HsG
  isplitl [Hr0 HsO0]
  · isplitl [Hr0]; · iexact Hr0
    iexact HsO0
  isplitl [Hr1 HsO1]
  · isplitl [Hr1]; · iexact Hr1
    iexact HsO1
  isplitr
  · rw [show Finset.range (0 - 1) = ∅ from rfl, bigSep_empty]; iempintro
  isplitl [Hout]; · iexact Hout
  iexists W; isplitr; · ipureintro; exact fun x hx => .inl hx
  iexact HO

theorem inv_end (qi : Fin 2 → PosShare TreeShare) (qx : PosShare TreeShare) (O : CellTallies nD τ sig (HIx 1)) (W : Waits sig (HIx 1)) {acc} :
    Inv m d L qi qx O W 16 acc ⊢ iprop(⌜acc = args 16⌝ ∗ Transfers.MayWaits (thr d L) (default : HIx 1) O ∗ Writing m d L 1 (wn L 15)
        ∗ numPts m d (qi 0) ∗ numPts m d (qi 1) ∗ srcPts m d qx ∗ (bigSep (Finset.range 15) fun j => outPts d (wn L j) (G m d))
        ∗ idxAny d L 0 ∗ idxAny d L 1 ∗ rowAny d L 0 ∗ semVal (thr d L, .dma (semI 0)) 0 ∗ semVal (thr d L, .dma (semI 1)) 0 ∗ semVal (thr d L, .dma (semO 0)) 0
        ∗ semVal (thr d L, .dma cc0_scoped4.sem) 0 ∗ ∃ W', ⌜∀ x ∈ W', x ∈ W ∨ x.2 = none⌝ ∗ owes (thr d L) O W') := by
  unfold Inv
  rw [coming_ge m d L _ (by decide : ¬16 < 16), going_pos m d L (by decide : 16 ≠ 0)]
  iintro ⟨Hacc, Hmw, ⟨Hi0, HsI0, Hn0⟩, ⟨Hi1, HsI1, Hn1⟩, ⟨Hx, HsG⟩, ⟨Hr0, HsO0⟩, Hwr, Hdone, -, HO⟩
  isplitl [Hacc]; · iexact Hacc
  isplitl [Hmw]; · iexact Hmw
  isplitl [Hwr]; · iexact Hwr
  isplitl [Hn0]; · iexact Hn0
  isplitl [Hn1]; · iexact Hn1
  isplitl [Hx]; · iexact Hx
  isplitl [Hdone]; · iexact Hdone
  isplitl [Hi0]; · iexact Hi0
  isplitl [Hi1]; · iexact Hi1
  isplitl [Hr0]; · iexact Hr0
  isplitl [HsI0]; · iexact HsI0
  isplitl [HsI1]; · iexact HsI1
  isplitl [HsO0]; · iexact HsO0
  isplitl [HsG]; · iexact HsG
  iexact HO

set_option maxRecDepth 65536 in
theorem tile_core (hpre : PreOK m) (qi : Fin 2 → PosShare TreeShare) (qx : PosShare TreeShare) (O : CellTallies nD τ sig (HIx 1)) (W : Waits sig (HIx 1)) :
    iprop(Transfers.MayWaits (thr d L) (default : HIx 1) O ∗ taskRes m d L qi qx (m (oLoc d)) ∗ idle d L ∗ owes (thr d L) O W)
      ⊢ WP d L (cc0_sc_combine_gather (F := F) L xM (Memref.isWhole_whole _) iM (Memref.isWhole_whole _) oM (Memref.isWhole_whole _) lM (Memref.isWhole_whole _)
          cc0_scoped1 rM (Memref.isWhole_whole _) cc0_scoped3 cc0_scoped4)
          fun _ => iprop(taskRes m d L qi qx (G m d) ∗ idle d L ∗ ∃ W', ⌜∀ x ∈ W', x ∈ W ∨ x.2 = none⌝ ∗ owes (thr d L) O W') := by
  rw [cc0_sc_combine_gather_eq_skeleton]
  unfold cc0_sc_combine_gather_skel taskRes idle
  simp only [k0_part8_eq_skeleton, k0_part9_eq_skeleton]
  unfold k0_part8_skel
  simp only [wp_bind, base_eq]
  iintro ⟨#Hmw, ⟨Hn0, Hn1, Hx, Hout⟩, ⟨Hi0, Hi1, Hr0, Hr1, HsI0, HsI1, HsO0, HsO1, HsG⟩, HO⟩
  iapply (ret_intro d L)
  unfold k0_part9_skel
  simp only [wp_bind]
  icases (numPts_split m d (qi 0) (wn L 0)).1 $$ Hn0 with ⟨Hw, Hrest⟩
  iapply (fetch_run m d L (par 0) (wn L 0) off1_eq (off2_eq L) off3_eq (q := qi 0))
  isplitl [Hw]; · iexact Hw
  isplitl [Hi0]; · iexact Hi0
  isplitl [HsI0]; · iexact HsI0
  iintro Hfetch
  iapply (Scf.wp_for _ _ _ _ _ _ _ _ _ (Inv m d L qi qx O W) (trip m d L hpre qi qx O W _ _ _ _))
  isplitl [Hn1 Hx Hout Hi1 Hr0 Hr1 HsI1 HsO0 HsO1 HsG HO Hrest Hfetch]
  · iapply (inv_start m d L qi qx O W)
    isplitr; · iexact Hmw
    isplitl [Hfetch]; · iexact Hfetch
    isplitl [Hrest]; · iexact Hrest
    isplitl [Hn1]; · iexact Hn1
    isplitl [Hx]; · iexact Hx
    isplitl [Hout]; · iexact Hout
    isplitl [Hi1]; · iexact Hi1
    isplitl [Hr0]; · iexact Hr0
    isplitl [Hr1]; · iexact Hr1
    isplitl [HsI1]; · iexact HsI1
    isplitl [HsO0]; · iexact HsO0
    isplitl [HsO1]; · iexact HsO1
    isplitl [HsG]; · iexact HsG
    iexact HO
  iintro %acc HI
  ihave HI' := (Entails.of_eq (congrArg (fun t => Inv m d L qi qx O W t acc) trips_eq)) $$ HI
  icases (inv_end m d L qi qx O W) $$ HI' with ⟨%hacc, -, Hwr, Hn0, Hn1, Hx, Hdone, Hi0, Hi1, Hr0, HsI0, HsI1, HsO0, HsG, ⟨%W₁, %hW₁, HO⟩⟩
  subst hacc
  iapply (assume_run d L (chk5_ok L))
  iapply (assume_run d L chk4_ok)
  iapply (ret_intro d L)
  iapply (back_wait m d L 1 (wn L 15) (off19_eq L) off20_eq (O := O) (W := W₁))
  isplitl [Hwr]; · iexact Hwr
  isplitl [HO]; · iexact HO
  isplitr; · iexact Hmw
  iintro ⟨Ho, Hr1, HsO1, ⟨%W₂, %hW₂, HO⟩⟩
  iapply (ret_intro d L)
  isplitl [Hn0 Hn1 Hx Hdone Ho]
  · isplitl [Hn0]; · iexact Hn0
    isplitl [Hn1]; · iexact Hn1
    isplitl [Hx]; · iexact Hx
    iapply (Entails.of_eq (bigSep_range_succ 15 fun j => outPts d (wn L j) (G m d)).symm)
    isplitl [Ho]; · iexact Ho
    iexact Hdone
  isplitr [HO]
  · isplitl [Hi0]; · iexact Hi0
    isplitl [Hi1]; · iexact Hi1
    isplitl [Hr0]; · iexact Hr0
    isplitl [Hr1]; · iexact Hr1
    isplitl [HsI0]; · iexact HsI0
    isplitl [HsI1]; · iexact HsI1
    isplitl [HsO0]; · iexact HsO0
    isplitl [HsO1]; · iexact HsO1
    iexact HsG
  iexists W₂; isplitr; · ipureintro; exact fun x hx => (hW₂ x hx).elim (hW₁ x) .inr
  iexact HO

end Cert.Proof.Gather

end
-- ==== Proof.Own.lean ====
/-
  What a vector subcore owns, as a gather task uses it: its two double buffers slot by slot, its five semaphores; and the
  three arrays of the call, dealt out to the thirty-two tasks.
-/
module

public import proofs.«01_k».proof.Defs
public import proofs.«01_k».proof.Proof.Tile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

/-! ## The double buffers, slot by slot -/

theorem two_dvd_idx : 2 ∣ S2x1x128.size 0 := ⟨1, rfl⟩
theorem two_dvd_row : 2 ∣ S2x128x2x128.size 0 := ⟨1, rfl⟩
theorem wins_dvd_out : 512 ∣ S65536x2x128.size 0 := ⟨128, rfl⟩

theorem idxS_set (p : Fin 2) : (idxS p).view.set = (Rect.part (s := S2x1x128) (a₀ := 0) two_dvd_idx p).set := by
  show ((lM.view.slice (Rect.unit (s := S2x1x128) ![p.val, 0, 0] S1x1x128.size (idx_inb p))).reshape S1x128 squeezes_S1x1x128_S1x128.numel_eq).set = _
  rw [View.set_reshape, View.set_slice]
  refine Finset.map_refl.trans (congrArg LoadRect.set (congrArg Rect.toLoadRect ?_))
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem rowS_set (p : Fin 2) : (rowS p).view.set = (Rect.part (s := S2x128x2x128) (a₀ := 0) two_dvd_row p).set := by
  show ((rM.view.slice (Rect.unit (s := S2x128x2x128) ![p.val, 0, 0, 0] S1x128x2x128.size (row_inb p))).reshape S128x2x128 squeezes_S1x128x2x128_S128x2x128.numel_eq).set = _
  rw [View.set_reshape, View.set_slice]
  refine Finset.map_refl.trans (congrArg LoadRect.set (congrArg Rect.toLoadRect ?_))
  unfold Rect.part Rect.block
  congr 1 <;> funext a
  · match a with
    | 0 => simp [Shape.partIx, Shape.partSize]
    | 1 => simp [Shape.partIx, Shape.partSize]
    | 2 => simp [Shape.partIx, Shape.partSize]
    | 3 => simp [Shape.partIx, Shape.partSize]
  · match a with
    | 0 => simp [Shape.partSize]
    | 1 => simp [Shape.partSize]
    | 2 => simp [Shape.partSize]
    | 3 => simp [Shape.partSize]

theorem outS_set (w : Fin 512) : (outS w).view.set = (Rect.part (s := S65536x2x128) (a₀ := 0) wins_dvd_out w).set := by
  show (oM.view.slice (Rect.unit (s := S65536x2x128) (rowOff w) S128x2x128.size (out_inb w))).set = _
  rw [View.set_slice]
  refine Finset.map_refl.trans (congrArg LoadRect.set (congrArg Rect.toLoadRect ?_))
  unfold Rect.part Rect.block
  congr 1 <;> funext a
  · match a with
    | 0 => simp [Shape.partIx, Shape.partSize, rowOff, Nat.mul_comm]
    | 1 => simp [Shape.partIx, Shape.partSize, rowOff]
    | 2 => simp [Shape.partIx, Shape.partSize, rowOff]
  · match a with
    | 0 => simp [Shape.partSize]
    | 1 => simp [Shape.partSize]
    | 2 => simp [Shape.partSize]

/-- A buffer that is two disjoint pieces, held at any contents, is the pieces held at any contents each. -/
theorem any_pieces {ℓ : Loc nD τ sig} (Z : Fin 2 → Finset (Idx ℓ)) (hd : ∀ p ∈ (Finset.univ : Finset (Fin 2)), ∀ p' ∈ (Finset.univ : Finset (Fin 2)), p ≠ p' → Disjoint (Z p) (Z p'))
    (hc : (Finset.univ : Finset (Fin 2)).biUnion Z = Finset.univ) :
    (iprop(∃ f : Buf (Elt F) ℓ, ℓ ↦{fullShare} f) : sProp 𝕄) ⊣⊢ iprop((∃ f : Buf (Elt F) ℓ, ℓ ↦[Z 0]{fullShare} f) ∗ ∃ f : Buf (Elt F) ℓ, ℓ ↦[Z 1]{fullShare} f) := by
  constructor
  · iintro ⟨%f, H⟩
    ihave H' := (Entails.of_eq (show (ℓ ↦{fullShare} f : sProp 𝕄) = iprop((ℓ ↦[Z 0]{fullShare} f) ∗ ℓ ↦[Z 1]{fullShare} f) by
      rw [← bigSep_univ_two (fun p => (ℓ ↦[Z p]{fullShare} f : sProp 𝕄)), ← pointsTo_biUnion Finset.univ Z hd, hc])) $$ H
    icases H' with ⟨H0, H1⟩
    isplitl [H0]; · iexists f; iexact H0
    iexists f; iexact H1
  · iintro ⟨⟨%f, H0⟩, ⟨%g, H1⟩⟩
    ihave H := (pointsTo_biUnion_join (ℓ := ℓ) (q := fullShare) (Val := Elt F) Finset.univ Z (fun p => if p = 0 then f else g) f hd) $$ [H0 H1]
    · iapply (Entails.of_eq (bigSep_univ_two (fun p : Fin 2 => (ℓ ↦[Z p]{fullShare} (if p = 0 then f else g) : sProp 𝕄))).symm)
      isplitl [H0]; · iexact H0
      iexact H1
    icases H with ⟨%h, -, H⟩
    iexists h
    iapply (Entails.of_eq (show (ℓ ↦[(Finset.univ : Finset (Fin 2)).biUnion Z]{fullShare} h : sProp 𝕄) = ℓ ↦{fullShare} h by rw [hc]))
    iexact H

theorem idx_pieces : (iprop(∃ f : Buf (Elt F) ((thr d L).loc cc0_scoped0), (thr d L).loc cc0_scoped0 ↦{fullShare} f) : sProp 𝕄) ⊣⊢ iprop(idxAny d L 0 ∗ idxAny d L 1) :=
  any_pieces (ℓ := (thr d L).loc cc0_scoped0) (fun p => (idxS p).view.set) (fun p _ p' _ h => by rw [idxS_set, idxS_set]; exact Rect.part_disjoint two_dvd_idx h)
    ((Finset.biUnion_congr rfl fun p _ => idxS_set p).trans (Rect.biUnion_part two_dvd_idx))

theorem row_pieces : (iprop(∃ f : Buf (Elt F) ((thr d L).loc cc0_scoped2), (thr d L).loc cc0_scoped2 ↦{fullShare} f) : sProp 𝕄) ⊣⊢ iprop(rowAny d L 0 ∗ rowAny d L 1) :=
  any_pieces (ℓ := (thr d L).loc cc0_scoped2) (fun p => (rowS p).view.set) (fun p _ p' _ h => by rw [rowS_set, rowS_set]; exact Rect.part_disjoint two_dvd_row h)
    ((Finset.biUnion_congr rfl fun p _ => rowS_set p).trans (Rect.biUnion_part two_dvd_row))

/-! ## The semaphores and buffers among the subcore's own -/

abbrev cell (s : DmaSem sig) : GSem nD τ sig := (thr d L, .dma s)

theorem mem_own (s : DmaSem sig) (h : (SemLoc.dma s : SemLoc sig).isScoped .scVector = true) : cell d L s ∈ ownCells (thr d L) :=
  mem_ownCells.mpr ⟨rfl, h⟩
theorem cell_ne {s s' : DmaSem sig} (h : s ≠ s') : cell d L s ≠ cell d L s' := fun e => h (by injection (congrArg Prod.snd e))

/-- The subcore's cells but a task's five. -/
abbrev otherCells : Finset (GSem nD τ sig) :=
  (((((ownCells (thr d L)).erase (cell d L (semI 0))).erase (cell d L (semI 1))).erase (cell d L (semO 0))).erase (cell d L (semO 1))).erase (cell d L cc0_scoped4.sem)

theorem ownSems_task : (ownSems0 (thr d L) : sProp 𝕄)
    = iprop(semVal (cell d L (semI 0)) 0 ∗ semVal (cell d L (semI 1)) 0 ∗ semVal (cell d L (semO 0)) 0 ∗ semVal (cell d L (semO 1)) 0
        ∗ semVal (cell d L cc0_scoped4.sem) 0 ∗ bigSep (otherCells d L) fun g => semVal g 0) := by
  unfold SparseCore.Cfg.ownSems0 otherCells
  rw [SparseCore.bigSep_erase' (mem_own d L (semI 0) (by decide)),
    SparseCore.bigSep_erase' (Finset.mem_erase.mpr ⟨cell_ne d L (by decide), mem_own d L (semI 1) (by decide)⟩),
    SparseCore.bigSep_erase' (Finset.mem_erase.mpr ⟨cell_ne d L (by decide), Finset.mem_erase.mpr ⟨cell_ne d L (by decide), mem_own d L (semO 0) (by decide)⟩⟩),
    SparseCore.bigSep_erase' (Finset.mem_erase.mpr ⟨cell_ne d L (by decide), Finset.mem_erase.mpr ⟨cell_ne d L (by decide),
      Finset.mem_erase.mpr ⟨cell_ne d L (by decide), mem_own d L (semO 1) (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), mem_own d L cc0_scoped4.sem (by decide)⟩⟩⟩⟩)]

/-- The subcore's buffers but a task's two. -/
abbrev otherBufs : Finset (DevRef τ sig) :=
  ((ownRefs (τ := τ) (.scVector (cV L) (jV L))).erase ((Proc.scVector (cV L) (jV L)).devRef cc0_scoped0)).erase ((Proc.scVector (cV L) (jV L)).devRef cc0_scoped2)

theorem ownBufs_task : (ownBufs (thr d L) : sProp 𝕄)
    = iprop((∃ f, (thr d L).loc cc0_scoped0 ↦{fullShare} f) ∗ (∃ f, (thr d L).loc cc0_scoped2 ↦{fullShare} f)
        ∗ bigSep (otherBufs L) fun b => iprop(∃ f, ((d, b) : Loc nD τ sig) ↦{fullShare} f)) := by
  unfold SparseCore.Cfg.ownBufs otherBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-- What a subcore owns and a task never touches. -/
def untouched : sProp 𝕄 := iprop((bigSep (otherBufs L) fun b => iprop(∃ f, ((d, b) : Loc nD τ sig) ↦{fullShare} f)) ∗ bigSep (otherCells d L) fun g => semVal g 0)

/-- The subcore's own buffers and semaphores are a task's slots and semaphores, idle, and what it never touches. -/
theorem own_idle : (iprop(ownBufs (thr d L) ∗ ownSems0 (thr d L)) : sProp 𝕄) ⊣⊢ iprop(idle d L ∗ untouched d L) := by
  rw [ownBufs_task, ownSems_task]
  unfold idle untouched
  constructor
  · iintro ⟨⟨Hi, Hr, Hb⟩, ⟨S0, S1, S2, S3, S4, Hs⟩⟩
    icases (idx_pieces (F := F) d L).1 $$ Hi with ⟨Hi0, Hi1⟩
    icases (row_pieces (F := F) d L).1 $$ Hr with ⟨Hr0, Hr1⟩
    isplitr [Hb Hs]
    · isplitl [Hi0]; · iexact Hi0
      isplitl [Hi1]; · iexact Hi1
      isplitl [Hr0]; · iexact Hr0
      isplitl [Hr1]; · iexact Hr1
      isplitl [S0]; · iexact S0
      isplitl [S1]; · iexact S1
      isplitl [S2]; · iexact S2
      isplitl [S3]; · iexact S3
      iexact S4
    · isplitl [Hb]; · iexact Hb
      iexact Hs
  · iintro ⟨⟨Hi0, Hi1, Hr0, Hr1, S0, S1, S2, S3, S4⟩, ⟨Hb, Hs⟩⟩
    isplitl [Hi0 Hi1 Hr0 Hr1 Hb]
    · isplitl [Hi0 Hi1]
      · iapply (idx_pieces (F := F) d L).2
        isplitl [Hi0]; · iexact Hi0
        iexact Hi1
      isplitl [Hr0 Hr1]
      · iapply (row_pieces (F := F) d L).2
        isplitl [Hr0]; · iexact Hr0
        iexact Hr1
      iexact Hb
    · isplitl [S0]; · iexact S0
      isplitl [S1]; · iexact S1
      isplitl [S2]; · iexact S2
      isplitl [S3]; · iexact S3
      isplitl [S4]; · iexact S4
      iexact Hs

/-! ## Shares for the tasks -/

/-- The share `q` cut in `n + 1`: half of it, and the other half cut in `n`. -/
def comb : (n : ℕ) → PosShare TreeShare → Fin (n + 1) → PosShare TreeShare
  | 0, q => fun _ => q
  | n + 1, q => Fin.cons q.left (comb n q.right)

theorem halves {ℓ : Loc nD τ sig} (q : PosShare TreeShare) (f : Buf (Elt F) ℓ) : (ℓ ↦{q} f : sProp 𝕄) = iprop((ℓ ↦{q.left} f) ∗ ℓ ↦{q.right} f) :=
  BI.Entails.antisymm (pointsTo_share (PosShare.mem_left_op_right q)).1 (pointsTo_share (PosShare.mem_left_op_right q)).2

/-- A share of an array is the shares it is cut in. -/
theorem comb_split {ℓ : Loc nD τ sig} (f : Buf (Elt F) ℓ) : ∀ (n : ℕ) (q : PosShare TreeShare),
    (ℓ ↦{q} f : sProp 𝕄) = bigSep Finset.univ fun i : Fin (n + 1) => ℓ ↦{comb n q i} f
  | 0, q => (bigSep_univ_of_subsingleton (0 : Fin 1) (Φ := fun i : Fin 1 => (ℓ ↦{comb 0 q i} f : sProp 𝕄))).symm
  | n + 1, q => by
    have h : (bigSep Finset.univ fun i : Fin (n + 2) => (ℓ ↦{comb (n + 1) q i} f : sProp 𝕄))
        = iprop((ℓ ↦{q.left} f) ∗ bigSep Finset.univ fun i : Fin (n + 1) => ℓ ↦{comb n q.right i} f) := by
      rw [Fin.univ_succ, Finset.cons_eq_insert, SparseCore.bigSep_insert' (by simp), bigSep_map]
      rfl
    rw [halves, comb_split f n q.right, h]

/-- The share task `(c, s)` reads the row numbers and the source at. -/
def taskShare (c : Fin 2) (s : Fin 16) : PosShare TreeShare := comb 31 fullShare (finProdFinEquiv (c, s))

theorem shares_split {ℓ : Loc nD τ sig} (f : Buf (Elt F) ℓ) :
    (ℓ ↦{fullShare} f : sProp 𝕄) = bigSep Finset.univ fun c : Fin 2 => bigSep Finset.univ fun s : Fin 16 => ℓ ↦{taskShare c s} f := by
  rw [comb_split f 31 fullShare, bigSep_univ_equiv (finProdFinEquiv (m := 2) (n := 16)) (fun i : Fin 32 => (ℓ ↦{comb 31 fullShare i} f : sProp 𝕄)), bigSep_univ_prod]
  rfl

/-! ## The windows of the result -/

theorem out_split (f : Buf (Elt F) (oLoc d)) :
    (oLoc d ↦{fullShare} f : sProp 𝕄) = bigSep Finset.univ fun w : Fin 512 => outPts d w f := by
  unfold outPts
  rw [← pointsTo_biUnion (ℓ := oLoc d) Finset.univ (fun w => (outS w).view.set) (fun w _ w' _ h => by rw [outS_set, outS_set]; exact Rect.part_disjoint wins_dvd_out h),
    (Finset.biUnion_congr rfl fun w _ => outS_set w).trans (Rect.biUnion_part wins_dvd_out)]

/-- Window `w` is window `j` of task `(c, s)`. -/
def winEquiv : (Fin 2 × Fin 16) × Fin 16 ≃ Fin 512 := (finProdFinEquiv.prodCongr (Equiv.refl (Fin 16))).trans finProdFinEquiv

theorem wn_eq (c : Fin 2) (s : Fin 16) (j : Fin 16) : winEquiv ((c, s), j) = wn (coordsV c s) j.val := by
  apply Fin.ext
  show j.val + 16 * (s.val + 16 * c.val) = (16 * (16 * c.val + s.val) + j.val) % 512
  omega

theorem range_fin (Φ : ℕ → sProp 𝕄) : bigSep (Finset.range 16) Φ = bigSep Finset.univ fun j : Fin 16 => Φ j.val := by
  rw [show Finset.range 16 = (Finset.univ : Finset (Fin 16)).map Fin.valEmbedding by decide, bigSep_map]; rfl

theorem out_tasks (f : Buf (Elt F) (oLoc d)) : (oLoc d ↦{fullShare} f : sProp 𝕄)
    = bigSep Finset.univ fun c : Fin 2 => bigSep Finset.univ fun s : Fin 16 => bigSep (Finset.range 16) fun j => outPts d (wn (coordsV c s) j) f := by
  rw [out_split, bigSep_univ_equiv winEquiv, bigSep_univ_prod, bigSep_univ_prod]
  refine bigSep_congr fun c _ => bigSep_congr fun s _ => ?_
  rw [range_fin]
  exact bigSep_congr fun j _ => by rw [wn_eq]

variable [FloatOps F]

/-- What task `(c, s)` is handed: its share of the row numbers, half for each slot; of the source; its windows. -/
def tileRes (c : Fin 2) (s : Fin 16) (f : Buf (Elt F) (oLoc d)) : sProp 𝕄 :=
  taskRes m d (coordsV c s) ![(taskShare c s).left, (taskShare c s).right] (taskShare c s) f

theorem regroup (X A B O : sProp 𝕄) : iprop(X ∗ (A ∗ B) ∗ O) ⊣⊢ iprop(A ∗ B ∗ X ∗ O) := by
  constructor
  · iintro ⟨Hx, ⟨H0, H1⟩, Ho⟩
    isplitl [H0]; · iexact H0
    isplitl [H1]; · iexact H1
    isplitl [Hx]; · iexact Hx
    iexact Ho
  · iintro ⟨H0, H1, Hx, Ho⟩
    isplitl [Hx]; · iexact Hx
    isplitl [H0 H1]
    · isplitl [H0]; · iexact H0
      iexact H1
    iexact Ho

/-- The three arrays are what the tasks are handed. -/
theorem arrays_tasks (f : Buf (Elt F) (oLoc d)) :
    (iprop((xLoc d ↦{fullShare} m (xLoc d)) ∗ (iLoc d ↦{fullShare} m (iLoc d)) ∗ oLoc d ↦{fullShare} f) : sProp 𝕄)
      = bigSep Finset.univ fun c : Fin 2 => bigSep Finset.univ fun s : Fin 16 => tileRes m d c s f := by
  unfold tileRes taskRes numPts srcPts
  simp only [bigSep_sep']
  rw [← out_tasks, ← shares_split]
  have hi : (iLoc d ↦{fullShare} m (iLoc d) : sProp 𝕄) = iprop((bigSep Finset.univ fun c : Fin 2 => bigSep Finset.univ fun s : Fin 16 => (iLoc d ↦{(taskShare c s).left} m (iLoc d) : sProp 𝕄))
      ∗ bigSep Finset.univ fun c : Fin 2 => bigSep Finset.univ fun s : Fin 16 => iLoc d ↦{(taskShare c s).right} m (iLoc d)) := by
    rw [shares_split, ← bigSep_sep']
    refine bigSep_congr fun c _ => ?_
    rw [← bigSep_sep']
    exact bigSep_congr fun s _ => halves _ _
  rw [hi]
  simp only [Matrix.cons_val_zero, Matrix.cons_val_one]
  generalize (bigSep Finset.univ fun c : Fin 2 => bigSep Finset.univ fun s : Fin 16 => (iLoc d ↦{(taskShare c s).left} m (iLoc d) : sProp 𝕄)) = A
  generalize (bigSep Finset.univ fun c : Fin 2 => bigSep Finset.univ fun s : Fin 16 => (iLoc d ↦{(taskShare c s).right} m (iLoc d) : sProp 𝕄)) = B
  exact BI.Entails.antisymm (regroup _ A B _).1 (regroup _ A B _).2

end Cert.Proof.Gather

end
-- ==== Proof.Launch.lean ====
/-
  The launch of the gather: what the handshakes carry, the obligation of one task, @main, and the run of the whole
  program, which ends with the arguments as they were and the result the rows the row numbers name.
-/
module

public import proofs.«01_k».proof.Defs
public import proofs.«01_k».proof.Proof.Own

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the handshakes carry -/

instance numPts_storable (d : Dev nD) (q : PosShare TreeShare) : BI.Storable (upEmb : UEmb _ 𝕄) (numPts m d q) := by unfold numPts; infer_instance
instance srcPts_storable (d : Dev nD) (q : PosShare TreeShare) : BI.Storable (upEmb : UEmb _ 𝕄) (srcPts m d q) := by unfold srcPts; infer_instance
instance outPts_storable (d : Dev nD) (w : Fin 512) (f : Buf (Elt F) (oLoc d)) : BI.Storable (upEmb : UEmb _ 𝕄) (outPts d w f) := by unfold outPts; infer_instance
instance tileRes_storable (d : Dev nD) (c : Fin 2) (s : Fin 16) (f : Buf (Elt F) (oLoc d)) : BI.Storable (upEmb : UEmb _ 𝕄) (tileRes m d c s f) := by
  unfold tileRes taskRes; infer_instance

/-- What the tasks of SparseCore `c` are handed, the result at `f`. -/
def coreRes (d : Dev nD) (c : Fin 2) (f : Buf (Elt F) (oLoc d)) : sProp 𝕄 := bigSep Finset.univ fun s : Fin 16 => tileRes m d c s f
instance coreRes_storable (d : Dev nD) (c : Fin 2) (f : Buf (Elt F) (oLoc d)) : BI.Storable (upEmb : UEmb _ 𝕄) (coreRes m d c f) := by
  unfold coreRes; infer_instance

/-- Each SparseCore takes its tasks' parts, the result as it stands, and brings them back, the result gathered; so does
    each task. -/
def P : (K (F := F)).Pay (nD := nD) (Val := Elt F) (Name := ℕ) (U := UU) where
  st := fun q d c => match q with | 0 => coreRes m d (Fin.cast nCore_zero c) (m (oLoc d))
  dn := fun q d c => match q with | 0 => coreRes m d (Fin.cast nCore_zero c) (G m d)
  go := fun q d c i => match q with | 0 => tileRes m d (Fin.cast nCore_zero c) (Fin.cast nSub_zero i) (m (oLoc d))
  td := fun q d c i => match q with | 0 => tileRes m d (Fin.cast nCore_zero c) (Fin.cast nSub_zero i) (G m d)
  x := fun _ _ => iprop(emp)

instance P_storable : (P (F := F) m).IsStorable where
  st q d c := match q with | 0 => coreRes_storable m d (Fin.cast nCore_zero c) (m (oLoc d))
  dn q d c := match q with | 0 => coreRes_storable m d (Fin.cast nCore_zero c) (G m d)
  go q d c i := match q with | 0 => tileRes_storable m d (Fin.cast nCore_zero c) (Fin.cast nSub_zero i) (m (oLoc d))
  td q d c i := match q with | 0 => tileRes_storable m d (Fin.cast nCore_zero c) (Fin.cast nSub_zero i) (G m d)

/-! ## One task -/

theorem tile_body (d : Dev nD) (c : Fin 2) (s : Fin 16) (hF : (K (F := F)).Facts) (hpre : PreOK m) (O : CellTallies nD τ sig (HIx 1)) (W : Waits sig (HIx 1)) (hO : ∀ g, O g none = 0) :
    iprop(levAts (K (F := F)).L (K (F := F)).lev ∗ emp ∗ tileRes m d c s (m (oLoc d))
        ∗ scopedBufs (thr d (coordsV c s)) ∗ scopedSems0 (thr d (coordsV c s)) ∗ owes (thr d (coordsV c s)) O W)
      ⊢ WP d (coordsV c s) (cc0_sc_combine_gather (F := F) (coordsV c s) xM (Memref.isWhole_whole _) iM (Memref.isWhole_whole _) oM (Memref.isWhole_whole _) lM (Memref.isWhole_whole _)
          cc0_scoped1 rM (Memref.isWhole_whole _) cc0_scoped3 cc0_scoped4)
          fun _ => iprop(tileRes m d c s (G m d) ∗ scopedBufs (thr d (coordsV c s)) ∗ scopedSems0 (thr d (coordsV c s))
            ∗ ∃ W', ⌜∀ x ∈ W', x ∈ W ∨ x.2 = none⌝ ∗ owes (thr d (coordsV c s)) O W') := by
  unfold tileRes
  rw [(K (F := F)).scopedBufs_V hF d (cV (coordsV c s)) (jV (coordsV c s)), SparseCore.Cfg.scopedSems0_V (Val := Elt F) d (cV (coordsV c s)) (jV (coordsV c s))]
  iintro ⟨#Hlv, -, Hres, Hbufs, Hsems, HO⟩
  ihave Hmw := (show levAts (K (F := F)).L (K (F := F)).lev ⊢ Transfers.MayWaits (thr d (coordsV c s)) (default : HIx 1) O from
    (K (F := F)).mayWaits_none (thr := thr d (coordsV c s)) hO) $$ Hlv
  icases (own_idle (F := F) d (coordsV c s)).1 $$ [Hbufs Hsems] with ⟨Hidle, Hun⟩
  · isplitl [Hbufs]; · iexact Hbufs
    iexact Hsems
  ihave Hrun := (tile_core m d (coordsV c s) hpre ![(taskShare c s).left, (taskShare c s).right] (taskShare c s) O W) $$ [Hmw Hres Hidle HO]
  · isplitl [Hmw]; · iexact Hmw
    isplitl [Hres]; · iexact Hres
    isplitl [Hidle]; · iexact Hidle
    iexact HO
  iapply (wp_wand_r frame (wpE (defs₀ (F := F)) 𝒱₀ (thr d (coordsV c s)) none) Set.univ)
  isplitl [Hrun]; · iexact Hrun
  iintro %a ⟨Hres, Hidle, HW⟩
  icases (own_idle (F := F) d (coordsV c s)).2 $$ [Hidle Hun] with ⟨Hbufs, Hsems⟩
  · isplitl [Hidle]; · iexact Hidle
    iexact Hun
  isplitl [Hres]; · iexact Hres
  isplitl [Hbufs]; · iexact Hbufs
  isplitl [Hsems]; · iexact Hsems
  iexact HW

theorem defs₀_vector (c : Fin τ.nSC) (s : Fin τ.nSub) :
    defs₀ (F := F) (.scVector c s) 0 ()
      = SparseCore.onTile hcore0 hsub0 (fun c s => cc0_sc_combine_gather (coordsV c s)
          xM (Memref.isWhole_whole _) iM (Memref.isWhole_whole _) oM (Memref.isWhole_whole _) lM (Memref.isWhole_whole _)
          cc0_scoped1 rM (Memref.isWhole_whole _) cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d ⟨_, hci.1⟩ ⟨_, hci.2⟩ hF hpre O W hO).trans (wp_mono frame _ _ fun _ => obl_post)

theorem vecSplit : (K (F := F)).VecSplit' (P m) 0 := by
  intro d c
  show coreRes m d (Fin.cast nCore_zero c) (m (oLoc d)) ⊢ |={Set.univ}=> iprop(
      (bigSep Finset.univ fun i : Fin ((K (F := F)).nSub 0) => tileRes m d (Fin.cast nCore_zero c) (Fin.cast nSub_zero i) (m (oLoc d)))
      ∗ ((bigSep Finset.univ fun i : Fin ((K (F := F)).nSub 0) => tileRes m d (Fin.cast nCore_zero c) (Fin.cast nSub_zero i) (G m d))
          -∗ coreRes m d (Fin.cast nCore_zero c) (G m d)))
  unfold coreRes
  iintro H; imodintro
  isplitl [H]; · iexact H
  iintro H; iexact H

/-! ## The launch's ghost state -/

def u₀ : UU := (initOf (K (F := F)).hsCells (K (F := F)).hsToks, 1)

theorem all_emp {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [all_emp]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), all_emp]
  iempintro

/-! ## @main on the TensorCore -/

theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The arrays, the result at `f`. -/
abbrev arrays (d : Dev nD) (f : Buf (Elt F) (oLoc d)) : sProp 𝕄 := iprop((xLoc d ↦{fullShare} m (xLoc d)) ∗ (iLoc d ↦{fullShare} m (iLoc d)) ∗ oLoc d ↦{fullShare} f)

theorem st0_eq (d : Dev nD) : (bigSep Finset.univ fun c : Fin ((K (F := F)).nCore 0) => (P m).st 0 d c) = arrays m d (m (oLoc d)) :=
  (arrays_tasks m d _).symm
theorem dn0_eq (d : Dev nD) : (bigSep Finset.univ fun c : Fin ((K (F := F)).nCore 0) => (P m).dn 0 d c) = arrays m d (G m d) :=
  (arrays_tasks m d _).symm

/-- @main on device `d`'s TensorCore: the one call, from the three arrays, the result gathered. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ arrays m d (G m d) ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hi, Ho⟩, Hts, -⟩, -⟩
  iapply ((K (F := F)).wp_run (D (F := F)) 𝒱 (EH := EH) (P := P m) κ d 0) $$ [Hst Hi Hx Ho Hb Hts]
  isplitr; · iexact Hctx
  isplitl [Hst]; · iexact Hst
  isplitl [Hi Hx Ho]
  · rw [st0_eq]
    isplitl [Hx]; · iexact Hx
    isplitl [Hi]; · iexact Hi
    iexact Ho
  iintro ⟨Hst, Hdn⟩
  ihave Hdn' := (Entails.of_eq (dn0_eq m d)) $$ Hdn
  imodintro
  isplitl [Hst]; · iexact Hst
  isplitr [Hb Hts]; · iexact Hdn'
  isplitl [Hb] <;> iassumption

/-- What a memory the program ends in holds on device `d`: the arguments as they were, the result gathered. -/
def atEnd (d : Dev nD) (s' : Phys nD τ sig (Elt F)) : Prop :=
  s'.mem.mem (xLoc d) = m (xLoc d) ∧ s'.mem.mem (iLoc d) = m (iLoc d) ∧ s'.mem.mem (oLoc d) = G m d

set_option maxRecDepth 16384 in
theorem hfin (d : Dev nD) (s' : Phys nD τ sig (Elt F)) : iprop(arrays m d (G m d) ∗ SI s') ⊢ (⌜atEnd m d s'⌝ : sProp 𝕄) := by
  iintro ⟨⟨Hx, Hi, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The run -/

def Ends : PUnit × MemSt nD τ sig (Elt F) → Prop := fun r =>
  (∀ c : Dev nD, r.2.mem (xLoc c) = m (xLoc c) ∧ r.2.mem (iLoc c) = m (iLoc c) ∧ r.2.mem (oLoc c) = G m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (fun d => arrays m d (G m d)) (u₀ (F := F)) (sep_elim_left.trans (hu₀ m)) (hmain m ρ) (atEnd m) (hfin m) (Ends m) (fun _ h hz => ⟨h, hz⟩)

end Cert.Proof.Gather

end
-- ==== Proof.Ref.lean ====
/-
  The reference's run: a straight line of host operations, ending with the source's rows at the row numbers of the
  first 8192 columns, a negative number counted from the end; under the bound on the row numbers that is the gather.
-/
module

public import proofs.«01_k».proof.Defs
public import proofs.«01_k».proof.Proof.Setup
public import proofs.«01_k».proof.Proof.Gen.ReferenceIdeal
public import Idealize.ShloMosaic.Lib.StableHlo.Run
public import Idealize.ShloMosaic.Lib.ReduceAll
public import Idealize.ShloMosaic.Lib.Pipeline.Value

@[expose] public section

noncomputable section

namespace Cert.Proof.Ref

open Cert.ReferenceIdeal Cert.ReferenceIdeal.Gen
open Idealize.ShloMosaic Idealize.ShloMosaic.TcCoe Idealize.ShloMosaic.StableHlo Idealize.SL.Sem
open Cert.Proof.Gather (numAt)

variable {F : FTy → Type} [FloatOps F]

/-- @main's operations, in order. -/
abbrev ops : List (HloOp τ sig (Elt F)) :=
  [ unary main_arg1 main_v0 ((extractStridedSlice S8x8192 ![0, 0] · slices_S8x32768_S8x8192_0_0) : (⟨S8x32768, .i32⟩ : BufTy).Contents (Elt F) → (⟨S8x8192, .i32⟩ : BufTy).Contents (Elt F)),
    reshape main_v0 main_v1 (rfl : (.i32 : EltTy) = .i32) shapeCasts_S8x8192_S65536,
    nullary main_c (constantI S_ 32 0#32),
    unary main_c main_v2 (broadcastInDim S65536 ![] bcast_S_S65536 : (⟨S_, .i32⟩ : BufTy).Contents (Elt F) → (⟨S65536, .i32⟩ : BufTy).Contents (Elt F)),
    binary main_v1 main_v2 main_v3 (cmpi .slt : (⟨S65536, .i32⟩ : BufTy).Contents (Elt F) → (⟨S65536, .i32⟩ : BufTy).Contents (Elt F) → (⟨S65536, .i1⟩ : BufTy).Contents (Elt F)),
    nullary main_c_0 (constantI S_ 32 294912#32),
    unary main_c_0 main_v4 (broadcastInDim S65536 ![] bcast_S_S65536 : (⟨S_, .i32⟩ : BufTy).Contents (Elt F) → (⟨S65536, .i32⟩ : BufTy).Contents (Elt F)),
    binary main_v1 main_v4 main_v5 (addi : (⟨S65536, .i32⟩ : BufTy).Contents (Elt F) → (⟨S65536, .i32⟩ : BufTy).Contents (Elt F) → (⟨S65536, .i32⟩ : BufTy).Contents (Elt F)),
    ternary main_v3 main_v5 main_v1 main_v6 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v6 main_v7 (broadcastInDim S65536x1 ![0] bcast_S65536_S65536x1_0 : (⟨S65536, .i32⟩ : BufTy).Contents (Elt F) → (⟨S65536x1, .i32⟩ : BufTy).Contents (Elt F)),
    binary main_arg0 main_v7 main_v8 ((fun x i => Host.gather gather_S294912x2x128_S65536x1_S65536x2x128_12_0_n_n_0_1_12128 x i) : (⟨S294912x2x128, .i32⟩ : BufTy).Contents (Elt F) → (⟨S65536x1, .i32⟩ : BufTy).Contents (Elt F) → (⟨S65536x2x128, .i32⟩ : BufTy).Contents (Elt F)) ]

theorem main_eq (c : Dev nD) : main (F := F) c = seq ops := rfl

/-! ## The value -/

/-- The first 8192 columns' row numbers, in a line. -/
def line (n : IVec S8x32768 32) : IVec S65536 32 :=
  shapeCast S65536 (extractStridedSlice S8x8192 ![0, 0] n slices_S8x32768_S8x8192_0_0) shapeCasts_S8x8192_S65536
/-- The row numbers, a negative one counted from the end. -/
def wrapped (n : IVec S8x32768 32) : IVec S65536 32 :=
  select (cmpi .slt (line n) (broadcastInDim S65536 ![] bcast_S_S65536 (constantI S_ 32 0#32)))
    (addi (line n) (broadcastInDim S65536 ![] bcast_S_S65536 (constantI S_ 32 294912#32))) (line n)
/-- What @main computes. -/
def out (x : IVec S294912x2x128 32) (n : IVec S8x32768 32) : IVec S65536x2x128 32 :=
  Host.gather gather_S294912x2x128_S65536x1_S65536x2x128_12_0_n_n_0_1_12128 x (broadcastInDim S65536x1 ![0] bcast_S65536_S65536x1_0 (wrapped n))

theorem out_after (V : Valuation τ sig (Elt F)) : after ops V (main_v8 : DevRef τ sig) = out (V (main_arg0 : DevRef τ sig)) (V (main_arg1 : DevRef τ sig)) := by
  after_results
  rfl
theorem arg0_after (V : Valuation τ sig (Elt F)) : after ops V (main_arg0 : DevRef τ sig) = V (main_arg0 : DevRef τ sig) := by
  after_results
theorem arg1_after (V : Valuation τ sig (Elt F)) : after ops V (main_arg1 : DevRef τ sig) = V (main_arg1 : DevRef τ sig) := by
  after_results

/-- Where the row number `r` lies among the first 8192 columns. -/
def sliceAt (r : Fin 65536) : S8x8192.Idx
  | 0 => ⟨r.val / 8192, by show r.val / 8192 < 8; omega⟩
  | 1 => ⟨r.val % 8192, by show r.val % 8192 < 8192; omega⟩
  | ⟨_ + 2, h⟩ => absurd h (Nat.not_lt.2 (Nat.le_add_left _ _))

/-- The line at `r` is the row number `r` is numbered at. -/
theorem line_apply (n : IVec S8x32768 32) (r : S65536.Idx) : line n r = n (numAt (r 0)) := by
  unfold line
  have h0 : (r 0).val < 65536 := (r 0).isLt
  refine (shapeCast_apply _ _ r (sliceAt (r 0)) ?_).trans ?_
  · rw [Shape.rowMajor_val_one, Shape.rowMajor_val_two]
    show (r 0).val / 8192 * 8192 + (r 0).val % 8192 = (r 0).val
    omega
  · unfold extractStridedSlice
    refine congrArg n (funext fun a => Fin.ext ?_)
    match a with
    | 0 => exact Nat.zero_add _
    | 1 => exact Nat.zero_add _

theorem slt_zero {v : BitVec 32} (h : v.toNat < 294912) : IntOp.cmpi .slt v 0#32 = 0#1 := by
  have e : (v.slt 0#32) = false := by
    rw [BitVec.slt_eq_decide, decide_eq_false_iff_not, BitVec.toInt_eq_toNat_cond]
    simp only [BitVec.toInt_zero]
    split <;> omega
  simp [IntOp.cmpi, e]

/-- Below the bound nothing wraps. -/
theorem wrapped_apply (n : IVec S8x32768 32) (h : ∀ j, (n j).toNat < 294912) (r : S65536.Idx) : wrapped n r = n (numAt (r 0)) := by
  unfold wrapped
  show (if IntOp.cmpi .slt (line n r) 0#32 = 1#1 then _ else line n r) = _
  rw [line_apply, slt_zero (h _)]
  rfl

/-- The row numbers as the gather's start indices. -/
abbrev numbers (n : IVec S8x32768 32) : IVec S65536x1 32 := broadcastInDim S65536x1 ![0] bcast_S65536_S65536x1_0 (wrapped n)
abbrev dims := gather_S294912x2x128_S65536x1_S65536x2x128_12_0_n_n_0_1_12128

theorem numbers_apply (n : IVec S8x32768 32) (h : ∀ j, (n j).toNat < 294912) (y : S65536x1.Idx) : numbers n y = n (numAt (y 0)) :=
  wrapped_apply n h _

/-- Below the bound the result's row `r` is the source's row numbered at `r`. -/
theorem out_apply (x : IVec S294912x2x128 32) (n : IVec S8x32768 32) (h : ∀ j, (n j).toNat < 294912) (z : S65536x2x128.Idx) (k : S294912x2x128.Idx)
    (h0 : (k 0).val = (n (numAt (z 0))).toNat) (h1 : (k 1).val = (z 1).val) (h2 : (k 2).val = (z 2).val) : out x n z = x k := by
  unfold out Host.gather
  refine congrArg x (funext fun a => Fin.ext ?_)
  show dims.start z (numbers n) a + dims.batchCoord z a + dims.offCoord z a = (k a).val
  rw [dims.batchCoord_eq_zero z a List.not_mem_nil, Nat.add_zero]
  match a with
  | 0 =>
    rw [dims.offCoord_eq_zero z 0 (fun hk => ((dims.mem_sKept 0).1 hk).1 (List.mem_singleton.2 rfl)), Nat.add_zero]
    unfold GatherDims.start
    rw [dif_pos (show (0 : Fin 3) ∈ dims.startIndexMap from List.mem_singleton.2 rfl), numbers_apply n h]
    have hn := h (numAt (z 0))
    show min (n (numAt (z 0))).toInt.toNat 294911 = (k 0).val
    rw [h0, BitVec.toInt_eq_toNat_of_lt (by omega)]
    omega
  | 1 => exact (Nat.zero_add _).trans h1.symm
  | 2 => exact (Nat.zero_add _).trans h2.symm

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub ..,
    binary_bufs_sub .., ternary_bufs_sub .., unary_bufs_sub .., binary_bufs_sub ..⟩

/-- From any memory with zero counters: @main ends with the result at the value above, the arguments as they were, and
    the counters at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v8) = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r h => ⟨fun c => ⟨(h c main_v8).trans (out_after _), (h c main_arg0).trans (arg0_after _), (h c main_arg1).trans (arg1_after _)⟩,
      sem_eq_zero_of_no_sems (by decide) r.2⟩)
    (run_seq scopedRefs_eq scopedSems_eq defs main (fun _ => ops) main_eq (fun _ => ops_sub) m ρ)

end Cert.Proof.Ref

end
-- ==== Proof.Claims.lean ====
/-
  The claims about the gather: its frame, the references', and that the kernel and the reference end with equal results —
  at the machine's floats and at the ideal instance alike, the two runs being proved at any reading of the floats.
-/
module

public import proofs.«01_k».proof.Defs
public import proofs.«01_k».proof.Proof.Launch
public import proofs.«01_k».proof.Proof.Ref
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_in_rows

@[expose] public section

noncomputable section

namespace Cert.Proof.Claims

open Cert.KernelIdeal Cert.KernelIdeal.Gen Cert.Proof.Gather
open Idealize.ShloMosaic Idealize.SL.Sem

variable {F : FTy → Type} [FloatOps F]

/-! ## The precondition -/

instance : Subsingleton Cert.Pre_in_rows.S_.Idx := ⟨fun a b => funext fun i => i.elim0⟩

/-- A word neither negative nor 294912 or more, as signed comparisons find, is below 294912. -/
theorem below_of_cmp (v : BitVec 32) (h : IntOp.andi (IntOp.cmpi .sge v 0#32) (IntOp.cmpi .slt v 294912#32) = 1#1) : v.toNat < 294912 := by
  obtain ⟨h1, h2⟩ := IntOp.andi_eq_one.1 h
  have one (p : Bool) (h : BitVec.ofBool p = 1#1) : p = true := by cases p with | true => rfl | false => exact absurd h (by decide)
  have h1' := one _ h1
  have h2' := one _ h2
  simp only [BitVec.sle_eq_decide, BitVec.slt_eq_decide, decide_eq_true_eq, BitVec.toInt_eq_toNat_cond, BitVec.toNat_ofNat, Nat.reducePow, Nat.reduceMod] at h1' h2'
  omega

/-- Where the precondition holds, every row number names a row of the source. -/
theorem below_of_pre (x : IVec S294912x2x128 32) (n : IVec S8x32768 32) (h : Cert.Pre_in_rows.fn (F := F) x n = fun _ => 1#1) (j : S8x32768.Idx) : (n j).toNat < 294912 :=
  below_of_cmp _ (Host.reduce_andi_all _ _ _ _ (fun i => i.elim0) (congrFun h fun i => i.elim0) j)

/-! ## The kernel's result and the reference's -/

/-- The gathered array is the reference's value of the same arguments. -/
theorem gathered_eq (m : (ℓ : Loc nD τ sig) → Buf (Elt F) ℓ) (hpre : PreOK m) (d : Dev nD) : Cert.Proof.Ref.out (m (xLoc d)) (m (iLoc d)) = G m d :=
  funext fun z => Cert.Proof.Ref.out_apply _ _ (hpre d) z (srcAt m d z) (Nat.mod_eq_of_lt (hpre d _)) rfl rfl

/-! ## The claims -/

theorem frame_kernelIdeal : Cert.quiescent_KernelIdeal := fun m ρ hpre =>
  (θ_run Cert.KernelIdeal.defs _ _).mono (fun _ h => ⟨fun c => ⟨(h.1 c).1, (h.1 c).2.1⟩, h.2⟩) (run_main (F := Ideal) m ρ fun d => below_of_pre _ _ (hpre d))

theorem frame_kernel : Cert.quiescent_Kernel := fun m ρ hpre =>
  (θ_run Cert.KernelIdeal.defs _ _).mono (fun _ h => ⟨fun c => ⟨(h.1 c).1, (h.1 c).2.1⟩, h.2⟩) (run_main (F := Bits) m ρ fun d => below_of_pre _ _ (hpre d))

theorem frame_referenceIdeal : Cert.quiescent_ReferenceIdeal := fun m ρ _ =>
  (θ_run Cert.ReferenceIdeal.defs _ _).mono (fun _ h => ⟨fun c => (h.1 c).2, h.2⟩) (Cert.Proof.Ref.run_main (F := Ideal) m ρ)

theorem frame_reference : Cert.quiescent_Reference := fun m ρ _ =>
  (θ_run Cert.ReferenceIdeal.defs _ _).mono (fun _ h => ⟨fun c => (h.1 c).2, h.2⟩) (Cert.Proof.Ref.run_main (F := Bits) m ρ)

theorem algebraic : Cert.algebraic_KernelIdeal_ReferenceIdeal := fun m ρ m' ρ' hpre hargs => by
  have hok : PreOK m := fun d => below_of_pre _ _ (hpre d)
  refine ⟨G m, (θ_run Cert.KernelIdeal.defs _ _).mono (fun _ h c => ⟨(h.1 c).2.2, (h.1 c).1, (h.1 c).2.1⟩) (run_main (F := Ideal) m ρ hok),
    (θ_run Cert.ReferenceIdeal.defs _ _).mono (fun _ h c => ⟨(h.1 c).1.trans ?_, (h.1 c).2⟩) (Cert.Proof.Ref.run_main (F := Ideal) m' ρ')⟩
  exact (congrArg₂ Cert.Proof.Ref.out (hargs c).1 (hargs c).2).trans (gathered_eq m hok c)

theorem bitexact : Cert.bitexact_Kernel_Reference := fun m ρ m' ρ' hpre hargs => by
  have hok : PreOK (F := Bits) m := fun d => below_of_pre _ _ (hpre d)
  refine ⟨G (F := Bits) m, (θ_run Cert.KernelIdeal.defs _ _).mono (fun _ h c => ⟨(h.1 c).2.2, (h.1 c).1, (h.1 c).2.1⟩) (run_main (F := Bits) m ρ hok),
    (θ_run Cert.ReferenceIdeal.defs _ _).mono (fun _ h c => ⟨(h.1 c).1.trans ?_, (h.1 c).2⟩) (Cert.Proof.Ref.run_main (F := Bits) m' ρ')⟩
  exact (congrArg₂ Cert.Proof.Ref.out (hargs c).1 (hargs c).2).trans (gathered_eq (F := Bits) m hok c)

end Cert.Proof.Claims

end
-- ==== Proof.ExpSetup.lean ====
/-
  The experts' kernel: the tables the launch is given, the slots and the weights its transfers move between, and the
  values it computes, with where their elements lie.
-/
module

public import proofs.«01_k».proof.Defs
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Kernel2
public import proofs.«01_k».proof.Proof.Gen.Reference2Ideal
public import proofs.«01_k».proof.Proof.Gen.Reference2Ideal.Read
public import proofs.«01_k».proof.Proof.Gen.Reference2Ideal.Run
public import proofs.«01_k».proof.Proof.Gen.Pre_tables
public import proofs.«01_k».proof.Proof.Gen.On_rows_used
public import Idealize.ShloMosaic.Lib.Pipeline.Kit
public import Idealize.ShloMosaic.Lib.Pipeline.FrameBody
public import Idealize.ShloMosaic.Lib.ValueLayout
public import Idealize.ShloMosaic.Lib.Pipeline.ValueKit.Geometry
public import Idealize.ShloMosaic.Lib.Tactic

@[expose] public section

noncomputable section

namespace Cert.Proof.Experts

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type}

local notation "𝕄" => MT nD τ sig Unit (Elt F) ℕ (Pipeline.UD sig nD τ) ℕ

abbrev 𝒱₀ : Variants := Variants.none

variable (m : (ℓ : Loc nD τ sig) → Buf (Elt F) ℓ) (c : Dev nD)

/-! ## The tables -/

/-- The place of entry `n` in a table. -/
def ixN (n : ℕ) : S288.Idx
  | 0 => ⟨n % 288, Nat.mod_lt _ (by decide)⟩
  | ⟨_ + 1, h⟩ => absurd h (Nat.not_lt.2 (Nat.le_add_left _ _))

/-- Block `n`'s expert, its count of live rows, the next expert whose weights are fetched, its slot. -/
abbrev bE (n : ℕ) : BitVec 32 := m ((c : Thread nD τ).loc main_arg0) (ixN n)
abbrev bV (n : ℕ) : BitVec 32 := m ((c : Thread nD τ).loc main_arg1) (ixN n)
abbrev bN (n : ℕ) : BitVec 32 := m ((c : Thread nD τ).loc main_arg2) (ixN n)
abbrev bS (n : ℕ) : BitVec 32 := m ((c : Thread nD τ).loc main_arg3) (ixN n)

/-- What the proof asks of the tables. -/
structure TabOK : Prop where
  be : ∀ n, (bE m c n).toNat < 32
  va : ∀ n, (bV m c n).toNat ≤ 512
  sl : ∀ n, (bS m c n).toNat < 2
  nx : ∀ n, 0 ≤ (bN m c n).toInt → (bN m c n).toNat < 32
  step : ∀ n, n + 1 < 288 → (bE m c (n + 1) = bE m c n ∧ bN m c (n + 1) = bN m c n ∧ bS m c (n + 1) = bS m c n)
    ∨ (bE m c (n + 1) ≠ bE m c n ∧ bE m c (n + 1) = bN m c n ∧ bS m c (n + 1) = 1#32 - bS m c n)
  last : (bN m c 287).toInt < 0

/-- The same as numbers. -/
def eN (n : ℕ) : Fin 32 := ⟨(bE m c n).toNat % 32, Nat.mod_lt _ (by decide)⟩
def xN (n : ℕ) : Fin 32 := ⟨(bN m c n).toNat % 32, Nat.mod_lt _ (by decide)⟩
def pN (n : ℕ) : Fin 2 := ⟨(bS m c n).toNat % 2, Nat.mod_lt _ (by decide)⟩
/-- Whether a next expert's weights are under way after block `n`. -/
def busy (n : ℕ) : Prop := 0 ≤ (bN m c n).toInt
instance (n : ℕ) : Decidable (busy m c n) := inferInstanceAs (Decidable (_ ≤ _))

variable {m c}

theorem eN_val (h : TabOK m c) (n : ℕ) : (bE m c n).toNat = (eN m c n).val := (Nat.mod_eq_of_lt (h.be n)).symm
theorem pN_val (h : TabOK m c) (n : ℕ) : (bS m c n).toNat = (pN m c n).val := (Nat.mod_eq_of_lt (h.sl n)).symm
theorem xN_val (h : TabOK m c) (n : ℕ) (hb : busy m c n) : (bN m c n).toNat = (xN m c n).val := (Nat.mod_eq_of_lt (h.nx n hb)).symm

theorem one_sub (v : BitVec 32) (h : v.toNat < 2) : (1#32 - v).toNat = 1 - v.toNat := by
  have : v = 0#32 ∨ v = 1#32 := by
    rcases Nat.lt_succ_iff_lt_or_eq.mp h with h | h
    · left; apply BitVec.eq_of_toNat_eq; simp; omega
    · right; apply BitVec.eq_of_toNat_eq; simp; omega
  rcases this with rfl | rfl <;> decide

theorem other_val (h : TabOK m c) (n : ℕ) : (1#32 - bS m c n).toNat = (pN m c n).rev.val := by
  rw [one_sub _ (h.sl n), pN_val h, Fin.val_rev]; omega

/-- Where the next block has the same expert, its entries are the same. -/
theorem same_of (h : TabOK m c) (n : ℕ) (hn : n + 1 < 288) (he : bE m c (n + 1) = bE m c n) :
    eN m c (n + 1) = eN m c n ∧ xN m c (n + 1) = xN m c n ∧ pN m c (n + 1) = pN m c n ∧ (busy m c (n + 1) ↔ busy m c n) := by
  rcases h.step n hn with ⟨h1, h2, h3⟩ | ⟨h1, _, _⟩
  · refine ⟨Fin.ext ?_, Fin.ext ?_, Fin.ext ?_, ?_⟩
    · exact congrArg (fun v : BitVec 32 => v.toNat % 32) h1
    · exact congrArg (fun v : BitVec 32 => v.toNat % 32) h2
    · exact congrArg (fun v : BitVec 32 => v.toNat % 2) h3
    · unfold busy; rw [h2]
  · exact absurd he h1

/-- Where it has another, that expert's weights were under way, to the other slot. -/
theorem next_of (h : TabOK m c) (n : ℕ) (hn : n + 1 < 288) (he : bE m c (n + 1) ≠ bE m c n) :
    busy m c n ∧ eN m c (n + 1) = xN m c n ∧ pN m c (n + 1) = (pN m c n).rev := by
  rcases h.step n hn with ⟨h1, _, _⟩ | ⟨_, h2, h3⟩
  · exact absurd h1 he
  · refine ⟨?_, ?_, ?_⟩
    · unfold busy; rw [← h2, BitVec.toInt_eq_toNat_cond]; have := h.be (n + 1); split <;> omega
    · exact Fin.ext (congrArg (fun v : BitVec 32 => v.toNat % 32) h2)
    · apply Fin.ext; rw [← other_val h n, ← h3, pN_val h]

variable (m c)

/-! ## Slots, weights and semaphores -/

abbrev slotUAt (o : Fin 3 → ℕ) (h : ∀ a, o a + S1x1024x2048.size a ≤ S2x1024x2048.size a) : Memref sig .tc .vmem S1024x2048 .f32 :=
  ((Memref.whole cc0_scratch0).slice (Rect.unit (s := S2x1024x2048) o S1x1024x2048.size h) (fun _ => rfl)).squeeze S1024x2048 squeezes_S1x1024x2048_S1024x2048
abbrev slotDAt (o : Fin 3 → ℕ) (h : ∀ a, o a + S1x1024x1024.size a ≤ S2x1024x1024.size a) : Memref sig .tc .vmem S1024x1024 .f32 :=
  ((Memref.whole cc0_scratch1).slice (Rect.unit (s := S2x1024x1024) o S1x1024x1024.size h) (fun _ => rfl)).squeeze S1024x1024 squeezes_S1x1024x1024_S1024x1024
abbrev winUAt (o : Fin 4 → ℕ) (h : ∀ a, o a + S1x1x1024x2048.size a ≤ S4x32x1024x2048.size a) : Memref sig .tc .hbm S1024x2048 .f32 :=
  ((Memref.whole main_arg5).slice (Rect.unit (s := S4x32x1024x2048) o S1x1x1024x2048.size h) (fun _ => rfl)).squeeze S1024x2048 squeezes_S1x1x1024x2048_S1024x2048
abbrev winDAt (o : Fin 4 → ℕ) (h : ∀ a, o a + S1x1x1024x1024.size a ≤ S4x32x1024x1024.size a) : Memref sig .tc .hbm S1024x1024 .f32 :=
  ((Memref.whole main_arg7).slice (Rect.unit (s := S4x32x1024x1024) o S1x1x1024x1024.size h) (fun _ => rfl)).squeeze S1024x1024 squeezes_S1x1x1024x1024_S1024x1024
abbrev semAt (o : Fin 2 → ℕ) (h : ∀ a, o a + S1x1.size a ≤ S2x2.size a) : DmaSem sig :=
  ((cc0_scratch4.slice (Rect.unit (s := S2x2) o S1x1.size h)).squeeze S_ squeezes_S1x1_S_).sem

theorem slotU_inb : ∀ p : Fin 2, ∀ a, (![p.val, 0, 0] : Fin 3 → ℕ) a + S1x1024x2048.size a ≤ S2x1024x2048.size a := by decide
theorem slotD_inb : ∀ p : Fin 2, ∀ a, (![p.val, 0, 0] : Fin 3 → ℕ) a + S1x1024x1024.size a ≤ S2x1024x1024.size a := by decide
theorem winU_inb : ∀ e : Fin 32, ∀ a, (![0, e.val, 0, 0] : Fin 4 → ℕ) a + S1x1x1024x2048.size a ≤ S4x32x1024x2048.size a := by decide
theorem winD_inb : ∀ e : Fin 32, ∀ a, (![0, e.val, 0, 0] : Fin 4 → ℕ) a + S1x1x1024x1024.size a ≤ S4x32x1024x1024.size a := by decide
theorem sem_inb : ∀ r p : Fin 2, ∀ a, (![r.val, p.val] : Fin 2 → ℕ) a + S1x1.size a ≤ S2x2.size a := by decide

abbrev slotU (p : Fin 2) := slotUAt ![p.val, 0, 0] (slotU_inb p)
abbrev slotD (p : Fin 2) := slotDAt ![p.val, 0, 0] (slotD_inb p)
abbrev winU (e : Fin 32) := winUAt ![0, e.val, 0, 0] (winU_inb e)
abbrev winD (e : Fin 32) := winDAt ![0, e.val, 0, 0] (winD_inb e)
abbrev semU (p : Fin 2) : DmaSem sig := semAt ![0, p.val] (sem_inb 0 p)
abbrev semD (p : Fin 2) : DmaSem sig := semAt ![1, p.val] (sem_inb 1 p)

theorem semU_eq : ∀ p : Fin 2, semU p = ⟨8 + p.val, by show _ < 12; omega⟩ := by decide
theorem semD_eq : ∀ p : Fin 2, semD p = ⟨10 + p.val, by show _ < 12; omega⟩ := by decide

/-- Places in the weights and in their buffers. -/
abbrev iU (e : Fin 32) (a : Fin 1024) (b : Fin 2048) : S4x32x1024x2048.Idx := ix4 (0 : Fin 4) e a b
abbrev iD (e : Fin 32) (a : Fin 1024) (b : Fin 1024) : S4x32x1024x1024.Idx := ix4 (0 : Fin 4) e a b

theorem slotU_emb (p : Fin 2) (y : S1024x2048.Idx) : (slotU p).view.emb y = ix3 p (y 0) (y 1) := by
  show (((View.whole cc0_scratch0).slice _).reshape S1024x2048 _).emb y = _
  rw [View.emb_reshape, View.emb_slice, View.emb_whole]
  refine ((congrArg _ (congrArg _ (eq_ix2 y))).trans (congrArg (Rect.unit (s := S2x1024x2048) ![p.val, 0, 0] S1x1024x2048.size (slotU_inb p)).emb (reshapeEquiv_ix2_1ab (a := 1024) (b := 2048) _ (y 0) (y 1)))).trans ?_
  funext a; apply Fin.ext; refine (ValueKit.rect_emb_unit_val _ _ _ _ _).trans ?_
  fin_cases a
  · rfl
  · exact Nat.zero_add _
  · exact Nat.zero_add _
theorem slotD_emb (p : Fin 2) (y : S1024x1024.Idx) : (slotD p).view.emb y = ix3 p (y 0) (y 1) := by
  show (((View.whole cc0_scratch1).slice _).reshape S1024x1024 _).emb y = _
  rw [View.emb_reshape, View.emb_slice, View.emb_whole]
  refine ((congrArg _ (congrArg _ (eq_ix2 y))).trans (congrArg (Rect.unit (s := S2x1024x1024) ![p.val, 0, 0] S1x1024x1024.size (slotD_inb p)).emb (reshapeEquiv_ix2_1ab (a := 1024) (b := 1024) _ (y 0) (y 1)))).trans ?_
  funext a; apply Fin.ext; refine (ValueKit.rect_emb_unit_val _ _ _ _ _).trans ?_
  fin_cases a
  · rfl
  · exact Nat.zero_add _
  · exact Nat.zero_add _
theorem winU_emb (e : Fin 32) (y : S1024x2048.Idx) : (winU e).view.emb y = iU e (y 0) (y 1) := by
  show (((View.whole main_arg5).slice _).reshape S1024x2048 _).emb y = _
  rw [View.emb_reshape, View.emb_slice, View.emb_whole]
  refine ((congrArg _ (congrArg _ (eq_ix2 y))).trans (congrArg (Rect.unit (s := S4x32x1024x2048) ![0, e.val, 0, 0] S1x1x1024x2048.size (winU_inb e)).emb (reshapeEquiv_ix2_11ab (a := 1024) (b := 2048) _ (y 0) (y 1)))).trans ?_
  funext a; apply Fin.ext; refine (ValueKit.rect_emb_unit_val _ _ _ _ _).trans ?_
  fin_cases a
  · rfl
  · rfl
  · exact Nat.zero_add _
  · exact Nat.zero_add _
theorem winD_emb (e : Fin 32) (y : S1024x1024.Idx) : (winD e).view.emb y = iD e (y 0) (y 1) := by
  show (((View.whole main_arg7).slice _).reshape S1024x1024 _).emb y = _
  rw [View.emb_reshape, View.emb_slice, View.emb_whole]
  refine ((congrArg _ (congrArg _ (eq_ix2 y))).trans (congrArg (Rect.unit (s := S4x32x1024x1024) ![0, e.val, 0, 0] S1x1x1024x1024.size (winD_inb e)).emb (reshapeEquiv_ix2_11ab (a := 1024) (b := 1024) _ (y 0) (y 1)))).trans ?_
  funext a; apply Fin.ext; refine (ValueKit.rect_emb_unit_val _ _ _ _ _).trans ?_
  fin_cases a
  · rfl
  · rfl
  · exact Nat.zero_add _
  · exact Nat.zero_add _

theorem slotU_set (p : Fin 2) : (slotU p).view.set = (Rect.unit (s := S2x1024x2048) ![p.val, 0, 0] S1x1024x2048.size (slotU_inb p)).set := by
  show (((View.whole cc0_scratch0).slice _).reshape S1024x2048 _).set = _
  rw [View.set_reshape, View.set_slice_whole]
theorem slotD_set (p : Fin 2) : (slotD p).view.set = (Rect.unit (s := S2x1024x1024) ![p.val, 0, 0] S1x1024x1024.size (slotD_inb p)).set := by
  show (((View.whole cc0_scratch1).slice _).reshape S1024x1024 _).set = _
  rw [View.set_reshape, View.set_slice_whole]
theorem mem_slotU (p : Fin 2) (y : S2x1024x2048.Idx) : y ∈ (slotU p).view.set ↔ (y 0).val = p.val := by
  rw [slotU_set, Rect.mem_set_unit]
  have h1 : (y 1).val < 1024 := (y 1).isLt
  have h2 : (y 2).val < 2048 := (y 2).isLt
  constructor
  · intro H; have h0 : p.val ≤ (y 0).val ∧ (y 0).val < p.val + 1 := H 0; omega
  · intro H a; fin_cases a
    · show p.val ≤ (y 0).val ∧ (y 0).val < p.val + 1; omega
    · show 0 ≤ (y 1).val ∧ (y 1).val < 0 + 1024; omega
    · show 0 ≤ (y 2).val ∧ (y 2).val < 0 + 2048; omega
theorem mem_slotD (p : Fin 2) (y : S2x1024x1024.Idx) : y ∈ (slotD p).view.set ↔ (y 0).val = p.val := by
  rw [slotD_set, Rect.mem_set_unit]
  have h1 : (y 1).val < 1024 := (y 1).isLt
  have h2 : (y 2).val < 1024 := (y 2).isLt
  constructor
  · intro H; have h0 : p.val ≤ (y 0).val ∧ (y 0).val < p.val + 1 := H 0; omega
  · intro H a; fin_cases a
    · show p.val ≤ (y 0).val ∧ (y 0).val < p.val + 1; omega
    · show 0 ≤ (y 1).val ∧ (y 1).val < 0 + 1024; omega
    · show 0 ≤ (y 2).val ∧ (y 2).val < 0 + 1024; omega
/-- The other slot is the rest of the buffer. -/
theorem slotU_compl (p : Fin 2) : (slotU p.rev).view.set = Finset.univ \ (slotU p).view.set := by
  ext y
  have : (y 0).val < 2 := (y 0).isLt
  have := Fin.val_rev p
  rw [Finset.mem_sdiff, mem_slotU, mem_slotU]; simp only [Finset.mem_univ, true_and]; omega
theorem slotD_compl (p : Fin 2) : (slotD p.rev).view.set = Finset.univ \ (slotD p).view.set := by
  ext y
  have : (y 0).val < 2 := (y 0).isLt
  have := Fin.val_rev p
  rw [Finset.mem_sdiff, mem_slotD, mem_slotD]; simp only [Finset.mem_univ, true_and]; omega

/-! ## The values -/

/-- An expert's weights as a slot holds them, whichever slot it is. -/
def GU (e : Fin 32) : Buf (Elt F) ((c : Thread nD τ).loc cc0_scratch0) := fun z => m ((c : Thread nD τ).loc main_arg5) (iU e (z 1) (z 2))
def GD (e : Fin 32) : Buf (Elt F) ((c : Thread nD τ).loc cc0_scratch1) := fun z => m ((c : Thread nD τ).loc main_arg7) (iD e (z 1) (z 2))

/-- The same, as the block loaded of a slot. -/
def gU (e : Fin 32) : Vec F S1x1024x2048 .f32 := fun y => m ((c : Thread nD τ).loc main_arg5) (iU e (y 1) (y 2))
def gD (e : Fin 32) : Vec F S1x1024x1024 .f32 := fun y => m ((c : Thread nD τ).loc main_arg7) (iD e (y 1) (y 2))

theorem load_GU (e : Fin 32) (p : Fin 2) (h : ∀ a, (![p.val, 0, 0] : Fin 3 → ℕ) a + S1x1024x2048.size a ≤ S2x1024x2048.size a) :
    ((Memref.whole cc0_scratch0).access (Rect.unit (s := S2x1024x2048) ![p.val, 0, 0] S1x1024x2048.size h)).read (Elt F) (GU m c e) = gU m c e := by
  funext y
  refine congrArg (m ((c : Thread nD τ).loc main_arg5)) (?_ : (_ : S4x32x1024x2048.Idx) = _)
  funext a; apply Fin.ext
  fin_cases a
  · rfl
  · rfl
  · exact (ValueKit.rect_emb_unit_val _ _ _ _ _).trans (Nat.zero_add _)
  · exact (ValueKit.rect_emb_unit_val _ _ _ _ _).trans (Nat.zero_add _)
theorem load_GD (e : Fin 32) (p : Fin 2) (h : ∀ a, (![p.val, 0, 0] : Fin 3 → ℕ) a + S1x1024x1024.size a ≤ S2x1024x1024.size a) :
    ((Memref.whole cc0_scratch1).access (Rect.unit (s := S2x1024x1024) ![p.val, 0, 0] S1x1024x1024.size h)).read (Elt F) (GD m c e) = gD m c e := by
  funext y
  refine congrArg (m ((c : Thread nD τ).loc main_arg7)) (?_ : (_ : S4x32x1024x1024.Idx) = _)
  funext a; apply Fin.ext
  fin_cases a
  · rfl
  · rfl
  · exact (ValueKit.rect_emb_unit_val _ _ _ _ _).trans (Nat.zero_add _)
  · exact (ValueKit.rect_emb_unit_val _ _ _ _ _).trans (Nat.zero_add _)

end Cert.Proof.Experts

end
-- ==== Proof.ExpOps.lean ====
/-
  The transfers of the experts' kernel: fetching an expert's two weight matrices into a slot, waiting for them, and
  loading what a slot holds. A slot and an expert are spoken of by number; what the program computes the offsets from
  enters as equations.
-/
module

public import proofs.«01_k».proof.Proof.ExpSetup

@[expose] public section

noncomputable section

namespace Cert.Proof.Experts

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type}

local notation "𝕄" => MT nD τ sig Unit (Elt F) ℕ (Pipeline.UD sig nD τ) ℕ

variable (m : (ℓ : Loc nD τ sig) → Buf (Elt F) ℓ) (c : Dev nD)

/-! ## What the body holds -/

/-- A slot of either double buffer, holding anything; holding expert `e`'s weights. -/
def anyU (p : Fin 2) : sProp 𝕄 := iprop(∃ f : Buf (Elt F) ((c : Thread nD τ).loc cc0_scratch0), (slotU p).view.loc (c : Thread nD τ) ↦[(slotU p).view.set]{fullShare} f)
def anyD (p : Fin 2) : sProp 𝕄 := iprop(∃ f : Buf (Elt F) ((c : Thread nD τ).loc cc0_scratch1), (slotD p).view.loc (c : Thread nD τ) ↦[(slotD p).view.set]{fullShare} f)
def hasU (p : Fin 2) (e : Fin 32) : sProp 𝕄 := (slotU p).view.loc (c : Thread nD τ) ↦[(slotU p).view.set]{fullShare} GU m c e
def hasD (p : Fin 2) (e : Fin 32) : sProp 𝕄 := (slotD p).view.loc (c : Thread nD τ) ↦[(slotD p).view.set]{fullShare} GD m c e
/-- All the weights; one expert's; the others'. -/
def allU : sProp 𝕄 := ((c : Thread nD τ).loc main_arg5) ↦{fullShare} m ((c : Thread nD τ).loc main_arg5)
def allD : sProp 𝕄 := ((c : Thread nD τ).loc main_arg7) ↦{fullShare} m ((c : Thread nD τ).loc main_arg7)
def oneU (e : Fin 32) : sProp 𝕄 := (winU e).view.loc (c : Thread nD τ) ↦[(winU e).view.set]{fullShare} m ((c : Thread nD τ).loc main_arg5)
def oneD (e : Fin 32) : sProp 𝕄 := (winD e).view.loc (c : Thread nD τ) ↦[(winD e).view.set]{fullShare} m ((c : Thread nD τ).loc main_arg7)
def restU (e : Fin 32) : sProp 𝕄 := ((c : Thread nD τ).loc main_arg5) ↦[Finset.univ \ (winU e).view.set]{fullShare} m ((c : Thread nD τ).loc main_arg5)
def restD (e : Fin 32) : sProp 𝕄 := ((c : Thread nD τ).loc main_arg7) ↦[Finset.univ \ (winD e).view.set]{fullShare} m ((c : Thread nD τ).loc main_arg7)

theorem allU_split (e : Fin 32) : allU m c ⊣⊢ iprop(oneU m c e ∗ restU m c e) := pointsTo_split_subset (Finset.subset_univ _)
theorem allD_split (e : Fin 32) : allD m c ⊣⊢ iprop(oneD m c e ∗ restD m c e) := pointsTo_split_subset (Finset.subset_univ _)

/-- The units a fetch credits its semaphore. -/
abbrev nU : ℕ := (slotU 0).view.dmaCredit
abbrev nD' : ℕ := (slotD 0).view.dmaCredit

/-- A slot's semaphores at rest. -/
def idleU (p : Fin 2) : sProp 𝕄 := semVal ((c : Thread nD τ), SemLoc.dma (semU p)) 0
def idleD (p : Fin 2) : sProp 𝕄 := semVal ((c : Thread nD τ), SemLoc.dma (semD p)) 0

/-- Expert `e`'s weights under way to slot `p`, and all other weights. -/
def flyU (p : Fin 2) (e : Fin 32) : sProp 𝕄 :=
  iprop(Transfers.Flight countersEmb (c : Thread nD τ) (.dma (semU p)) () nU iprop(hasU m c p e ∗ oneU m c e) ∗ restU m c e)
def flyD (p : Fin 2) (e : Fin 32) : sProp 𝕄 :=
  iprop(Transfers.Flight countersEmb (c : Thread nD τ) (.dma (semD p)) () nD' iprop(hasD m c p e ∗ oneD m c e) ∗ restD m c e)

variable [FloatOps F]

abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program that has returned. -/
theorem ret_intro {α : Type} {x : α} {Q : α → sProp 𝕄} : Q x ⊢ WP c (.ret x) Q := fupd_intro

/-! ## Fetching -/

theorem startU {o : Fin 3 → ℕ} {o₂ : Fin 4 → ℕ} {o₃ : Fin 2 → ℕ} {h₁ : ∀ a, o a + S1x1024x2048.size a ≤ S2x1024x2048.size a}
    {h₂ : ∀ a, o₂ a + S1x1x1024x2048.size a ≤ S4x32x1024x2048.size a} {h₃ : ∀ a, o₃ a + S1x1.size a ≤ S2x2.size a}
    (p : Fin 2) (e : Fin 32) (ho : o = ![p.val, 0, 0]) (ho₂ : o₂ = ![0, e.val, 0, 0]) (ho₃ : o₃ = ![0, p.val])
    {hs : (winUAt o₂ h₂).view.WordExact} {hd : (DmaTarget.here (slotUAt o h₁) : DmaTarget nD τ sig .tc .vmem S1024x2048 .f32).view.WordExact}
    {ht : DmaTarget.Typed (nD := nD) (p := .tc) .hbm (.dma (semAt o₃ h₃)) (.here (slotUAt o h₁))} {α : Type}
    {k : PUnit → Prog (TpuEff nD τ sig (Elt F) Λ₀ .tc) α} {Q : α → sProp 𝕄} :
    iprop(allU m c ∗ anyU c p ∗ idleU c p ∗ (flyU m c p e -∗ WP c (k ⟨⟩) Q))
      ⊢ WP c (.op (.enqueueDma (winUAt o₂ h₂) (.here (slotUAt o h₁)) (.dma (semAt o₃ h₃)) hs hd ht) k) Q := by
  subst ho ho₂ ho₃
  refine (sep_mono (allU_split m c e).1 .rfl).trans ?_
  unfold oneU anyU idleU flyU
  iintro ⟨⟨Hw, Hr⟩, ⟨%f, Hi⟩, Hv, Hk⟩
  iapply (Transfers.wp_dmaLocal (src := winU e) (dst := slotU p) (fs := m ((c : Thread nD τ).loc main_arg5)) (fd := f) (sm := .dma (semU p)) countersEmb 𝒱₀ (c : Thread nD τ) none () nU rfl (by decide) (Finset.Subset.refl _)) $$ [Hw Hi Hv]
  · isplitl [Hw]; · iexact Hw
    isplitl [Hi]; · iexact Hi
    iexact Hv
  iintro Hfl
  iapply Hk
  isplitr [Hr]; swap; · iexact Hr
  iapply (Transfers.Flight_mono countersEmb (c : Thread nD τ) ?_) $$ Hfl
  unfold hasU oneU
  refine sep_mono (Entails.of_eq (pointsTo_congr ?_)) .rfl
  intro z hz
  obtain ⟨y, _, rfl⟩ := Finset.mem_map.mp hz
  rw [View.write_emb_of_mem _ _ (Finset.mem_univ y)]
  show m ((c : Thread nD τ).loc main_arg5) ((winU e).view.emb y) = GU m c e ((slotU p).view.emb y)
  rw [winU_emb, slotU_emb]; rfl

theorem startD {o : Fin 3 → ℕ} {o₂ : Fin 4 → ℕ} {o₃ : Fin 2 → ℕ} {h₁ : ∀ a, o a + S1x1024x1024.size a ≤ S2x1024x1024.size a}
    {h₂ : ∀ a, o₂ a + S1x1x1024x1024.size a ≤ S4x32x1024x1024.size a} {h₃ : ∀ a, o₃ a + S1x1.size a ≤ S2x2.size a}
    (p : Fin 2) (e : Fin 32) (ho : o = ![p.val, 0, 0]) (ho₂ : o₂ = ![0, e.val, 0, 0]) (ho₃ : o₃ = ![1, p.val])
    {hs : (winDAt o₂ h₂).view.WordExact} {hd : (DmaTarget.here (slotDAt o h₁) : DmaTarget nD τ sig .tc .vmem S1024x1024 .f32).view.WordExact}
    {ht : DmaTarget.Typed (nD := nD) (p := .tc) .hbm (.dma (semAt o₃ h₃)) (.here (slotDAt o h₁))} {α : Type}
    {k : PUnit → Prog (TpuEff nD τ sig (Elt F) Λ₀ .tc) α} {Q : α → sProp 𝕄} :
    iprop(allD m c ∗ anyD c p ∗ idleD c p ∗ (flyD m c p e -∗ WP c (k ⟨⟩) Q))
      ⊢ WP c (.op (.enqueueDma (winDAt o₂ h₂) (.here (slotDAt o h₁)) (.dma (semAt o₃ h₃)) hs hd ht) k) Q := by
  subst ho ho₂ ho₃
  refine (sep_mono (allD_split m c e).1 .rfl).trans ?_
  unfold oneD anyD idleD flyD
  iintro ⟨⟨Hw, Hr⟩, ⟨%f, Hi⟩, Hv, Hk⟩
  iapply (Transfers.wp_dmaLocal (src := winD e) (dst := slotD p) (fs := m ((c : Thread nD τ).loc main_arg7)) (fd := f) (sm := .dma (semD p)) countersEmb 𝒱₀ (c : Thread nD τ) none () nD' rfl (by decide) (Finset.Subset.refl _)) $$ [Hw Hi Hv]
  · isplitl [Hw]; · iexact Hw
    isplitl [Hi]; · iexact Hi
    iexact Hv
  iintro Hfl
  iapply Hk
  isplitr [Hr]; swap; · iexact Hr
  iapply (Transfers.Flight_mono countersEmb (c : Thread nD τ) ?_) $$ Hfl
  unfold hasD oneD
  refine sep_mono (Entails.of_eq (pointsTo_congr ?_)) .rfl
  intro z hz
  obtain ⟨y, _, rfl⟩ := Finset.mem_map.mp hz
  rw [View.write_emb_of_mem _ _ (Finset.mem_univ y)]
  show m ((c : Thread nD τ).loc main_arg7) ((winD e).view.emb y) = GD m c e ((slotD p).view.emb y)
  rw [winD_emb, slotD_emb]; rfl

/-! ## Waiting -/

theorem waitU {o : Fin 3 → ℕ} {o₃ : Fin 2 → ℕ} {h₁ : ∀ a, o a + S1x1024x2048.size a ≤ S2x1024x2048.size a}
    {h₃ : ∀ a, o₃ a + S1x1.size a ≤ S2x2.size a} {s' : Shape} {e' : EltTy} {sp' : Space} {srcw : Memref sig .tc sp' s' e'}
    (p : Fin 2) (e : Fin 32) (ho : o = ![p.val, 0, 0]) (ho₃ : o₃ = ![0, p.val])
    {hs : srcw.view.WordExact} {hd : (slotUAt o h₁).view.WordExact} {W : Waits sig Unit} {α : Type}
    {k : PUnit → Prog (TpuEff nD τ sig (Elt F) Λ₀ .tc) α} {Q : α → sProp 𝕄} :
    iprop(flyU m c p e ∗ owes (c : Thread nD τ) 0 W ∗ (iprop(hasU m c p e ∗ allU m c ∗ idleU c p ∗ ∃ W', owes (c : Thread nD τ) 0 W') -∗ WP c (k ⟨⟩) Q))
      ⊢ WP c (.op (.waitDma2 (semAt o₃ h₃) srcw (slotUAt o h₁) hs hd) k) Q := by
  subst ho ho₃
  unfold flyU idleU
  iintro ⟨⟨Hfl, Hr⟩, HO, Hk⟩
  ihave Hmw := (Transfers.MayWaits.zero (c : Thread nD τ) ()) $$ []
  · iempintro
  iapply (Transfers.wp_waitLocalO (dstw := slotU p) (hsrc := hs) (hdst := hd) countersEmb 𝒱₀ (c : Thread nD τ) none () (N := nU) rfl) $$ [Hfl HO Hmw]
  · isplitl [Hfl]; · iexact Hfl
    isplitl [HO]; · iexact HO
    iapply (Transfers.MayWaits.elim (SemLoc.dma (semU p))) $$ Hmw
  iintro ⟨⟨Hi, Hw⟩, Hv, HO⟩
  iapply Hk
  isplitl [Hi]; · iexact Hi
  isplitl [Hw Hr]
  · iapply (allU_split m c e).2
    isplitl [Hw]; · iexact Hw
    iexact Hr
  isplitl [Hv]; · iexact Hv
  iexists _; iexact HO

theorem waitD {o : Fin 3 → ℕ} {o₃ : Fin 2 → ℕ} {h₁ : ∀ a, o a + S1x1024x1024.size a ≤ S2x1024x1024.size a}
    {h₃ : ∀ a, o₃ a + S1x1.size a ≤ S2x2.size a} {s' : Shape} {e' : EltTy} {sp' : Space} {srcw : Memref sig .tc sp' s' e'}
    (p : Fin 2) (e : Fin 32) (ho : o = ![p.val, 0, 0]) (ho₃ : o₃ = ![1, p.val])
    {hs : srcw.view.WordExact} {hd : (slotDAt o h₁).view.WordExact} {W : Waits sig Unit} {α : Type}
    {k : PUnit → Prog (TpuEff nD τ sig (Elt F) Λ₀ .tc) α} {Q : α → sProp 𝕄} :
    iprop(flyD m c p e ∗ owes (c : Thread nD τ) 0 W ∗ (iprop(hasD m c p e ∗ allD m c ∗ idleD c p ∗ ∃ W', owes (c : Thread nD τ) 0 W') -∗ WP c (k ⟨⟩) Q))
      ⊢ WP c (.op (.waitDma2 (semAt o₃ h₃) srcw (slotDAt o h₁) hs hd) k) Q := by
  subst ho ho₃
  unfold flyD idleD
  iintro ⟨⟨Hfl, Hr⟩, HO, Hk⟩
  ihave Hmw := (Transfers.MayWaits.zero (c : Thread nD τ) ()) $$ []
  · iempintro
  iapply (Transfers.wp_waitLocalO (dstw := slotD p) (hsrc := hs) (hdst := hd) countersEmb 𝒱₀ (c : Thread nD τ) none () (N := nD') rfl) $$ [Hfl HO Hmw]
  · isplitl [Hfl]; · iexact Hfl
    isplitl [HO]; · iexact HO
    iapply (Transfers.MayWaits.elim (SemLoc.dma (semD p))) $$ Hmw
  iintro ⟨⟨Hi, Hw⟩, Hv, HO⟩
  iapply Hk
  isplitl [Hi]; · iexact Hi
  isplitl [Hw Hr]
  · iapply (allD_split m c e).2
    isplitl [Hw]; · iexact Hw
    iexact Hr
  isplitl [Hv]; · iexact Hv
  iexists _; iexact HO

/-! ## Loading a slot -/

theorem loadU {o : Fin 3 → ℕ} {h : ∀ a, o a + S1x1024x2048.size a ≤ S2x1024x2048.size a} (p : Fin 2) (e : Fin 32) (ho : o = ![p.val, 0, 0])
    {hl : (Memref.whole cc0_scratch0).view.LoadsAt (Rect.unit (s := S2x1024x2048) o S1x1024x2048.size h).toLoadRect} {α : Type}
    {k : Vec F S1x1024x2048 .f32 → Prog (TpuEff nD τ sig (Elt F) Λ₀ .tc) α} {Q : α → sProp 𝕄} :
    iprop(hasU m c p e ∗ (hasU m c p e -∗ WP c (k (gU m c e)) Q))
      ⊢ WP c (.op (.load (Memref.whole cc0_scratch0) (Rect.unit (s := S2x1024x2048) o S1x1024x2048.size h).toLoadRect hl) k) Q := by
  subst ho
  unfold hasU
  iintro ⟨Hi, Hk⟩
  iapply (wp_load_rect (r := Rect.unit (s := S2x1024x2048) ![p.val, 0, 0] S1x1024x2048.size h) (S := (slotU p).view.set) 𝒱₀ (c : Thread nD τ) none Set.univ ?_) $$ Hi
  · rw [slotU_set]; exact (View.set_slice_whole _ _).le
  rw [load_GU]
  iexact Hk

theorem loadD {o : Fin 3 → ℕ} {h : ∀ a, o a + S1x1024x1024.size a ≤ S2x1024x1024.size a} (p : Fin 2) (e : Fin 32) (ho : o = ![p.val, 0, 0])
    {hl : (Memref.whole cc0_scratch1).view.LoadsAt (Rect.unit (s := S2x1024x1024) o S1x1024x1024.size h).toLoadRect} {α : Type}
    {k : Vec F S1x1024x1024 .f32 → Prog (TpuEff nD τ sig (Elt F) Λ₀ .tc) α} {Q : α → sProp 𝕄} :
    iprop(hasD m c p e ∗ (hasD m c p e -∗ WP c (k (gD m c e)) Q))
      ⊢ WP c (.op (.load (Memref.whole cc0_scratch1) (Rect.unit (s := S2x1024x1024) o S1x1024x1024.size h).toLoadRect hl) k) Q := by
  subst ho
  unfold hasD
  iintro ⟨Hi, Hk⟩
  iapply (wp_load_rect (r := Rect.unit (s := S2x1024x1024) ![p.val, 0, 0] S1x1024x1024.size h) (S := (slotD p).view.set) 𝒱₀ (c : Thread nD τ) none Set.univ ?_) $$ Hi
  · rw [slotD_set]; exact (View.set_slice_whole _ _).le
  rw [load_GD]
  iexact Hk

/-! ## Reading a table -/

theorem read_bE {o : Fin 1 → ℕ} {h : ∀ a, o a + S1.size a ≤ S288.size a} (n : ℕ) (hn : n < 288) (ho : o = ![n]) {h1 : (Rect.unit (s := S288) o S1.size h).shape.numel = 1}
    {hp : EltTy.packing .i32 = 1} {q : PosShare TreeShare} {α : Type} {k : Elt F .i32 → Prog (TpuEff nD τ sig (Elt F) Λ₀ .tc) α} {Q : α → sProp 𝕄} :
    iprop((((c : Thread nD τ).loc main_arg0) ↦{q} m ((c : Thread nD τ).loc main_arg0)) ∗ ((((c : Thread nD τ).loc main_arg0) ↦{q} m ((c : Thread nD τ).loc main_arg0)) -∗ WP c (k (bE m c n)) Q))
      ⊢ WP c ((smemLoad (Memref.whole main_arg0) (Rect.unit (s := S288) o S1.size h) h1 hp : Prog (TpuEff nD τ sig (Elt F) Λ₀ .tc) (Elt F .i32)) >>= k) Q := by
  subst ho
  refine BIBase.Entails.trans ?_ (Entails.of_eq (congrArg (fun p => WP c p Q) (rfl : smemLoadElt (p := (c : Thread nD τ).2) (Memref.whole main_arg0) (Rect.unit (s := S288) ![n] S1.size h) (View.loads_smem_one hp h1) (Shape.Idx.first (h1.symm ▸ Nat.one_pos)) k = _)))
  iintro ⟨Hi, Hk⟩
  iapply (wp_smemLoadElt 𝒱₀ (c : Thread nD τ) none Set.univ (m := Memref.whole main_arg0) (r := Rect.unit (s := S288) ![n] S1.size h) (S := Finset.univ) (Finset.subset_univ _)) $$ Hi
  iintro Hi
  ihave H := Hk $$ Hi
  iapply (Entails.of_eq ?_) $$ H
  refine congrArg (fun v => WP c (k v) Q) (congrArg (m ((c : Thread nD τ).loc main_arg0)) (?_ : (_ : S288.Idx) = _))
  funext a; apply Fin.ext
  fin_cases a
  refine Eq.trans ?_ (ValueKit.rect_emb_unit_val _ _ _ _ _).symm
  show n % 288 = n + 0
  rw [Nat.mod_eq_of_lt hn]; rfl

theorem read_bV {o : Fin 1 → ℕ} {h : ∀ a, o a + S1.size a ≤ S288.size a} (n : ℕ) (hn : n < 288) (ho : o = ![n]) {h1 : (Rect.unit (s := S288) o S1.size h).shape.numel = 1}
    {hp : EltTy.packing .i32 = 1} {q : PosShare TreeShare} {α : Type} {k : Elt F .i32 → Prog (TpuEff nD τ sig (Elt F) Λ₀ .tc) α} {Q : α → sProp 𝕄} :
    iprop((((c : Thread nD τ).loc main_arg1) ↦{q} m ((c : Thread nD τ).loc main_arg1)) ∗ ((((c : Thread nD τ).loc main_arg1) ↦{q} m ((c : Thread nD τ).loc main_arg1)) -∗ WP c (k (bV m c n)) Q))
      ⊢ WP c ((smemLoad (Memref.whole main_arg1) (Rect.unit (s := S288) o S1.size h) h1 hp : Prog (TpuEff nD τ sig (Elt F) Λ₀ .tc) (Elt F .i32)) >>= k) Q := by
  subst ho
  refine BIBase.Entails.trans ?_ (Entails.of_eq (congrArg (fun p => WP c p Q) (rfl : smemLoadElt (p := (c : Thread nD τ).2) (Memref.whole main_arg1) (Rect.unit (s := S288) ![n] S1.size h) (View.loads_smem_one hp h1) (Shape.Idx.first (h1.symm ▸ Nat.one_pos)) k = _)))
  iintro ⟨Hi, Hk⟩
  iapply (wp_smemLoadElt 𝒱₀ (c : Thread nD τ) none Set.univ (m := Memref.whole main_arg1) (r := Rect.unit (s := S288) ![n] S1.size h) (S := Finset.univ) (Finset.subset_univ _)) $$ Hi
  iintro Hi
  ihave H := Hk $$ Hi
  iapply (Entails.of_eq ?_) $$ H
  refine congrArg (fun v => WP c (k v) Q) (congrArg (m ((c : Thread nD τ).loc main_arg1)) (?_ : (_ : S288.Idx) = _))
  funext a; apply Fin.ext
  fin_cases a
  refine Eq.trans ?_ (ValueKit.rect_emb_unit_val _ _ _ _ _).symm
  show n % 288 = n + 0
  rw [Nat.mod_eq_of_lt hn]; rfl

theorem read_bN {o : Fin 1 → ℕ} {h : ∀ a, o a + S1.size a ≤ S288.size a} (n : ℕ) (hn : n < 288) (ho : o = ![n]) {h1 : (Rect.unit (s := S288) o S1.size h).shape.numel = 1}
    {hp : EltTy.packing .i32 = 1} {q : PosShare TreeShare} {α : Type} {k : Elt F .i32 → Prog (TpuEff nD τ sig (Elt F) Λ₀ .tc) α} {Q : α → sProp 𝕄} :
    iprop((((c : Thread nD τ).loc main_arg2) ↦{q} m ((c : Thread nD τ).loc main_arg2)) ∗ ((((c : Thread nD τ).loc main_arg2) ↦{q} m ((c : Thread nD τ).loc main_arg2)) -∗ WP c (k (bN m c n)) Q))
      ⊢ WP c ((smemLoad (Memref.whole main_arg2) (Rect.unit (s := S288) o S1.size h) h1 hp : Prog (TpuEff nD τ sig (Elt F) Λ₀ .tc) (Elt F .i32)) >>= k) Q := by
  subst ho
  refine BIBase.Entails.trans ?_ (Entails.of_eq (congrArg (fun p => WP c p Q) (rfl : smemLoadElt (p := (c : Thread nD τ).2) (Memref.whole main_arg2) (Rect.unit (s := S288) ![n] S1.size h) (View.loads_smem_one hp h1) (Shape.Idx.first (h1.symm ▸ Nat.one_pos)) k = _)))
  iintro ⟨Hi, Hk⟩
  iapply (wp_smemLoadElt 𝒱₀ (c : Thread nD τ) none Set.univ (m := Memref.whole main_arg2) (r := Rect.unit (s := S288) ![n] S1.size h) (S := Finset.univ) (Finset.subset_univ _)) $$ Hi
  iintro Hi
  ihave H := Hk $$ Hi
  iapply (Entails.of_eq ?_) $$ H
  refine congrArg (fun v => WP c (k v) Q) (congrArg (m ((c : Thread nD τ).loc main_arg2)) (?_ : (_ : S288.Idx) = _))
  funext a; apply Fin.ext
  fin_cases a
  refine Eq.trans ?_ (ValueKit.rect_emb_unit_val _ _ _ _ _).symm
  show n % 288 = n + 0
  rw [Nat.mod_eq_of_lt hn]; rfl

theorem read_bS {o : Fin 1 → ℕ} {h : ∀ a, o a + S1.size a ≤ S288.size a} (n : ℕ) (hn : n < 288) (ho : o = ![n]) {h1 : (Rect.unit (s := S288) o S1.size h).shape.numel = 1}
    {hp : EltTy.packing .i32 = 1} {q : PosShare TreeShare} {α : Type} {k : Elt F .i32 → Prog (TpuEff nD τ sig (Elt F) Λ₀ .tc) α} {Q : α → sProp 𝕄} :
    iprop((((c : Thread nD τ).loc main_arg3) ↦{q} m ((c : Thread nD τ).loc main_arg3)) ∗ ((((c : Thread nD τ).loc main_arg3) ↦{q} m ((c : Thread nD τ).loc main_arg3)) -∗ WP c (k (bS m c n)) Q))
      ⊢ WP c ((smemLoad (Memref.whole main_arg3) (Rect.unit (s := S288) o S1.size h) h1 hp : Prog (TpuEff nD τ sig (Elt F) Λ₀ .tc) (Elt F .i32)) >>= k) Q := by
  subst ho
  refine BIBase.Entails.trans ?_ (Entails.of_eq (congrArg (fun p => WP c p Q) (rfl : smemLoadElt (p := (c : Thread nD τ).2) (Memref.whole main_arg3) (Rect.unit (s := S288) ![n] S1.size h) (View.loads_smem_one hp h1) (Shape.Idx.first (h1.symm ▸ Nat.one_pos)) k = _)))
  iintro ⟨Hi, Hk⟩
  iapply (wp_smemLoadElt 𝒱₀ (c : Thread nD τ) none Set.univ (m := Memref.whole main_arg3) (r := Rect.unit (s := S288) ![n] S1.size h) (S := Finset.univ) (Finset.subset_univ _)) $$ Hi
  iintro Hi
  ihave H := Hk $$ Hi
  iapply (Entails.of_eq ?_) $$ H
  refine congrArg (fun v => WP c (k v) Q) (congrArg (m ((c : Thread nD τ).loc main_arg3)) (?_ : (_ : S288.Idx) = _))
  funext a; apply Fin.ext
  fin_cases a
  refine Eq.trans ?_ (ValueKit.rect_emb_unit_val _ _ _ _ _).symm
  show n % 288 = n + 0
  rw [Nat.mod_eq_of_lt hn]; rfl

end Cert.Proof.Experts

end
-- ==== Proof.ExpParts.lean ====
/-
  The experts' kernel body in its pieces, each handed what follows it; and the body is those pieces in order.
-/
module

public import proofs.«01_k».proof.Proof.ExpOps

@[expose] public section

noncomputable section

namespace Cert.Proof.Experts

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type} [FloatOps F]

/-- The first block's transfers, started at the first point. -/
def startP (i : grid0.Coords) (v3 : Elt F .i32) (k0_hw2 : k0_chk2 i v3) (k : Prog (TpuEff nD τ sig (Elt F) Λ₀ .tc) PUnit.{1}) : Prog (TpuEff nD τ sig (Elt F) Λ₀ .tc) PUnit.{1} :=
  if k0_h1 : k0_cond1 i = 1#1 then do
    let v27 : Elt F .i32 ← smemLoad (Memref.whole main_arg3) (Rect.unit (s := S288) ![0] S1.size inb_S288_S1_0) numel1_S1 rfl
    have k0_hw1 : k0_chk1 i v27 := (← Prog.lift (TpuEff.assume (k0_chk1 i v27) (k0_chk1.dec i v27))).down
    Prog.lift (.enqueueDma (winUAt (k0_off4 v3) (k0_off4_inb i v3 k0_hw2 k0_h1)) (.here (slotUAt (k0_off3 v27) (k0_off3_inb i v27 k0_hw1 k0_h1))) (.dma (semAt (k0_off2 v27) (k0_off2_inb i v27 k0_hw1 k0_h1))) ((View.wordExact_bits rfl).reshape _ _) ((View.wordExact_bits rfl).reshape _ _) ⟨Or.inl rfl, trivial⟩)
    Prog.lift (.enqueueDma (winDAt (k0_off7 v3) (k0_off7_inb i v3 k0_hw2 k0_h1)) (.here (slotDAt (k0_off6 v27) (k0_off6_inb i v27 k0_hw1 k0_h1))) (.dma (semAt (k0_off5 v27) (k0_off5_inb i v27 k0_hw1 k0_h1))) ((View.wordExact_bits rfl).reshape _ _) ((View.wordExact_bits rfl).reshape _ _) ⟨Or.inl rfl, trivial⟩)
    k
  else do
    k

/-- The next expert's transfers, started if there is a next one. -/
def moreP (i : grid0.Coords) (v3 v11 : Elt F .i32) (v28 v56 : Elt F .i32) (k0_hw5 : k0_chk5 i v3 v11 v28 v56) (k0_h2 : k0_cond2 i v3 v11 = 1#1) (k : Prog (TpuEff nD τ sig (Elt F) Λ₀ .tc) PUnit.{1}) : Prog (TpuEff nD τ sig (Elt F) Λ₀ .tc) PUnit.{1} :=
  if k0_h3 : k0_cond3 v56 = 1#1 then do
    let v61 : Elt F .i32 ← smemLoad (Memref.whole main_arg2) (Rect.unit (s := S288) (k0_off19 i) S1.size (k0_off19_inb i)) numel1_S1 rfl
    have k0_hw6 : k0_chk6 i v3 v11 v56 v61 := (← Prog.lift (TpuEff.assume (k0_chk6 i v3 v11 v56 v61) (k0_chk6.dec i v3 v11 v56 v61))).down
    Prog.lift (.enqueueDma (winUAt (k0_off22 v61) (k0_off22_inb i v3 v11 v56 v61 k0_hw6 k0_h2 k0_h3)) (.here (slotUAt (k0_off21 v28) (k0_off21_inb i v3 v11 v28 v56 k0_hw5 k0_h2 k0_h3))) (.dma (semAt (k0_off20 v28) (k0_off20_inb i v3 v11 v28 v56 k0_hw5 k0_h2 k0_h3))) ((View.wordExact_bits rfl).reshape _ _) ((View.wordExact_bits rfl).reshape _ _) ⟨Or.inl rfl, trivial⟩)
    Prog.lift (.enqueueDma (winDAt (k0_off25 v61) (k0_off25_inb i v3 v11 v56 v61 k0_hw6 k0_h2 k0_h3)) (.here (slotDAt (k0_off24 v28) (k0_off24_inb i v3 v11 v28 v56 k0_hw5 k0_h2 k0_h3))) (.dma (semAt (k0_off23 v28) (k0_off23_inb i v3 v11 v28 v56 k0_hw5 k0_h2 k0_h3))) ((View.wordExact_bits rfl).reshape _ _) ((View.wordExact_bits rfl).reshape _ _) ⟨Or.inl rfl, trivial⟩)
    k
  else do
    k

/-- At a change of expert: the wait, the two matrices rounded, and the next transfers. -/
def switchP (i : grid0.Coords) (v3 v11 : Elt F .i32) (k0_hw4 : k0_chk4 i v3 v11) (mX : Memref sig .tc .vmem S2x512x256 .i32) (hX : mX.IsWhole) (mU : Memref sig .tc .vmem S1x1x1x2048 .f32) (hU : mU.IsWhole) (mD : Memref sig .tc .vmem S1x1x1x1024 .f32) (hD : mD.IsWhole) (mO : Memref sig .tc .vmem S2x512x512 .bf16) (hO : mO.IsWhole) (k : Prog (TpuEff nD τ sig (Elt F) Λ₀ .tc) PUnit.{1}) : Prog (TpuEff nD τ sig (Elt F) Λ₀ .tc) PUnit.{1} :=
  if k0_h2 : k0_cond2 i v3 v11 = 1#1 then do
    let ⟨v28, v56, k0_hw5, v58, c0_i32_30⟩ : Σ' (v28 : Elt F .i32) (v56 : Elt F .i32) (k0_hw5 : k0_chk5 i v3 v11 v28 v56) (v58 : BitVec 32), BitVec 32 ← k0_part1 i (Memref.whole main_arg0) (Memref.isWhole_whole _) (Memref.whole main_arg1) (Memref.isWhole_whole _) (Memref.whole main_arg2) (Memref.isWhole_whole _) (Memref.whole main_arg3) (Memref.isWhole_whole _) mX hX mU hU mD hD (Memref.whole main_arg5) (Memref.isWhole_whole _) (Memref.whole main_arg7) (Memref.isWhole_whole _) mO hO (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (BitVec.ofNat 32 (i 0).val) v3 v11 k0_hw4 k0_h2
    moreP i v3 v11 v28 v56 k0_hw5 k0_h2 k
  else do
    k

/-- A block of more than half its rows. -/
def bigP (i : grid0.Coords) (v1 : Elt F .i32) (mX : Memref sig .tc .vmem S2x512x256 .i32) (hX : mX.IsWhole) (mU : Memref sig .tc .vmem S1x1x1x2048 .f32) (hU : mU.IsWhole) (mD : Memref sig .tc .vmem S1x1x1x1024 .f32) (hD : mD.IsWhole) (mO : Memref sig .tc .vmem S2x512x512 .bf16) (hO : mO.IsWhole) (k : Prog (TpuEff nD τ sig (Elt F) Λ₀ .tc) PUnit.{1}) : Prog (TpuEff nD τ sig (Elt F) Λ₀ .tc) PUnit.{1} :=
  if k0_h4 : k0_cond4 v1 = 1#1 then do
    let ⟨v55, v62, v65⟩ : Σ' (v55 : FVec F S512x1024 .f32) (v62 : FVec F S512x1024 .f32), FVec F S512x1024 .f32 ← k0_part2 i (Memref.whole main_arg0) (Memref.isWhole_whole _) (Memref.whole main_arg1) (Memref.isWhole_whole _) (Memref.whole main_arg2) (Memref.isWhole_whole _) (Memref.whole main_arg3) (Memref.isWhole_whole _) mX hX mU hU mD hD (Memref.whole main_arg5) (Memref.isWhole_whole _) (Memref.whole main_arg7) (Memref.isWhole_whole _) mO hO (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v1
    let v69 : Vec F S1024x1024 .bf16 ← Prog.lift (.load (Memref.whole cc0_scratch3) (Rect.unit (s := S1024x1024) ![0, 0] S1024x1024.size inb_S1024x1024_S1024x1024_0_0).toLoadRect (View.loadsAt_vmem h_S1024x1024))
    let v71 : Vec F S1x1x1x1024 .f32 ← Prog.lift (.load mD (Rect.unit (s := S1x1x1x1024) ![0, 0, 0, 0] S1x1x1x1024.size inb_S1x1x1x1024_S1x1x1x1024_0_0_0_0).toLoadRect (View.loadsAt_vmem h_S1x1x1x1024))
    let v77 : Vec F S1x512x512 .bf16 ← Prog.lift (.load mO (Rect.unit (s := S2x512x512) ![0, 0, 0] S1x512x512.size inb_S2x512x512_S1x512x512_0_0_0).toLoadRect (View.loadsAt_vmem h_S1x512x512))
    Prog.lift (.store mO (Rect.unit (s := S2x512x512) ![0, 0, 0] S1x512x512.size inb_S2x512x512_S1x512x512_0_0_0) (k0_pay2 v55 v62 v65 v69 v71) Finset.univ (View.stores_vmem h_S1x512x512 (hO.storeExact_slice rfl _ packedbf16_S2x512x512_S1x512x512_0_0_0) (fun _ => rfl)) (.inl rfl))
    let v81 : Vec F S1x512x512 .bf16 ← Prog.lift (.load mO (Rect.unit (s := S2x512x512) ![1, 0, 0] S1x512x512.size inb_S2x512x512_S1x512x512_1_0_0).toLoadRect (View.loadsAt_vmem h_S1x512x512))
    Prog.lift (.store mO (Rect.unit (s := S2x512x512) ![1, 0, 0] S1x512x512.size inb_S2x512x512_S1x512x512_1_0_0) (k0_pay3 v55 v62 v65 v69 v71) Finset.univ (View.stores_vmem h_S1x512x512 (hO.storeExact_slice rfl _ packedbf16_S2x512x512_S1x512x512_1_0_0) (fun _ => rfl)) (.inl rfl))
    k
  else do
    k

/-- A block of at most half its rows. -/
def smallP (i : grid0.Coords) (v1 : Elt F .i32) (mX : Memref sig .tc .vmem S2x512x256 .i32) (hX : mX.IsWhole) (mU : Memref sig .tc .vmem S1x1x1x2048 .f32) (hU : mU.IsWhole) (mD : Memref sig .tc .vmem S1x1x1x1024 .f32) (hD : mD.IsWhole) (mO : Memref sig .tc .vmem S2x512x512 .bf16) (hO : mO.IsWhole) (k : Prog (TpuEff nD τ sig (Elt F) Λ₀ .tc) PUnit.{1}) : Prog (TpuEff nD τ sig (Elt F) Λ₀ .tc) PUnit.{1} :=
  if k0_h5 : k0_cond5 v1 = 1#1 then do
    let ⟨v55, v62, v65⟩ : Σ' (v55 : FVec F S256x1024 .f32) (v62 : FVec F S256x1024 .f32), FVec F S256x1024 .f32 ← k0_part3 i (Memref.whole main_arg0) (Memref.isWhole_whole _) (Memref.whole main_arg1) (Memref.isWhole_whole _) (Memref.whole main_arg2) (Memref.isWhole_whole _) (Memref.whole main_arg3) (Memref.isWhole_whole _) mX hX mU hU mD hD (Memref.whole main_arg5) (Memref.isWhole_whole _) (Memref.whole main_arg7) (Memref.isWhole_whole _) mO hO (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v1
    let v69 : Vec F S1024x1024 .bf16 ← Prog.lift (.load (Memref.whole cc0_scratch3) (Rect.unit (s := S1024x1024) ![0, 0] S1024x1024.size inb_S1024x1024_S1024x1024_0_0).toLoadRect (View.loadsAt_vmem h_S1024x1024))
    let v71 : Vec F S1x1x1x1024 .f32 ← Prog.lift (.load mD (Rect.unit (s := S1x1x1x1024) ![0, 0, 0, 0] S1x1x1x1024.size inb_S1x1x1x1024_S1x1x1x1024_0_0_0_0).toLoadRect (View.loadsAt_vmem h_S1x1x1x1024))
    let v77 : Vec F S1x256x512 .bf16 ← Prog.lift (.load mO (Rect.unit (s := S2x512x512) ![0, 0, 0] S1x256x512.size inb_S2x512x512_S1x256x512_0_0_0).toLoadRect (View.loadsAt_vmem h_S1x256x512))
    Prog.lift (.store mO (Rect.unit (s := S2x512x512) ![0, 0, 0] S1x256x512.size inb_S2x512x512_S1x256x512_0_0_0) (k0_pay5 v55 v62 v65 v69 v71) Finset.univ (View.stores_vmem h_S1x256x512 (hO.storeExact_slice rfl _ packedbf16_S2x512x512_S1x256x512_0_0_0) (fun _ => rfl)) (.inl rfl))
    let v81 : Vec F S1x256x512 .bf16 ← Prog.lift (.load mO (Rect.unit (s := S2x512x512) ![0, 256, 0] S1x256x512.size inb_S2x512x512_S1x256x512_0_256_0).toLoadRect (View.loadsAt_vmem h_S1x256x512))
    Prog.lift (.store mO (Rect.unit (s := S2x512x512) ![0, 256, 0] S1x256x512.size inb_S2x512x512_S1x256x512_0_256_0) (k0_pay6 (F := F)) Finset.univ (View.stores_vmem h_S1x256x512 (hO.storeExact_slice rfl _ packedbf16_S2x512x512_S1x256x512_0_256_0) (fun _ => rfl)) (.inl rfl))
    let v85 : Vec F S1x256x512 .bf16 ← Prog.lift (.load mO (Rect.unit (s := S2x512x512) ![1, 0, 0] S1x256x512.size inb_S2x512x512_S1x256x512_1_0_0).toLoadRect (View.loadsAt_vmem h_S1x256x512))
    Prog.lift (.store mO (Rect.unit (s := S2x512x512) ![1, 0, 0] S1x256x512.size inb_S2x512x512_S1x256x512_1_0_0) (k0_pay7 v55 v62 v65 v69 v71) Finset.univ (View.stores_vmem h_S1x256x512 (hO.storeExact_slice rfl _ packedbf16_S2x512x512_S1x256x512_1_0_0) (fun _ => rfl)) (.inl rfl))
    let v89 : Vec F S1x256x512 .bf16 ← Prog.lift (.load mO (Rect.unit (s := S2x512x512) ![1, 256, 0] S1x256x512.size inb_S2x512x512_S1x256x512_1_256_0).toLoadRect (View.loadsAt_vmem h_S1x256x512))
    Prog.lift (.store mO (Rect.unit (s := S2x512x512) ![1, 256, 0] S1x256x512.size inb_S2x512x512_S1x256x512_1_256_0) (k0_pay8 (F := F)) Finset.univ (View.stores_vmem h_S1x256x512 (hO.storeExact_slice rfl _ packedbf16_S2x512x512_S1x256x512_1_256_0) (fun _ => rfl)) (.inl rfl))
    k
  else do
    k

/-- A block of no row. -/
def zeroP (v1 : Elt F .i32) (mO : Memref sig .tc .vmem S2x512x512 .bf16) (hO : mO.IsWhole) (k : Prog (TpuEff nD τ sig (Elt F) Λ₀ .tc) PUnit.{1}) : Prog (TpuEff nD τ sig (Elt F) Λ₀ .tc) PUnit.{1} :=
  if k0_h6 : k0_cond6 v1 = 1#1 then do
    let v28 : Vec F S2x512x512 .bf16 ← Prog.lift (.load mO (Rect.unit (s := S2x512x512) ![0, 0, 0] S2x512x512.size inb_S2x512x512_S2x512x512_0_0_0).toLoadRect (View.loadsAt_vmem h_S2x512x512))
    Prog.lift (.store mO (Rect.unit (s := S2x512x512) ![0, 0, 0] S2x512x512.size inb_S2x512x512_S2x512x512_0_0_0) (k0_pay9 (F := F)) Finset.univ (View.stores_vmem h_S2x512x512 (hO.storeExact_slice rfl _ packedbf16_S2x512x512_S2x512x512_0_0_0) (fun _ => rfl)) (.inl rfl))
    k
  else do
    k

/-- One point of the grid. -/
def pointP (i : grid0.Coords) (mX : Memref sig .tc .vmem S2x512x256 .i32) (hX : mX.IsWhole) (mU : Memref sig .tc .vmem S1x1x1x2048 .f32) (hU : mU.IsWhole) (mD : Memref sig .tc .vmem S1x1x1x1024 .f32) (hD : mD.IsWhole) (mO : Memref sig .tc .vmem S2x512x512 .bf16) (hO : mO.IsWhole) : Prog (TpuEff nD τ sig (Elt F) Λ₀ .tc) PUnit.{1} := do
  let v1 : Elt F .i32 ← smemLoad (Memref.whole main_arg1) (Rect.unit (s := S288) (k0_off1 i) S1.size (k0_off1_inb i)) numel1_S1 rfl
  let v3 : Elt F .i32 ← smemLoad (Memref.whole main_arg0) (Rect.unit (s := S288) (k0_off1 i) S1.size (k0_off1_inb i)) numel1_S1 rfl
  have k0_hw2 : k0_chk2 i v3 := (← Prog.lift (TpuEff.assume (k0_chk2 i v3) (k0_chk2.dec i v3))).down
  startP i v3 k0_hw2 do
    let v11 : Elt F .i32 ← smemLoad (Memref.whole main_arg0) (Rect.unit (s := S288) (k0_off8 i) S1.size (k0_off8_inb i)) numel1_S1 rfl
    have k0_hw4 : k0_chk4 i v3 v11 := (← Prog.lift (TpuEff.assume (k0_chk4 i v3 v11) (k0_chk4.dec i v3 v11))).down
    switchP i v3 v11 k0_hw4 mX hX mU hU mD hD mO hO (bigP i v1 mX hX mU hU mD hD mO hO (smallP i v1 mX hX mU hU mD hD mO hO (zeroP v1 mO hO (pure ⟨⟩))))

set_option maxRecDepth 65536 in
theorem point_eq (i : grid0.Coords) (mX : Memref sig .tc .vmem S2x512x256 .i32) (hX : mX.IsWhole) (mU : Memref sig .tc .vmem S1x1x1x2048 .f32) (hU : mU.IsWhole) (mD : Memref sig .tc .vmem S1x1x1x1024 .f32) (hD : mD.IsWhole) (mO : Memref sig .tc .vmem S2x512x512 .bf16) (hO : mO.IsWhole) :
    cc0_experts (F := F) i (Memref.whole main_arg0) (Memref.isWhole_whole _) (Memref.whole main_arg1) (Memref.isWhole_whole _) (Memref.whole main_arg2) (Memref.isWhole_whole _) (Memref.whole main_arg3) (Memref.isWhole_whole _) mX hX mU hU mD hD (Memref.whole main_arg5) (Memref.isWhole_whole _) (Memref.whole main_arg7) (Memref.isWhole_whole _) mO hO (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 = pointP i mX hX mU hU mD hD mO hO := rfl

end Cert.Proof.Experts

end
-- ==== Proof.ExpCtl.lean ====
/-
  The weights' double buffer through one point: what is held before and after, the first start, the switch to the next
  expert, and the points that keep theirs.
-/
module

public import proofs.«01_k».proof.Proof.ExpParts

@[expose] public section

noncomputable section

namespace Cert.Proof.Experts

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type}

local notation "𝕄" => MT nD τ sig Unit (Elt F) ℕ (Pipeline.UD sig nD τ) ℕ

variable (m : (ℓ : Loc nD τ sig) → Buf (Elt F) ℓ) (c : Dev nD)

/-! ## What the program computes of a point's number and its tables' entries -/

theorem nz (b : BitVec 1) : Scalar.cmpi .ne (Scalar.extui b : BitVec 32) 0#32 = 1#1 ↔ b = 1#1 := by
  revert b; decide

theorem coords_ext (i : grid0.Coords) (n : Fin 288) (h : (i 0).val = n.val) : i = fun | 0 => n := by
  funext a; apply Fin.ext
  fin_cases a
  exact h

theorem off1_eq (i : grid0.Coords) (n : ℕ) (hn : n < 288) (h : (i 0).val = n) : k0_off1 i = ![n] := by
  have e : (BitVec.ofNat 32 n).toNat = n := by rw [BitVec.toNat_ofNat]; exact Nat.mod_eq_of_lt (by omega)
  unfold k0_off1; rw [h]; exact congrArg (fun v : ℕ => (![v] : Fin 1 → ℕ)) e

theorem off8_zero (i : grid0.Coords) (h : (i 0).val = 0) : k0_off8 i = ![0] := by
  unfold k0_off8; rw [h]; decide

theorem off8_succ (i : grid0.Coords) (n : ℕ) (hn : n + 1 < 288) (h : (i 0).val = n + 1) : k0_off8 i = ![n] := by
  unfold k0_off8; rw [h]
  have : ∀ n : Fin 287, (Scalar.maxsi (Scalar.subi (BitVec.ofNat 32 (n.val + 1)) 1#32) 0#32 : BitVec 32).toNat = n.val := by decide +kernel
  exact congrArg (fun v : ℕ => (![v] : Fin 1 → ℕ)) (this ⟨n, by omega⟩)

theorem cond1_iff (i : grid0.Coords) : k0_cond1 i = 1#1 ↔ (i 0).val = 0 := by
  unfold k0_cond1
  refine (nz _).trans ?_
  have : ∀ n : Fin 288, (Scalar.cmpi .eq (BitVec.ofNat 32 n.val) 0#32 : BitVec 1) = 1#1 ↔ n.val = 0 := by decide +kernel
  exact this (i 0)

theorem ofBool_iff (b : Bool) : BitVec.ofBool b = 1#1 ↔ b = true := by cases b <;> decide

theorem cond2_iff (i : grid0.Coords) (v w : BitVec 32) : k0_cond2 i v w = 1#1 ↔ (i 0).val = 0 ∨ v ≠ w := by
  unfold k0_cond2
  refine (nz _).trans ?_
  have h : ∀ a b : BitVec 1, Scalar.ori a b = 1#1 ↔ a = 1#1 ∨ b = 1#1 := by decide
  rw [h]
  refine or_congr ?_ ?_
  · have := cond1_iff i; unfold k0_cond1 at this; exact (nz _).symm.trans this
  · show BitVec.ofBool (v != w) = 1#1 ↔ _
    rw [ofBool_iff]; simp

theorem cond3_iff (v : BitVec 32) : k0_cond3 v = 1#1 ↔ 0 ≤ v.toInt := by
  unfold k0_cond3
  refine (nz _).trans ?_
  show BitVec.ofBool ((0#32 : BitVec 32).sle v) = 1#1 ↔ _
  rw [ofBool_iff, BitVec.sle_eq_decide, decide_eq_true_eq]; rfl

theorem cond4_iff (v : BitVec 32) : k0_cond4 v = 1#1 ↔ 256 < v.toInt := by
  unfold k0_cond4
  refine (nz _).trans ?_
  show BitVec.ofBool ((256#32 : BitVec 32).slt v) = 1#1 ↔ _
  rw [ofBool_iff, BitVec.slt_eq_decide, decide_eq_true_eq]; rfl

theorem cond5_iff (v : BitVec 32) : k0_cond5 v = 1#1 ↔ 0 < v.toInt ∧ v.toInt ≤ 256 := by
  unfold k0_cond5
  refine (nz _).trans ?_
  have h : ∀ a b : BitVec 1, Scalar.andi a b = 1#1 ↔ a = 1#1 ∧ b = 1#1 := by decide
  rw [h]
  refine and_congr ?_ ?_
  · show BitVec.ofBool ((0#32 : BitVec 32).slt v) = 1#1 ↔ _
    rw [ofBool_iff, BitVec.slt_eq_decide, decide_eq_true_eq]; rfl
  · show BitVec.ofBool (v.sle (256#32 : BitVec 32)) = 1#1 ↔ _
    rw [ofBool_iff, BitVec.sle_eq_decide, decide_eq_true_eq]; rfl

theorem cond6_iff (v : BitVec 32) : k0_cond6 v = 1#1 ↔ v = 0#32 := by
  unfold k0_cond6
  refine (nz _).trans ?_
  show BitVec.ofBool (v == 0#32) = 1#1 ↔ _
  rw [ofBool_iff]; simp

section
variable (o : BitVec 32)
theorem inbS (h : o.toNat < 2) (q : ℕ) (hq : q < 2) : ∀ a, (![q, o.toNat] : Fin 2 → ℕ) a + S1x1.size a ≤ S2x2.size a := by
  intro a; fin_cases a
  · show q + 1 ≤ 2; omega
  · show o.toNat + 1 ≤ 2; omega
theorem inbU (h : o.toNat < 2) : ∀ a, (![o.toNat, 0, 0] : Fin 3 → ℕ) a + S1x1024x2048.size a ≤ S2x1024x2048.size a := by
  intro a; fin_cases a
  · show o.toNat + 1 ≤ 2; omega
  · show 0 + 1024 ≤ 1024; omega
  · show 0 + 2048 ≤ 2048; omega
theorem inbD (h : o.toNat < 2) : ∀ a, (![o.toNat, 0, 0] : Fin 3 → ℕ) a + S1x1024x1024.size a ≤ S2x1024x1024.size a := by
  intro a; fin_cases a
  · show o.toNat + 1 ≤ 2; omega
  · show 0 + 1024 ≤ 1024; omega
  · show 0 + 1024 ≤ 1024; omega
theorem inbWU (h : o.toNat < 32) : ∀ a, (![0, o.toNat, 0, 0] : Fin 4 → ℕ) a + S1x1x1024x2048.size a ≤ S4x32x1024x2048.size a := by
  intro a; fin_cases a
  · show 0 + 1 ≤ 4; omega
  · show o.toNat + 1 ≤ 32; omega
  · show 0 + 1024 ≤ 1024; omega
  · show 0 + 2048 ≤ 2048; omega
theorem inbWD (h : o.toNat < 32) : ∀ a, (![0, o.toNat, 0, 0] : Fin 4 → ℕ) a + S1x1x1024x1024.size a ≤ S4x32x1024x1024.size a := by
  intro a; fin_cases a
  · show 0 + 1 ≤ 4; omega
  · show o.toNat + 1 ≤ 32; omega
  · show 0 + 1024 ≤ 1024; omega
  · show 0 + 1024 ≤ 1024; omega
end

theorem chk1 (i : grid0.Coords) (v : BitVec 32) (h : v.toNat < 2) : k0_chk1 i v :=
  ⟨fun _ => inbS v h 0 (by decide), fun _ => inbU v h, fun _ => inbS v h 1 (by decide), fun _ => inbD v h⟩
theorem chk2 (i : grid0.Coords) (v : BitVec 32) (h : v.toNat < 32) : k0_chk2 i v := ⟨fun _ => inbWU v h, fun _ => inbWD v h⟩
theorem chk4 (i : grid0.Coords) (v w : BitVec 32) (h : v.toNat < 32) : k0_chk4 i v w := ⟨fun _ => inbWU v h, fun _ => inbWD v h⟩
theorem chk3 (i : grid0.Coords) (v w o : BitVec 32) (h : o.toNat < 2) : k0_chk3 i v w o :=
  ⟨fun _ => inbS o h 0 (by decide), fun _ => inbU o h, fun _ => inbS o h 1 (by decide), fun _ => inbD o h, fun _ => inbU o h, fun _ => inbD o h⟩
theorem chk5 (i : grid0.Coords) (v w o x : BitVec 32) (h : o.toNat < 2) : k0_chk5 i v w o x :=
  have h' : (1#32 - o).toNat < 2 := by rw [one_sub o h]; omega
  ⟨fun _ _ => inbS (1#32 - o) h' 0 (by decide), fun _ _ => inbU (1#32 - o) h', fun _ _ => inbS (1#32 - o) h' 1 (by decide), fun _ _ => inbD (1#32 - o) h'⟩
theorem chk6 (i : grid0.Coords) (v w x y : BitVec 32) (h : 0 ≤ x.toInt → y.toNat < 32) : k0_chk6 i v w x y :=
  ⟨fun _ h3 => inbWU y (h ((cond3_iff x).mp h3)), fun _ h3 => inbWD y (h ((cond3_iff x).mp h3))⟩

/-! ## What is held between points -/

/-- The four tables, at the share the body holds of them. -/
def tabs : sProp 𝕄 :=
  iprop((((c : Thread nD τ).loc main_arg0) ↦{fullShare.right} m ((c : Thread nD τ).loc main_arg0))
    ∗ (((c : Thread nD τ).loc main_arg1) ↦{fullShare.right} m ((c : Thread nD τ).loc main_arg1))
    ∗ (((c : Thread nD τ).loc main_arg2) ↦{fullShare.right} m ((c : Thread nD τ).loc main_arg2))
    ∗ (((c : Thread nD τ).loc main_arg3) ↦{fullShare.right} m ((c : Thread nD τ).loc main_arg3)))

/-- A slot of both buffers, free. -/
def free (p : Fin 2) : sProp 𝕄 := iprop(anyU c p ∗ anyD c p ∗ idleU c p ∗ idleD c p)

/-- The rounded matrices, anything. -/
def anyB : sProp 𝕄 :=
  iprop((∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

variable [FloatOps F]

/-- Expert `e`'s matrices, rounded. -/
def rU (e : Fin 32) : Vec F S1024x2048 .bf16 := k0_pay10 (gU m c e)
def rD (e : Fin 32) : Vec F S1024x1024 .bf16 := k0_pay11 (gD m c e)
def hasB (e : Fin 32) : sProp 𝕄 :=
  iprop((((c : Thread nD τ).loc cc0_scratch2) ↦{fullShare} rU m c e) ∗ (((c : Thread nD τ).loc cc0_scratch3) ↦{fullShare} rD m c e))

/-- Before the first point. -/
def fresh : sProp 𝕄 := iprop(anyB c ∗ free c (pN m c 0) ∗ free c (pN m c 0).rev ∗ allU m c ∗ allD m c)

/-- Before a switch at block `n`: its expert's weights under way. -/
def pend (n : ℕ) : sProp 𝕄 :=
  iprop(anyB c ∗ free c (pN m c n).rev ∗ flyU m c (pN m c n) (eN m c n) ∗ flyD m c (pN m c n) (eN m c n))

/-- The other slot, after block `n`: the next expert's weights under way, or nothing. -/
def ahead (n : ℕ) : sProp 𝕄 :=
  if busy m c n then iprop(flyU m c (pN m c n).rev (xN m c n) ∗ flyD m c (pN m c n).rev (xN m c n))
  else iprop(free c (pN m c n).rev ∗ allU m c ∗ allD m c)

/-- From block `n`'s switch on: its expert's matrices rounded. -/
def ready (n : ℕ) : sProp 𝕄 := iprop(hasB m c (eN m c n) ∗ free c (pN m c n) ∗ ahead m c n)

/-- Before point `n`. -/
def inv : ℕ → sProp 𝕄
  | 0 => fresh m c
  | n + 1 => ready m c n

theorem ready_pend (h : TabOK m c) (n : ℕ) (hn : n + 1 < 288) (he : bE m c (n + 1) ≠ bE m c n) : ready m c n ⊢ pend m c (n + 1) := by
  obtain ⟨h1, h2, h3⟩ := next_of h n hn he
  unfold ready pend ahead hasB anyB
  rw [if_pos h1, h2, h3, Fin.rev_rev]
  iintro ⟨⟨HU, HD⟩, Hf, HfU, HfD⟩
  isplitl [HU HD]
  · isplitl [HU]
    · iexists _; iexact HU
    · iexists _; iexact HD
  isplitl [Hf]; · iexact Hf
  isplitl [HfU]; · iexact HfU
  iexact HfD

theorem ready_same (h : TabOK m c) (n : ℕ) (hn : n + 1 < 288) (he : bE m c (n + 1) = bE m c n) : ready m c n = ready m c (n + 1) := by
  obtain ⟨h1, h2, h3, h4⟩ := same_of h n hn he
  unfold ready ahead
  rw [h1, h2, h3]
  by_cases hb : busy m c n
  · rw [if_pos hb, if_pos (h4.mpr hb)]
  · rw [if_neg hb, if_neg (fun h => hb (h4.mp h))]

/-! ## The pieces -/

theorem wp_start (h : TabOK m c) (i : grid0.Coords) (hi : (i 0).val = 0) {hw : k0_chk2 i (bE m c 0)}
    {k : Prog (TpuEff nD τ sig (Elt F) Λ₀ .tc) PUnit.{1}} {Q : PUnit → sProp 𝕄} :
    iprop(tabs m c ∗ fresh m c ∗ (iprop(tabs m c ∗ pend m c 0) -∗ WP c k Q)) ⊢ WP c (startP i (bE m c 0) hw k) Q := by
  unfold startP
  rw [dif_pos ((cond1_iff i).mpr hi)]
  unfold tabs fresh pend free
  iintro ⟨⟨H0, H1, H2, H3⟩, ⟨HB, ⟨HU, HD, HsU, HsD⟩, Hr, HaU, HaD⟩, Hk⟩
  iapply (read_bS m c 0 (by decide) rfl)
  isplitl [H3]; · iexact H3
  iintro H3
  simp only [Prog.lift, Prog.bind_op, Prog.bind_ret]
  iapply (wp_assume 𝒱₀ (c : Thread nD τ) none Set.univ (chk1 i (bS m c 0) (h.sl 0)))
  iapply (startU m c (pN m c 0) (eN m c 0) (by rw [← pN_val h]; rfl) (by rw [← eN_val h]; rfl) (by rw [← pN_val h]; rfl))
  isplitl [HaU]; · iexact HaU
  isplitl [HU]; · iexact HU
  isplitl [HsU]; · iexact HsU
  iintro HfU
  iapply (startD m c (pN m c 0) (eN m c 0) (by rw [← pN_val h]; rfl) (by rw [← eN_val h]; rfl) (by rw [← pN_val h]; rfl))
  isplitl [HaD]; · iexact HaD
  isplitl [HD]; · iexact HD
  isplitl [HsD]; · iexact HsD
  iintro HfD
  iapply Hk
  isplitl [H0 H1 H2 H3]
  · isplitl [H0]; · iexact H0
    isplitl [H1]; · iexact H1
    isplitl [H2]; · iexact H2
    iexact H3
  isplitl [HB]; · iexact HB
  isplitl [Hr]; · iexact Hr
  isplitl [HfU]; · iexact HfU
  iexact HfD

theorem wp_more (h : TabOK m c) (n : ℕ) (hn : n < 288) (i : grid0.Coords) (hi : (i 0).val = n) {v w : BitVec 32} {hw : k0_chk5 i v w (bS m c n) (bN m c n)}
    {h2 : k0_cond2 i v w = 1#1} {k : Prog (TpuEff nD τ sig (Elt F) Λ₀ .tc) PUnit.{1}} {Q : PUnit → sProp 𝕄} :
    iprop(tabs m c ∗ free c (pN m c n).rev ∗ allU m c ∗ allD m c ∗ (iprop(tabs m c ∗ ahead m c n) -∗ WP c k Q))
      ⊢ WP c (moreP i v w (bS m c n) (bN m c n) hw h2 k) Q := by
  unfold moreP ahead
  by_cases hb : busy m c n
  · rw [dif_pos ((cond3_iff _).mpr hb), if_pos hb]
    unfold tabs free
    iintro ⟨⟨H0, H1, H2, H3⟩, ⟨HU, HD, HsU, HsD⟩, HaU, HaD, Hk⟩
    iapply (read_bN m c n hn (off1_eq i n hn hi))
    isplitl [H2]; · iexact H2
    iintro H2
    simp only [Prog.lift, Prog.bind_op, Prog.bind_ret]
    iapply (wp_assume 𝒱₀ (c : Thread nD τ) none Set.univ (chk6 i v w (bN m c n) (bN m c n) (h.nx n)))
    iapply (startU m c (pN m c n).rev (xN m c n) (by rw [← other_val h]; rfl) (by rw [← xN_val h n hb]; rfl) (by rw [← other_val h]; rfl))
    isplitl [HaU]; · iexact HaU
    isplitl [HU]; · iexact HU
    isplitl [HsU]; · iexact HsU
    iintro HfU
    iapply (startD m c (pN m c n).rev (xN m c n) (by rw [← other_val h]; rfl) (by rw [← xN_val h n hb]; rfl) (by rw [← other_val h]; rfl))
    isplitl [HaD]; · iexact HaD
    isplitl [HD]; · iexact HD
    isplitl [HsD]; · iexact HsD
    iintro HfD
    iapply Hk
    isplitl [H0 H1 H2 H3]
    · isplitl [H0]; · iexact H0
      isplitl [H1]; · iexact H1
      isplitl [H2]; · iexact H2
      iexact H3
    isplitl [HfU]; · iexact HfU
    iexact HfD
  · rw [dif_neg (fun hc => hb ((cond3_iff _).mp hc)), if_neg hb]
    iintro ⟨Ht, Hf, HU, HD, Hk⟩
    iapply Hk
    isplitl [Ht]; · iexact Ht
    isplitl [Hf]; · iexact Hf
    isplitl [HU]; · iexact HU
    iexact HD

end Cert.Proof.Experts

end
-- ==== Proof.ExpSwitch.lean ====
/-
  The switch to the next expert, and the whole of a point before its computation.
-/
module

public import proofs.«01_k».proof.Proof.ExpCtl

@[expose] public section

noncomputable section

namespace Cert.Proof.Experts

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type}

local notation "𝕄" => MT nD τ sig Unit (Elt F) ℕ (Pipeline.UD sig nD τ) ℕ

variable (m : (ℓ : Loc nD τ sig) → Buf (Elt F) ℓ) (c : Dev nD)

/-! ## A buffer accessed over all of it -/

theorem emb_all2 {a b : ℕ} {h : ∀ x, (![0, 0] : Fin 2 → ℕ) x + (⟨2, ![a, b]⟩ : Shape).size x ≤ (⟨2, ![a, b]⟩ : Shape).size x} (y : (⟨2, ![a, b]⟩ : Shape).Idx) :
    (Rect.unit (s := ⟨2, ![a, b]⟩) ![0, 0] (⟨2, ![a, b]⟩ : Shape).size h).emb y = y := by
  funext x; apply Fin.ext
  refine (ValueKit.rect_emb_unit_val _ _ _ _ _).trans ?_
  fin_cases x
  · exact Nat.zero_add _
  · exact Nat.zero_add _

theorem write2 {h} (f w : Vec F S1024x2048 .bf16) :
    ((Memref.whole cc0_scratch2).access (Rect.unit (s := S1024x2048) ![0, 0] S1024x2048.size h)).write (Elt F) f w Finset.univ = w := by
  funext y
  have e := View.write_emb_of_mem (v := (Memref.whole cc0_scratch2).access (Rect.unit (s := S1024x2048) ![0, 0] S1024x2048.size h)) (Val := Elt F) (M := Finset.univ) f w (Finset.mem_univ y)
  rw [show ((Memref.whole cc0_scratch2).access (Rect.unit (s := S1024x2048) ![0, 0] S1024x2048.size h)).emb y = y from emb_all2 (a := 1024) (b := 2048) y] at e
  exact e

theorem write3 {h} (f w : Vec F S1024x1024 .bf16) :
    ((Memref.whole cc0_scratch3).access (Rect.unit (s := S1024x1024) ![0, 0] S1024x1024.size h)).write (Elt F) f w Finset.univ = w := by
  funext y
  have e := View.write_emb_of_mem (v := (Memref.whole cc0_scratch3).access (Rect.unit (s := S1024x1024) ![0, 0] S1024x1024.size h)) (Val := Elt F) (M := Finset.univ) f w (Finset.mem_univ y)
  rw [show ((Memref.whole cc0_scratch3).access (Rect.unit (s := S1024x1024) ![0, 0] S1024x1024.size h)).emb y = y from emb_all2 (a := 1024) (b := 1024) y] at e
  exact e

theorem read2 {h} (f : Vec F S1024x2048 .bf16) :
    ((Memref.whole cc0_scratch2).access (Rect.unit (s := S1024x2048) ![0, 0] S1024x2048.size h)).read (Elt F) f = f := by
  funext y
  exact congrArg f (emb_all2 (a := 1024) (b := 2048) y)

theorem read3 {h} (f : Vec F S1024x1024 .bf16) :
    ((Memref.whole cc0_scratch3).access (Rect.unit (s := S1024x1024) ![0, 0] S1024x1024.size h)).read (Elt F) f = f := by
  funext y
  exact congrArg f (emb_all2 (a := 1024) (b := 1024) y)

theorem hasU_any (p : Fin 2) (e : Fin 32) : hasU m c p e ⊢ anyU (F := F) c p := by
  unfold hasU anyU; iintro H; iexists _; iexact H
theorem hasD_any (p : Fin 2) (e : Fin 32) : hasD m c p e ⊢ anyD (F := F) c p := by
  unfold hasD anyD; iintro H; iexists _; iexact H

variable [FloatOps F]

theorem wp_switch (h : TabOK m c) (n : ℕ) (hn : n < 288) (i : grid0.Coords) (hi : (i 0).val = n) {w : BitVec 32} (hc : k0_cond2 i (bE m c n) w = 1#1)
    {hw : k0_chk4 i (bE m c n) w} {W : Waits sig Unit} {mX : Memref sig .tc .vmem S2x512x256 .i32} {hX : mX.IsWhole} {mU : Memref sig .tc .vmem S1x1x1x2048 .f32}
    {hU : mU.IsWhole} {mD : Memref sig .tc .vmem S1x1x1x1024 .f32} {hD : mD.IsWhole} {mO : Memref sig .tc .vmem S2x512x512 .bf16} {hO : mO.IsWhole}
    {k : Prog (TpuEff nD τ sig (Elt F) Λ₀ .tc) PUnit.{1}} {Q : PUnit → sProp 𝕄} :
    iprop(tabs m c ∗ pend m c n ∗ owes (c : Thread nD τ) 0 W ∗ (iprop(tabs m c ∗ ready m c n ∗ ∃ W', owes (c : Thread nD τ) 0 W') -∗ WP c k Q))
      ⊢ WP c (switchP i (bE m c n) w hw mX hX mU hU mD hD mO hO k) Q := by
  unfold switchP
  rw [dif_pos hc]
  simp only [k0_part1_eq_skeleton]
  unfold k0_part1_skel tabs pend anyB
  iintro ⟨⟨H0, H1, H2, H3⟩, ⟨⟨⟨%fU, HBU⟩, ⟨%fD, HBD⟩⟩, Hr, HfU, HfD⟩, HO, Hk⟩
  simp only [Prog.bind_assoc]
  iapply (read_bS m c n hn (off1_eq i n hn hi))
  isplitl [H3]; · iexact H3
  iintro H3
  simp only [Prog.lift, Prog.bind_op, Prog.bind_ret]
  iapply (wp_assume 𝒱₀ (c : Thread nD τ) none Set.univ (chk3 i (bE m c n) w (bS m c n) (h.sl n)))
  iapply (waitU m c (pN m c n) (eN m c n) (by rw [← pN_val h]; rfl) (by rw [← pN_val h]; rfl))
  isplitl [HfU]; · iexact HfU
  isplitl [HO]; · iexact HO
  iintro ⟨HU, HaU, HsU, ⟨%W₁, HO⟩⟩
  iapply (waitD m c (pN m c n) (eN m c n) (by rw [← pN_val h]; rfl) (by rw [← pN_val h]; rfl))
  isplitl [HfD]; · iexact HfD
  isplitl [HO]; · iexact HO
  iintro ⟨HD, HaD, HsD, HO⟩
  iapply (loadU m c (pN m c n) (eN m c n) (by rw [← pN_val h]; rfl))
  isplitl [HU]; · iexact HU
  iintro HU
  iapply (wp_load_rect (m := Memref.whole cc0_scratch2) (r := Rect.unit (s := S1024x2048) ![0, 0] S1024x2048.size inb_S1024x2048_S1024x2048_0_0) 𝒱₀ (c : Thread nD τ) none Set.univ (S := Finset.univ) (Finset.subset_univ _)) $$ HBU
  iintro HBU
  iapply (wp_store (m := Memref.whole cc0_scratch2) (r := Rect.unit (s := S1024x2048) ![0, 0] S1024x2048.size inb_S1024x2048_S1024x2048_0_0) 𝒱₀ (c : Thread nD τ) none Set.univ (S := Finset.univ) (Mk := Finset.univ) (Finset.subset_univ _)) $$ HBU
  iintro HBU
  iapply (loadD m c (pN m c n) (eN m c n) (by rw [← pN_val h]; rfl))
  isplitl [HD]; · iexact HD
  iintro HD
  iapply (wp_load_rect (m := Memref.whole cc0_scratch3) (r := Rect.unit (s := S1024x1024) ![0, 0] S1024x1024.size inb_S1024x1024_S1024x1024_0_0) 𝒱₀ (c : Thread nD τ) none Set.univ (S := Finset.univ) (Finset.subset_univ _)) $$ HBD
  iintro HBD
  iapply (wp_store (m := Memref.whole cc0_scratch3) (r := Rect.unit (s := S1024x1024) ![0, 0] S1024x1024.size inb_S1024x1024_S1024x1024_0_0) 𝒱₀ (c : Thread nD τ) none Set.univ (S := Finset.univ) (Mk := Finset.univ) (Finset.subset_univ _)) $$ HBD
  iintro HBD
  iapply (read_bN m c n hn (off1_eq i n hn hi))
  isplitl [H2]; · iexact H2
  iintro H2
  iapply (wp_assume 𝒱₀ (c : Thread nD τ) none Set.univ (chk5 i (bE m c n) w (bS m c n) (bN m c n) (h.sl n)))
  iapply (wp_more m c h n hn i hi (v := bE m c n) (w := w) (hw := chk5 i (bE m c n) w (bS m c n) (bN m c n) (h.sl n)) (h2 := hc))
  isplitl [H0 H1 H2 H3]
  · unfold tabs
    isplitl [H0]; · iexact H0
    isplitl [H1]; · iexact H1
    isplitl [H2]; · iexact H2
    iexact H3
  isplitl [Hr]; · iexact Hr
  isplitl [HaU]; · iexact HaU
  isplitl [HaD]; · iexact HaD
  iintro ⟨Ht, Ha⟩
  iapply Hk
  unfold tabs
  isplitl [Ht]; · iexact Ht
  isplitr [HO]; swap; · iexact HO
  unfold ready hasB rU rD
  isplitl [HBU HBD]
  · isplitl [HBU]
    · iapply (Entails.of_eq (congrArg (fun f => (((c : Thread nD τ).loc cc0_scratch2) ↦{fullShare} f : sProp 𝕄)) (write2 _ _))) $$ HBU
    · iapply (Entails.of_eq (congrArg (fun f => (((c : Thread nD τ).loc cc0_scratch3) ↦{fullShare} f : sProp 𝕄)) (write3 _ _))) $$ HBD
  isplitr [Ha]; swap; · iexact Ha
  unfold free
  isplitl [HU]; · iapply (hasU_any m c _ _) $$ HU
  isplitl [HD]; · iapply (hasD_any m c _ _) $$ HD
  isplitl [HsU]; · iexact HsU
  iexact HsD

theorem wp_keep {i : grid0.Coords} {v w : BitVec 32} (hc : ¬k0_cond2 i v w = 1#1)
    {hw : k0_chk4 i v w} {mX : Memref sig .tc .vmem S2x512x256 .i32} {hX : mX.IsWhole} {mU : Memref sig .tc .vmem S1x1x1x2048 .f32}
    {hU : mU.IsWhole} {mD : Memref sig .tc .vmem S1x1x1x1024 .f32} {hD : mD.IsWhole} {mO : Memref sig .tc .vmem S2x512x512 .bf16} {hO : mO.IsWhole}
    {k : Prog (TpuEff nD τ sig (Elt F) Λ₀ .tc) PUnit.{1}} {Q : PUnit → sProp 𝕄} :
    WP c k Q ⊢ WP c (switchP i v w hw mX hX mU hU mD hD mO hO k) Q := by
  unfold switchP
  rw [dif_neg hc]

/-- A point up to its computation: from what is held before it to the expert's matrices rounded. -/
theorem wp_ctl (h : TabOK m c) (n : ℕ) (hn : n < 288) (i : grid0.Coords) (hi : (i 0).val = n) {W : Waits sig Unit} {hw : k0_chk2 i (bE m c n)}
    {mX : Memref sig .tc .vmem S2x512x256 .i32} {hX : mX.IsWhole} {mU : Memref sig .tc .vmem S1x1x1x2048 .f32}
    {hU : mU.IsWhole} {mD : Memref sig .tc .vmem S1x1x1x1024 .f32} {hD : mD.IsWhole} {mO : Memref sig .tc .vmem S2x512x512 .bf16} {hO : mO.IsWhole}
    {k : Prog (TpuEff nD τ sig (Elt F) Λ₀ .tc) PUnit.{1}} {Q : PUnit → sProp 𝕄} :
    iprop(tabs m c ∗ inv m c n ∗ owes (c : Thread nD τ) 0 W ∗ (iprop(tabs m c ∗ ready m c n ∗ ∃ W', owes (c : Thread nD τ) 0 W') -∗ WP c k Q))
      ⊢ WP c (startP i (bE m c n) hw (smemLoad (Memref.whole main_arg0) (Rect.unit (s := S288) (k0_off8 i) S1.size (k0_off8_inb i)) numel1_S1 rfl >>= fun v11 =>
          Prog.lift (TpuEff.assume (k0_chk4 i (bE m c n) v11) (k0_chk4.dec i (bE m c n) v11)) >>= fun l =>
          switchP i (bE m c n) v11 l.down mX hX mU hU mD hD mO hO k)) Q := by
  cases n with
  | zero =>
    rw [show inv m c 0 = fresh m c from rfl]
    iintro ⟨Ht, Hi, HO, Hk⟩
    iapply (wp_start m c h i hi)
    isplitl [Ht]; · iexact Ht
    isplitl [Hi]; · iexact Hi
    unfold tabs
    iintro ⟨⟨H0, Ht⟩, Hp⟩
    iapply (read_bE m c 0 hn (off8_zero i hi))
    isplitl [H0]; · iexact H0
    iintro H0
    simp only [Prog.lift, Prog.bind_op, Prog.bind_ret]
    iapply (wp_assume 𝒱₀ (c : Thread nD τ) none Set.univ (chk4 i (bE m c 0) (bE m c 0) (h.be 0)))
    iapply (wp_switch m c h 0 hn i hi ((cond2_iff i _ _).mpr (Or.inl hi)))
    unfold tabs
    isplitl [H0 Ht]
    · isplitl [H0]; · iexact H0
      iexact Ht
    isplitl [Hp]; · iexact Hp
    isplitl [HO]; · iexact HO
    iexact Hk
  | succ n =>
    unfold startP
    rw [dif_neg (fun hc => absurd ((cond1_iff i).mp hc) (by omega))]
    rw [show inv m c (n + 1) = ready m c n from rfl]
    unfold tabs
    iintro ⟨⟨H0, Ht⟩, Hp, HO, Hk⟩
    iapply (read_bE m c n (by omega) (off8_succ i n hn hi))
    isplitl [H0]; · iexact H0
    iintro H0
    simp only [Prog.lift, Prog.bind_op, Prog.bind_ret]
    iapply (wp_assume 𝒱₀ (c : Thread nD τ) none Set.univ (chk4 i (bE m c (n + 1)) (bE m c n) (h.be (n + 1))))
    by_cases he : bE m c (n + 1) = bE m c n
    · iapply (wp_keep c (fun hc => ((cond2_iff i _ _).mp hc).elim (by omega) (fun hne => hne he)))
      ihave Hp := (Entails.of_eq (ready_same m c h n hn he)) $$ Hp
      iapply Hk
      isplitl [H0 Ht]
      · isplitl [H0]; · iexact H0
        iexact Ht
      isplitl [Hp]; · iexact Hp
      iexists _; iexact HO
    · iapply (wp_switch m c h (n + 1) hn i hi ((cond2_iff i _ _).mpr (Or.inr he)))
      unfold tabs
      isplitl [H0 Ht]
      · isplitl [H0]; · iexact H0
        iexact Ht
      isplitl [Hp]
      · iapply (ready_pend m c h n hn he) $$ Hp
      isplitl [HO]; · iexact HO
      iexact Hk

end Cert.Proof.Experts

end
-- ==== Proof.ExpComp.lean ====
/-
  The computation of one point: what it stores, as a function of its count of live rows, the block's rows, the two
  biases and the two rounded matrices.
-/
module

public import proofs.«01_k».proof.Proof.ExpSwitch

@[expose] public section

noncomputable section

namespace Cert.Proof.Experts

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type}

local notation "𝕄" => MT nD τ sig Unit (Elt F) ℕ (Pipeline.UD sig nD τ) ℕ

variable (m : (ℓ : Loc nD τ sig) → Buf (Elt F) ℓ) (c : Dev nD)

variable [FloatOps F]

/-! ## What is loaded and what is stored -/

abbrev rX0 : Rect S2x512x256 := Rect.unit (s := S2x512x256) ![0, 0, 0] S1x512x256.size inb_S2x512x256_S1x512x256_0_0_0
abbrev rX1 : Rect S2x512x256 := Rect.unit (s := S2x512x256) ![1, 0, 0] S1x512x256.size inb_S2x512x256_S1x512x256_1_0_0
abbrev rS0 : Rect S2x512x256 := Rect.unit (s := S2x512x256) ![0, 0, 0] S1x256x256.size inb_S2x512x256_S1x256x256_0_0_0
abbrev rS1 : Rect S2x512x256 := Rect.unit (s := S2x512x256) ![1, 0, 0] S1x256x256.size inb_S2x512x256_S1x256x256_1_0_0
abbrev rBU : Rect S1x1x1x2048 := Rect.unit (s := S1x1x1x2048) ![0, 0, 0, 0] S1x1x1x2048.size inb_S1x1x1x2048_S1x1x1x2048_0_0_0_0
abbrev rBD : Rect S1x1x1x1024 := Rect.unit (s := S1x1x1x1024) ![0, 0, 0, 0] S1x1x1x1024.size inb_S1x1x1x1024_S1x1x1x1024_0_0_0_0
abbrev rO0 : Rect S2x512x512 := Rect.unit (s := S2x512x512) ![0, 0, 0] S1x512x512.size inb_S2x512x512_S1x512x512_0_0_0
abbrev rO1 : Rect S2x512x512 := Rect.unit (s := S2x512x512) ![1, 0, 0] S1x512x512.size inb_S2x512x512_S1x512x512_1_0_0
abbrev rH0 : Rect S2x512x512 := Rect.unit (s := S2x512x512) ![0, 0, 0] S1x256x512.size inb_S2x512x512_S1x256x512_0_0_0
abbrev rH1 : Rect S2x512x512 := Rect.unit (s := S2x512x512) ![0, 256, 0] S1x256x512.size inb_S2x512x512_S1x256x512_0_256_0
abbrev rH2 : Rect S2x512x512 := Rect.unit (s := S2x512x512) ![1, 0, 0] S1x256x512.size inb_S2x512x512_S1x256x512_1_0_0
abbrev rH3 : Rect S2x512x512 := Rect.unit (s := S2x512x512) ![1, 256, 0] S1x256x512.size inb_S2x512x512_S1x256x512_1_256_0
abbrev rZ : Rect S2x512x512 := Rect.unit (s := S2x512x512) ![0, 0, 0] S2x512x512.size inb_S2x512x512_S2x512x512_0_0_0

/-- What is loaded of a block through a rectangle. -/
abbrev ld {s : Shape} {e : EltTy} (r : Rect s) (X : s.Idx → Elt F e) : r.shape.Idx → Elt F e := fun x => X (r.emb x)

section
variable (v : Elt F .i32) (X : Vec F S2x512x256 .i32) (U : Vec F S1x1x1x2048 .f32) (D : Vec F S1x1x1x1024 .f32) (A : Vec F S1024x2048 .bf16) (B : Vec F S1024x1024 .bf16)

def big0 : FVec F S1x512x512 .bf16 :=
  k0_pay2 (k0_pay13 v (ld rX0 X) (ld rX1 X) A (ld rBU U)) (k0_pay14 v (ld rX0 X) (ld rX1 X) A (ld rBU U)) (k0_pay15 v (ld rX0 X) (ld rX1 X) A (ld rBU U)) B (ld rBD D)
def big1 : FVec F S1x512x512 .bf16 :=
  k0_pay3 (k0_pay13 v (ld rX0 X) (ld rX1 X) A (ld rBU U)) (k0_pay14 v (ld rX0 X) (ld rX1 X) A (ld rBU U)) (k0_pay15 v (ld rX0 X) (ld rX1 X) A (ld rBU U)) B (ld rBD D)
def small0 : FVec F S1x256x512 .bf16 :=
  k0_pay5 (k0_pay17 v (ld rS0 X) (ld rS1 X) A (ld rBU U)) (k0_pay18 v (ld rS0 X) (ld rS1 X) A (ld rBU U)) (k0_pay19 v (ld rS0 X) (ld rS1 X) A (ld rBU U)) B (ld rBD D)
def small1 : FVec F S1x256x512 .bf16 :=
  k0_pay7 (k0_pay17 v (ld rS0 X) (ld rS1 X) A (ld rBU U)) (k0_pay18 v (ld rS0 X) (ld rS1 X) A (ld rBU U)) (k0_pay19 v (ld rS0 X) (ld rS1 X) A (ld rBU U)) B (ld rBD D)

def zeroB : F .bf16 := Scalar.ofBits .bf16 0x0000#16

/-- A block of more than half its rows; of at most half; of none. -/
def outBig : Vec F S2x512x512 .bf16 := fun y =>
  if (y 0).val = 0 then big0 v X U D A B (ix3 0 (y 1) (y 2)) else big1 v X U D A B (ix3 0 (y 1) (y 2))
def outSmall : Vec F S2x512x512 .bf16 := fun y =>
  if h : (y 1).val < 256 then
    if (y 0).val = 0 then small0 v X U D A B (ix3 0 ⟨(y 1).val, h⟩ (y 2)) else small1 v X U D A B (ix3 0 ⟨(y 1).val, h⟩ (y 2))
  else zeroB
def outZero : Vec F S2x512x512 .bf16 := fun _ => zeroB

/-- What a point stores. -/
def outB : Vec F S2x512x512 .bf16 :=
  if 256 < (v : BitVec 32).toInt then outBig v X U D A B
  else if (v : BitVec 32) = 0#32 then outZero else outSmall v X U D A B
end

theorem mem_of_emb {s : Shape} (r : Rect s) (x : r.shape.Idx) (y : s.Idx) (h : r.emb x = y) : y ∈ r.set := by
  rw [← Rect.map_emb_univ]; exact Finset.mem_map.mpr ⟨x, Finset.mem_univ _, h⟩

theorem emb3 {s sz o : Fin 3 → ℕ} {h : ∀ a, o a + sz a ≤ s a} (x : (Rect.unit (s := ⟨3, s⟩) o sz h).shape.Idx) (a : Fin 3) :
    (((Rect.unit (s := ⟨3, s⟩) o sz h).emb x) a).val = o a + (x a).val := ValueKit.rect_emb_unit_val _ _ _ _ _

/-! ## The two kinds of access -/

theorem owns_load {cs : CoreSpace} {s : Shape} {e : EltTy} {M : Memref sig .tc cs s e} {r : Rect s} {X : s.Idx → Elt F e}
    {hl} {α : Type} {k : (r.shape.Idx → Elt F e) → Prog (TpuEff nD τ sig (Elt F) Λ₀ .tc) α} {Q : α → sProp 𝕄} :
    iprop(owns (c : Thread nD τ) M fullShare X ∗ (owns (c : Thread nD τ) M fullShare X -∗ WP c (k (ld r X)) Q))
      ⊢ WP c (.op (.load M r.toLoadRect hl) k) Q := by
  unfold owns
  iintro ⟨⟨%f, %hf, H⟩, Hk⟩
  subst hf
  iapply (wp_load_rect 𝒱₀ (c : Thread nD τ) none Set.univ (m := M) (r := r) (View.set_slice_subset _ _)) $$ H
  iintro H
  iapply Hk
  iexists f
  isplitr; · ipureintro; rfl
  iexact H

theorem load_A {A : Vec F S1024x2048 .bf16} {α : Type} {hl} {k : Vec F S1024x2048 .bf16 → Prog (TpuEff nD τ sig (Elt F) Λ₀ .tc) α} {Q : α → sProp 𝕄} :
    iprop((((c : Thread nD τ).loc cc0_scratch2) ↦{fullShare} A) ∗ ((((c : Thread nD τ).loc cc0_scratch2) ↦{fullShare} A) -∗ WP c (k A) Q))
      ⊢ WP c (.op (.load (Memref.whole cc0_scratch2) (Rect.unit (s := S1024x2048) ![0, 0] S1024x2048.size inb_S1024x2048_S1024x2048_0_0).toLoadRect hl) k) Q := by
  iintro ⟨H, Hk⟩
  iapply (wp_load_rect (m := Memref.whole cc0_scratch2) (r := Rect.unit (s := S1024x2048) ![0, 0] S1024x2048.size inb_S1024x2048_S1024x2048_0_0) 𝒱₀ (c : Thread nD τ) none Set.univ (S := Finset.univ) (Finset.subset_univ _)) $$ H
  rw [read2]
  iexact Hk

theorem load_B {B : Vec F S1024x1024 .bf16} {α : Type} {hl} {k : Vec F S1024x1024 .bf16 → Prog (TpuEff nD τ sig (Elt F) Λ₀ .tc) α} {Q : α → sProp 𝕄} :
    iprop((((c : Thread nD τ).loc cc0_scratch3) ↦{fullShare} B) ∗ ((((c : Thread nD τ).loc cc0_scratch3) ↦{fullShare} B) -∗ WP c (k B) Q))
      ⊢ WP c (.op (.load (Memref.whole cc0_scratch3) (Rect.unit (s := S1024x1024) ![0, 0] S1024x1024.size inb_S1024x1024_S1024x1024_0_0).toLoadRect hl) k) Q := by
  iintro ⟨H, Hk⟩
  iapply (wp_load_rect (m := Memref.whole cc0_scratch3) (r := Rect.unit (s := S1024x1024) ![0, 0] S1024x1024.size inb_S1024x1024_S1024x1024_0_0) 𝒱₀ (c : Thread nD τ) none Set.univ (S := Finset.univ) (Finset.subset_univ _)) $$ H
  rw [read3]
  iexact Hk

section
variable {v : Elt F .i32} {X : Vec F S2x512x256 .i32} {U : Vec F S1x1x1x2048 .f32} {D : Vec F S1x1x1x1024 .f32} {A : Vec F S1024x2048 .bf16} {B : Vec F S1024x1024 .bf16}
  {mX : Memref sig .tc .vmem S2x512x256 .i32} {hX : mX.IsWhole} {mU : Memref sig .tc .vmem S1x1x1x2048 .f32}
  {hU : mU.IsWhole} {mD : Memref sig .tc .vmem S1x1x1x1024 .f32} {hD : mD.IsWhole} {mO : Memref sig .tc .vmem S2x512x512 .bf16} {hO : mO.IsWhole}

theorem read_big (f : Buf (Elt F) (mO.view.loc (c : Thread nD τ))) :
    mO.view.read (Elt F) ((mO.access rO1).write (Elt F) ((mO.access rO0).write (Elt F) f (big0 v X U D A B) Finset.univ) (big1 v X U D A B) Finset.univ)
      = outBig v X U D A B := by
  funext y
  refine View.read_writes_apply_of_pieces mO.view f (outBig v X U D A B) [⟨rO1, big1 v X U D A B⟩, ⟨rO0, big0 v X U D A B⟩] ?_ y ?_
  · intro p hp x
    rcases List.mem_cons.mp hp with rfl | hp
    · show big1 v X U D A B x = outBig v X U D A B (rO1.emb x)
      unfold outBig
      rw [if_neg (by rw [emb3]; show ¬(1 + _ = 0); omega)]
      refine congrArg _ ?_
      funext a; apply Fin.ext
      fin_cases a
      · exact Nat.lt_one_iff.mp (x 0).isLt
      · exact ((emb3 x 1).trans (Nat.zero_add _)).symm
      · exact ((emb3 x 2).trans (Nat.zero_add _)).symm
    · rcases List.mem_cons.mp hp with rfl | hp
      · show big0 v X U D A B x = outBig v X U D A B (rO0.emb x)
        unfold outBig
        rw [if_pos (by rw [emb3]; have : (x 0).val < 1 := (x 0).isLt; show 0 + (x 0).val = 0; omega)]
        refine congrArg _ ?_
        funext a; apply Fin.ext
        fin_cases a
        · exact Nat.lt_one_iff.mp (x 0).isLt
        · exact ((emb3 x 1).trans (Nat.zero_add _)).symm
        · exact ((emb3 x 2).trans (Nat.zero_add _)).symm
      · exact absurd hp List.not_mem_nil
  · by_cases h0 : (y 0).val = 0
    · refine ⟨⟨rO0, big0 v X U D A B⟩, by simp, mem_of_emb rO0 (ix3 0 (y 1) (y 2)) y ?_⟩
      funext a; apply Fin.ext; rw [emb3]
      fin_cases a
      · show 0 + 0 = (y 0).val; omega
      · exact Nat.zero_add _
      · exact Nat.zero_add _
    · refine ⟨⟨rO1, big1 v X U D A B⟩, by simp, mem_of_emb rO1 (ix3 0 (y 1) (y 2)) y ?_⟩
      funext a; apply Fin.ext; rw [emb3]
      fin_cases a
      · have : (y 0).val < 2 := (y 0).isLt
        show 1 + 0 = (y 0).val; omega
      · exact Nat.zero_add _
      · exact Nat.zero_add _

theorem read_small (f : Buf (Elt F) (mO.view.loc (c : Thread nD τ))) :
    mO.view.read (Elt F) ((mO.access rH3).write (Elt F) ((mO.access rH2).write (Elt F) ((mO.access rH1).write (Elt F)
      ((mO.access rH0).write (Elt F) f (small0 v X U D A B) Finset.univ) (k0_pay6 (F := F)) Finset.univ) (small1 v X U D A B) Finset.univ) (k0_pay8 (F := F)) Finset.univ)
      = outSmall v X U D A B := by
  funext y
  refine View.read_writes_apply_of_pieces mO.view f (outSmall v X U D A B)
    [⟨rH3, k0_pay8 (F := F)⟩, ⟨rH2, small1 v X U D A B⟩, ⟨rH1, k0_pay6 (F := F)⟩, ⟨rH0, small0 v X U D A B⟩] ?_ y ?_
  · intro p hp x
    rcases List.mem_cons.mp hp with rfl | hp
    · show k0_pay8 (F := F) x = outSmall v X U D A B (rH3.emb x)
      unfold outSmall
      rw [dif_neg (by rw [emb3]; show ¬(256 + _ < 256); omega)]
      rfl
    rcases List.mem_cons.mp hp with rfl | hp
    · show small1 v X U D A B x = outSmall v X U D A B (rH2.emb x)
      unfold outSmall
      have h1 : (x 1).val < 256 := (x 1).isLt
      rw [dif_pos (by rw [emb3]; show 0 + (x 1).val < 256; omega), if_neg (by rw [emb3]; show ¬(1 + _ = 0); omega)]
      refine congrArg _ ?_
      funext a; apply Fin.ext
      fin_cases a
      · exact Nat.lt_one_iff.mp (x 0).isLt
      · exact ((emb3 x 1).trans (Nat.zero_add _)).symm
      · exact ((emb3 x 2).trans (Nat.zero_add _)).symm
    rcases List.mem_cons.mp hp with rfl | hp
    · show k0_pay6 (F := F) x = outSmall v X U D A B (rH1.emb x)
      unfold outSmall
      rw [dif_neg (by rw [emb3]; show ¬(256 + _ < 256); omega)]
      rfl
    rcases List.mem_cons.mp hp with rfl | hp
    · show small0 v X U D A B x = outSmall v X U D A B (rH0.emb x)
      unfold outSmall
      have h1 : (x 1).val < 256 := (x 1).isLt
      have h0 : (x 0).val < 1 := (x 0).isLt
      rw [dif_pos (by rw [emb3]; show 0 + (x 1).val < 256; omega), if_pos (by rw [emb3]; show 0 + (x 0).val = 0; omega)]
      refine congrArg _ ?_
      funext a; apply Fin.ext
      fin_cases a
      · exact Nat.lt_one_iff.mp (x 0).isLt
      · exact ((emb3 x 1).trans (Nat.zero_add _)).symm
      · exact ((emb3 x 2).trans (Nat.zero_add _)).symm
    exact absurd hp List.not_mem_nil
  · have hy0 : (y 0).val < 2 := (y 0).isLt
    have hy1 : (y 1).val < 512 := (y 1).isLt
    by_cases h0 : (y 0).val = 0 <;> by_cases h1 : (y 1).val < 256
    · refine ⟨⟨rH0, small0 v X U D A B⟩, by simp, mem_of_emb rH0 (ix3 0 ⟨(y 1).val, h1⟩ (y 2)) y ?_⟩
      funext a; apply Fin.ext; rw [emb3]
      fin_cases a
      · show 0 + 0 = (y 0).val; omega
      · exact Nat.zero_add _
      · exact Nat.zero_add _
    · refine ⟨⟨rH1, k0_pay6 (F := F)⟩, by simp, mem_of_emb rH1 (ix3 0 ⟨(y 1).val - 256, by show _ < 256; omega⟩ (y 2)) y ?_⟩
      funext a; apply Fin.ext; rw [emb3]
      fin_cases a
      · show 0 + 0 = (y 0).val; omega
      · show 256 + ((y 1).val - 256) = (y 1).val; omega
      · exact Nat.zero_add _
    · refine ⟨⟨rH2, small1 v X U D A B⟩, by simp, mem_of_emb rH2 (ix3 0 ⟨(y 1).val, h1⟩ (y 2)) y ?_⟩
      funext a; apply Fin.ext; rw [emb3]
      fin_cases a
      · show 1 + 0 = (y 0).val; omega
      · exact Nat.zero_add _
      · exact Nat.zero_add _
    · refine ⟨⟨rH3, k0_pay8 (F := F)⟩, by simp, mem_of_emb rH3 (ix3 0 ⟨(y 1).val - 256, by show _ < 256; omega⟩ (y 2)) y ?_⟩
      funext a; apply Fin.ext; rw [emb3]
      fin_cases a
      · show 1 + 0 = (y 0).val; omega
      · show 256 + ((y 1).val - 256) = (y 1).val; omega
      · exact Nat.zero_add _

theorem read_zero (f : Buf (Elt F) (mO.view.loc (c : Thread nD τ))) :
    mO.view.read (Elt F) ((mO.access rZ).write (Elt F) f (k0_pay9 (F := F)) Finset.univ) = outZero := by
  funext y
  refine View.read_writes_apply_of_pieces mO.view f outZero [⟨rZ, k0_pay9 (F := F)⟩] ?_ y ?_
  · intro p hp x
    rcases List.mem_cons.mp hp with rfl | hp
    · rfl
    · exact absurd hp List.not_mem_nil
  · refine ⟨⟨rZ, k0_pay9 (F := F)⟩, by simp, mem_of_emb rZ y y ?_⟩
    funext a; apply Fin.ext; rw [emb3]
    fin_cases a
    · exact Nat.zero_add _
    · exact Nat.zero_add _
    · exact Nat.zero_add _

/-! ## The three computations -/

/-- The staged blocks and the rounded matrices. -/
def held (mX : Memref sig .tc .vmem S2x512x256 .i32) (mU : Memref sig .tc .vmem S1x1x1x2048 .f32) (mD : Memref sig .tc .vmem S1x1x1x1024 .f32)
    (X : Vec F S2x512x256 .i32) (U : Vec F S1x1x1x2048 .f32) (D : Vec F S1x1x1x1024 .f32) (A : Vec F S1024x2048 .bf16) (B : Vec F S1024x1024 .bf16) : sProp 𝕄 :=
  iprop(owns (c : Thread nD τ) mX fullShare X ∗ owns (c : Thread nD τ) mU fullShare U ∗ owns (c : Thread nD τ) mD fullShare D
    ∗ (((c : Thread nD τ).loc cc0_scratch2) ↦{fullShare} A) ∗ (((c : Thread nD τ).loc cc0_scratch3) ↦{fullShare} B))

theorem wp_big (i : grid0.Coords) (h4 : k0_cond4 v = 1#1) {k : Prog (TpuEff nD τ sig (Elt F) Λ₀ .tc) PUnit.{1}} {Q : PUnit → sProp 𝕄} :
    iprop(held c mX mU mD X U D A B ∗ (∃ d, owns (c : Thread nD τ) mO fullShare d)
        ∗ (iprop(held c mX mU mD X U D A B ∗ owns (c : Thread nD τ) mO fullShare (outBig v X U D A B)) -∗ WP c k Q))
      ⊢ WP c (bigP i v mX hX mU hU mD hD mO hO k) Q := by
  unfold bigP
  rw [dif_pos h4]
  simp only [k0_part2_eq_skeleton]
  unfold k0_part2_skel held
  simp only [Prog.lift, Prog.bind_op, Prog.bind_ret, Prog.bind_assoc, Prog.pure_eq_ret]
  iintro ⟨⟨HX, HU, HD, HA, HB⟩, ⟨%d, HO⟩, Hk⟩
  iapply (owns_load c (r := rX0)); isplitl [HX]; · iexact HX
  iintro HX
  iapply (owns_load c (r := rX1)); isplitl [HX]; · iexact HX
  iintro HX
  iapply (load_A c); isplitl [HA]; · iexact HA
  iintro HA
  iapply (owns_load c (r := rBU)); isplitl [HU]; · iexact HU
  iintro HU
  iapply (load_B c); isplitl [HB]; · iexact HB
  iintro HB
  iapply (owns_load c (r := rBD)); isplitl [HD]; · iexact HD
  iintro HD
  unfold owns
  icases HO with ⟨%f, -, HO⟩
  iapply (wp_load_rect 𝒱₀ (c : Thread nD τ) none Set.univ (m := mO) (r := rO0) (View.set_slice_subset _ _)) $$ HO
  iintro HO
  iapply (wp_store 𝒱₀ (c : Thread nD τ) none Set.univ (m := mO) (r := rO0) (Mk := Finset.univ) (View.set_slice_subset _ _)) $$ HO
  iintro HO
  iapply (wp_load_rect 𝒱₀ (c : Thread nD τ) none Set.univ (m := mO) (r := rO1) (View.set_slice_subset _ _)) $$ HO
  iintro HO
  iapply (wp_store 𝒱₀ (c : Thread nD τ) none Set.univ (m := mO) (r := rO1) (Mk := Finset.univ) (View.set_slice_subset _ _)) $$ HO
  iintro HO
  iapply Hk
  isplitl [HX HU HD HA HB]
  · isplitl [HX]; · iexact HX
    isplitl [HU]; · iexact HU
    isplitl [HD]; · iexact HD
    isplitl [HA]; · iexact HA
    iexact HB
  iexists _; isplitr
  swap; · iexact HO
  ipureintro; exact read_big c f

theorem wp_small (i : grid0.Coords) (h5 : k0_cond5 v = 1#1) {k : Prog (TpuEff nD τ sig (Elt F) Λ₀ .tc) PUnit.{1}} {Q : PUnit → sProp 𝕄} :
    iprop(held c mX mU mD X U D A B ∗ (∃ d, owns (c : Thread nD τ) mO fullShare d)
        ∗ (iprop(held c mX mU mD X U D A B ∗ owns (c : Thread nD τ) mO fullShare (outSmall v X U D A B)) -∗ WP c k Q))
      ⊢ WP c (smallP i v mX hX mU hU mD hD mO hO k) Q := by
  unfold smallP
  rw [dif_pos h5]
  simp only [k0_part3_eq_skeleton]
  unfold k0_part3_skel held
  simp only [Prog.lift, Prog.bind_op, Prog.bind_ret, Prog.bind_assoc, Prog.pure_eq_ret]
  iintro ⟨⟨HX, HU, HD, HA, HB⟩, ⟨%d, HO⟩, Hk⟩
  iapply (owns_load c (r := rS0)); isplitl [HX]; · iexact HX
  iintro HX
  iapply (owns_load c (r := rS1)); isplitl [HX]; · iexact HX
  iintro HX
  iapply (load_A c); isplitl [HA]; · iexact HA
  iintro HA
  iapply (owns_load c (r := rBU)); isplitl [HU]; · iexact HU
  iintro HU
  iapply (load_B c); isplitl [HB]; · iexact HB
  iintro HB
  iapply (owns_load c (r := rBD)); isplitl [HD]; · iexact HD
  iintro HD
  unfold owns
  icases HO with ⟨%f, -, HO⟩
  iapply (wp_load_rect 𝒱₀ (c : Thread nD τ) none Set.univ (m := mO) (r := rH0) (View.set_slice_subset _ _)) $$ HO
  iintro HO
  iapply (wp_store 𝒱₀ (c : Thread nD τ) none Set.univ (m := mO) (r := rH0) (Mk := Finset.univ) (View.set_slice_subset _ _)) $$ HO
  iintro HO
  iapply (wp_load_rect 𝒱₀ (c : Thread nD τ) none Set.univ (m := mO) (r := rH1) (View.set_slice_subset _ _)) $$ HO
  iintro HO
  iapply (wp_store 𝒱₀ (c : Thread nD τ) none Set.univ (m := mO) (r := rH1) (Mk := Finset.univ) (View.set_slice_subset _ _)) $$ HO
  iintro HO
  iapply (wp_load_rect 𝒱₀ (c : Thread nD τ) none Set.univ (m := mO) (r := rH2) (View.set_slice_subset _ _)) $$ HO
  iintro HO
  iapply (wp_store 𝒱₀ (c : Thread nD τ) none Set.univ (m := mO) (r := rH2) (Mk := Finset.univ) (View.set_slice_subset _ _)) $$ HO
  iintro HO
  iapply (wp_load_rect 𝒱₀ (c : Thread nD τ) none Set.univ (m := mO) (r := rH3) (View.set_slice_subset _ _)) $$ HO
  iintro HO
  iapply (wp_store 𝒱₀ (c : Thread nD τ) none Set.univ (m := mO) (r := rH3) (Mk := Finset.univ) (View.set_slice_subset _ _)) $$ HO
  iintro HO
  iapply Hk
  isplitl [HX HU HD HA HB]
  · isplitl [HX]; · iexact HX
    isplitl [HU]; · iexact HU
    isplitl [HD]; · iexact HD
    isplitl [HA]; · iexact HA
    iexact HB
  iexists _; isplitr
  swap; · iexact HO
  ipureintro; exact read_small c f

theorem wp_zero (h6 : k0_cond6 v = 1#1) {k : Prog (TpuEff nD τ sig (Elt F) Λ₀ .tc) PUnit.{1}} {Q : PUnit → sProp 𝕄} :
    iprop((∃ d, owns (c : Thread nD τ) mO fullShare d) ∗ (owns (c : Thread nD τ) mO fullShare (outZero (F := F)) -∗ WP c k Q))
      ⊢ WP c (zeroP v mO hO k) Q := by
  unfold zeroP owns
  rw [dif_pos h6]
  simp only [Prog.lift, Prog.bind_op, Prog.bind_ret]
  iintro ⟨⟨%d, %f, -, HO⟩, Hk⟩
  iapply (wp_load_rect 𝒱₀ (c : Thread nD τ) none Set.univ (m := mO) (r := rZ) (View.set_slice_subset _ _)) $$ HO
  iintro HO
  iapply (wp_store 𝒱₀ (c : Thread nD τ) none Set.univ (m := mO) (r := rZ) (Mk := Finset.univ) (View.set_slice_subset _ _)) $$ HO
  iintro HO
  iapply Hk
  iexists _; isplitr
  swap; · iexact HO
  ipureintro; exact read_zero c f

theorem no_big (i : grid0.Coords) (h4 : ¬k0_cond4 v = 1#1) (k : Prog (TpuEff nD τ sig (Elt F) Λ₀ .tc) PUnit.{1}) : bigP i v mX hX mU hU mD hD mO hO k = k := by
  unfold bigP; rw [dif_neg h4]
theorem no_small (i : grid0.Coords) (h5 : ¬k0_cond5 v = 1#1) (k : Prog (TpuEff nD τ sig (Elt F) Λ₀ .tc) PUnit.{1}) : smallP i v mX hX mU hU mD hD mO hO k = k := by
  unfold smallP; rw [dif_neg h5]
theorem no_zero (h6 : ¬k0_cond6 v = 1#1) (k : Prog (TpuEff nD τ sig (Elt F) Λ₀ .tc) PUnit.{1}) : zeroP v mO hO k = k := by
  unfold zeroP; rw [dif_neg h6]

/-- One point's computation. -/
theorem wp_comp (i : grid0.Coords) (hv : (v : BitVec 32).toNat ≤ 512) {k : Prog (TpuEff nD τ sig (Elt F) Λ₀ .tc) PUnit.{1}} {Q : PUnit → sProp 𝕄} :
    iprop(held c mX mU mD X U D A B ∗ (∃ d, owns (c : Thread nD τ) mO fullShare d)
        ∗ (iprop(held c mX mU mD X U D A B ∗ owns (c : Thread nD τ) mO fullShare (outB v X U D A B)) -∗ WP c k Q))
      ⊢ WP c (bigP i v mX hX mU hU mD hD mO hO (smallP i v mX hX mU hU mD hD mO hO (zeroP v mO hO k))) Q := by
  have hi : (v : BitVec 32).toInt = ((v : BitVec 32).toNat : ℤ) := by rw [BitVec.toInt_eq_toNat_cond]; split <;> omega
  unfold outB
  by_cases h4 : 256 < (v : BitVec 32).toInt
  · have h6 : ¬k0_cond6 v = 1#1 := fun h => by rw [cond6_iff] at h; rw [h] at h4; exact absurd h4 (by decide)
    rw [if_pos h4, no_small i (fun h => by rw [cond5_iff] at h; omega), no_zero h6]
    exact wp_big c i ((cond4_iff v).mpr h4)
  · rw [if_neg h4, no_big i (fun h => h4 ((cond4_iff v).mp h))]
    by_cases h6 : (v : BitVec 32) = 0#32
    · have h5 : ¬k0_cond5 v = 1#1 := fun h => by rw [cond5_iff, h6] at h; exact absurd h.1 (by decide)
      rw [if_pos h6, no_small i h5]
      iintro ⟨HH, HO, Hk⟩
      iapply (wp_zero c ((cond6_iff v).mpr h6))
      isplitl [HO]; · iexact HO
      iintro HO
      iapply Hk
      isplitl [HH]; · iexact HH
      iexact HO
    · rw [if_neg h6, no_zero (fun h => h6 ((cond6_iff v).mp h))]
      refine wp_small c i ((cond5_iff v).mpr ⟨?_, by omega⟩)
      have : (v : BitVec 32).toNat ≠ 0 := fun h => h6 (BitVec.eq_of_toNat_eq h)
      omega
end

end Cert.Proof.Experts

end
-- ==== Proof.ExpBody.lean ====
/-
  The pipeline at the tables the launch is given, what each window's staging buffer holds at each point, and the
  obligation of one point.
-/
module

public import proofs.«01_k».proof.Proof.ExpComp

@[expose] public section

noncomputable section

namespace Cert.Proof.Experts

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type}

local notation "𝕄" => MT nD τ sig Unit (Elt F) ℕ (Pipeline.UD sig nD τ) ℕ

variable (m : (ℓ : Loc nD τ sig) → Buf (Elt F) ℓ) (c : Dev nD)

variable [FloatOps F]

open Idealize.ShloMosaic.Pipeline (Dat Cfg Window BodyObligationLoose)

variable {m} (h : TabOK m 0)

theorem ok_all (h : TabOK m 0) : TabOK m c := by rw [Subsingleton.elim c (0 : Dev nD)]; exact h

/-! ## The tables the launch is given -/

def pf0 (m : (ℓ : Loc nD τ sig) → Buf (Elt F) ℓ) : pre0.Contents (Elt F) := fun k => m (((0 : Dev nD) : Thread nD τ).loc (pre0.ref k))

/-- The block of the biases named at point `i`. -/
theorem pf_at (i : grid0.Coords) : (pf0 m).at 0 (Rect.unit (s := S288) ![(Scalar.indexCast (BitVec.ofNat 32 (i 0).val) : Index).toNat] S1.size (k0_off1_inb i)) numel1_S1
    = bE m (0 : Dev nD) (i 0).val := by
  have hlt : (i 0).val < 288 := (i 0).isLt
  have e : (Scalar.indexCast (BitVec.ofNat 32 (i 0).val) : Index).toNat = (i 0).val :=
    (BitVec.toNat_ofNat (i 0).val 32).trans (Nat.mod_eq_of_lt (by omega))
  refine congrArg (m (((0 : Dev nD) : Thread nD τ).loc main_arg0)) (?_ : (_ : S288.Idx) = _)
  funext a; apply Fin.ext
  fin_cases a
  refine (ValueKit.rect_emb_unit_val _ _ _ _ _).trans ?_
  show (Scalar.indexCast (BitVec.ofNat 32 (i 0).val) : Index).toNat + 0 = (i 0).val % 288
  rw [e, Nat.mod_eq_of_lt hlt]; rfl

theorem tr1 (i : grid0.Coords) : cc0_transform_1 k0_off1_inb numel1_S1 (pf0 m) i = ![0, (bE m (0 : Dev nD) (i 0).val).toNat, 0, 0] := by
  unfold cc0_transform_1
  exact congrArg (fun v : BitVec 32 => (![0, v.toNat, 0, 0] : Fin 4 → ℕ)) (pf_at i)
theorem tr2 (i : grid0.Coords) : cc0_transform_2 k0_off1_inb numel1_S1 (pf0 m) i = ![0, (bE m (0 : Dev nD) (i 0).val).toNat, 0, 0] := by
  unfold cc0_transform_2
  exact congrArg (fun v : BitVec 32 => (![0, v.toNat, 0, 0] : Fin 4 → ℕ)) (pf_at i)

include h in
theorem pf_ok : ok0 (pf0 m) := by
  refine ⟨fun i => ⟨?_, .inl rfl⟩, fun i => ⟨?_, .inl rfl⟩⟩
  · rw [tr1]
    intro a
    have := h.be (i 0).val
    fin_cases a
    · show (0 + 1) * 1 ≤ 4; omega
    · show ((bE m (0 : Dev nD) (i 0).val).toNat + 1) * 1 ≤ 32; omega
    · show (0 + 1) * 1 ≤ 1; omega
    · show (0 + 1) * 2048 ≤ 2048; omega
  · rw [tr2]
    intro a
    have := h.be (i 0).val
    fin_cases a
    · show (0 + 1) * 1 ≤ 4; omega
    · show ((bE m (0 : Dev nD) (i 0).val).toNat + 1) * 1 ≤ 32; omega
    · show (0 + 1) * 1 ≤ 1; omega
    · show (0 + 1) * 1024 ≤ 1024; omega

def adm : (pcfg0 (F := F)).Adm := ⟨pf0 m, pf_ok h⟩
abbrev cfgA : Pipeline.Cfg sig Λ₀ := cfg0 (adm h)
abbrev pcs : Fin 1 → Pipeline.Cfg sig Λ₀ := Pipeline.pin pcfgs fun _ => adm h

theorem coord_val (t : Fin grid0.N) : ((grid0.coords t) 0).val = t.val := by
  have hS : grid0.stride 0 = 1 := by decide
  have hB : grid0.bound 0 = 288 := rfl
  have ht : t.val < 288 := Gen.N_0 ▸ t.isLt
  rw [Pipeline.Grid.coords_val t 0 hS hB, Nat.div_one, Nat.mod_eq_of_lt ht]

/-! ## What the staging buffers hold -/

def xb (t : Fin grid0.N) : Vec F S2x512x256 .i32 := (((cfgA h).win (0 : Fin 4)).blk t).view.read (Elt F) (m ((c : Thread nD τ).loc main_arg4))
def ub (t : Fin grid0.N) : Vec F S1x1x1x2048 .f32 := (((cfgA h).win (1 : Fin 4)).blk t).view.read (Elt F) (m ((c : Thread nD τ).loc main_arg6))
def db (t : Fin grid0.N) : Vec F S1x1x1x1024 .f32 := (((cfgA h).win (2 : Fin 4)).blk t).view.read (Elt F) (m ((c : Thread nD τ).loc main_arg8))
def ob (t : Fin grid0.N) : Vec F S2x512x512 .bf16 :=
  outB (bV m c t.val) (xb c h t) (ub c h t) (db c h t) (rU m c (eN m c t.val)) (rD m c (eN m c t.val))

/-- The pipeline's data on core `c`. -/
def dats (_ : Fin 1) (c : Dev nD) : Dat τ (Elt F) Unit ℕ (Pipeline.UD sig nD τ) ℕ (cfgA h) c where
  A w := m ((c : Thread nD τ).loc (Pipeline.arrRef spec0 w))
  after w t := match w with
    | ⟨0, _⟩ => xb c h t
    | ⟨1, _⟩ => ub c h t
    | ⟨2, _⟩ => db c h t
    | ⟨3, _⟩ => ob c h t
  Φ t := iprop(tabs m c ∗ inv m c t.val)
  q _ := fullShare
  owed _ := 0

theorem before_0 (t : Fin grid0.N) d : (dats h 0 c).before (0 : Fin 4) t d = xb c h t :=
  ((dats h 0 c).before_in_eq_fetched (0 : Fin 4) rfl (fun _ => rfl) (fun _ _ _ => rfl) (fun _ => rfl) t d).trans rfl
theorem before_1 (t : Fin grid0.N) d : (dats h 0 c).before (1 : Fin 4) t d = ub c h t :=
  ((dats h 0 c).before_in_eq_fetched (1 : Fin 4) rfl (fun _ => rfl) (fun _ _ _ => rfl) (fun _ => rfl) t d).trans rfl
theorem before_2 (t : Fin grid0.N) d : (dats h 0 c).before (2 : Fin 4) t d = db c h t :=
  ((dats h 0 c).before_in_eq_fetched (2 : Fin 4) rfl (fun _ => rfl) (fun _ _ _ => rfl) (fun _ => rfl) t d).trans rfl

/-- The count of live rows the pipeline's idle table reads. -/
theorem atD_val (i : grid0.Coords) : (pf0 m).atD 1 (k0_off1 i) = bV m (0 : Dev nD) (i 0).val := by
  unfold Pipeline.Prefetch.Contents.atD
  rw [dif_pos (fun a => by fin_cases a; exact k0_off1_inb i 0)]
  have hlt : (i 0).val < 288 := (i 0).isLt
  refine congrArg (m (((0 : Dev nD) : Thread nD τ).loc main_arg1)) (?_ : (_ : S288.Idx) = _)
  funext a; apply Fin.ext
  fin_cases a
  show k0_off1 i 0 = (i 0).val % 288
  rw [off1_eq i (i 0).val hlt rfl, Nat.mod_eq_of_lt hlt]
  rfl

include h in
/-- Every point stores its block. -/
theorem idle_3 (t : Fin grid0.N) : (cfgA h).idle (3 : Fin 4) (grid0.coords t) = false := by
  show (!(k0_cond4 ((pf0 m).atD 1 (k0_off1 (grid0.coords t))) == 1#1) && !(k0_cond5 ((pf0 m).atD 1 (k0_off1 (grid0.coords t))) == 1#1)
    && !(k0_cond6 ((pf0 m).atD 1 (k0_off1 (grid0.coords t))) == 1#1)) = false
  rw [atD_val]
  have hv := h.va ((grid0.coords t) 0).val
  generalize bV m (0 : Dev nD) ((grid0.coords t) 0).val = v at hv
  have hi : (v : BitVec 32).toInt = ((v : BitVec 32).toNat : ℤ) := by rw [BitVec.toInt_eq_toNat_cond]; split <;> omega
  by_cases h4 : 256 < (v : BitVec 32).toInt
  · rw [(cond4_iff v).mpr h4]; rfl
  by_cases h6 : (v : BitVec 32) = 0#32
  · rw [(cond6_iff v).mpr h6]; simp
  have h5 : k0_cond5 v = 1#1 := (cond5_iff v).mpr ⟨by
    have : (v : BitVec 32).toNat ≠ 0 := fun h => h6 (BitVec.eq_of_toNat_eq h)
    omega, by omega⟩
  rw [h5]; simp

/-! ## One point -/

theorem wp_point (h : TabOK m c) (n : ℕ) (hn : n < 288) (i : grid0.Coords) (hi : (i 0).val = n) {W : Waits sig Unit}
    {mX : Memref sig .tc .vmem S2x512x256 .i32} {hX : mX.IsWhole} {mU : Memref sig .tc .vmem S1x1x1x2048 .f32}
    {hU : mU.IsWhole} {mD : Memref sig .tc .vmem S1x1x1x1024 .f32} {hD : mD.IsWhole} {mO : Memref sig .tc .vmem S2x512x512 .bf16} {hO : mO.IsWhole}
    {X : Vec F S2x512x256 .i32} {U : Vec F S1x1x1x2048 .f32} {D : Vec F S1x1x1x1024 .f32} {Q : PUnit → sProp 𝕄} :
    iprop(tabs m c ∗ inv m c n ∗ owes (c : Thread nD τ) 0 W ∗ owns (c : Thread nD τ) mX fullShare X ∗ owns (c : Thread nD τ) mU fullShare U
        ∗ owns (c : Thread nD τ) mD fullShare D ∗ (∃ d, owns (c : Thread nD τ) mO fullShare d)
        ∗ (iprop(tabs m c ∗ inv m c (n + 1) ∗ (∃ W', owes (c : Thread nD τ) 0 W') ∗ owns (c : Thread nD τ) mX fullShare X ∗ owns (c : Thread nD τ) mU fullShare U
            ∗ owns (c : Thread nD τ) mD fullShare D ∗ owns (c : Thread nD τ) mO fullShare (outB (bV m c n) X U D (rU m c (eN m c n)) (rD m c (eN m c n)))) -∗ Q ⟨⟩))
      ⊢ WP c (pointP i mX hX mU hU mD hD mO hO) Q := by
  unfold pointP tabs
  iintro ⟨⟨T0, T1, T2, T3⟩, Hi, HW, HX, HU, HD, HO, Hk⟩
  iapply (read_bV m c n hn (off1_eq i n hn hi)); isplitl [T1]; · iexact T1
  iintro T1
  iapply (read_bE m c n hn (off1_eq i n hn hi)); isplitl [T0]; · iexact T0
  iintro T0
  simp only [Prog.lift, Prog.bind_op, Prog.bind_ret]
  iapply (wp_assume 𝒱₀ (c : Thread nD τ) none Set.univ (chk2 i _ (h.be n)))
  iapply (wp_ctl m c h n hn i hi)
  isplitl [T0 T1 T2 T3]
  · unfold tabs
    isplitl [T0]; · iexact T0
    isplitl [T1]; · iexact T1
    isplitl [T2]; · iexact T2
    iexact T3
  isplitl [Hi]; · iexact Hi
  isplitl [HW]; · iexact HW
  iintro ⟨HT, HR, HW⟩
  unfold ready hasB
  icases HR with ⟨⟨HA, HB⟩, Hf, Ha⟩
  iapply (wp_comp c (A := rU m c (eN m c n)) (B := rD m c (eN m c n)) (X := X) (U := U) (D := D) i (h.va n))
  unfold held
  isplitl [HX HU HD HA HB]
  · isplitl [HX]; · iexact HX
    isplitl [HU]; · iexact HU
    isplitl [HD]; · iexact HD
    isplitl [HA]; · iexact HA
    iexact HB
  isplitl [HO]; · iexact HO
  iintro ⟨⟨HX, HU, HD, HA, HB⟩, HO⟩
  iapply (ret_intro c)
  iapply Hk
  isplitl [HT]
  · unfold tabs; iexact HT
  isplitl [HA HB Hf Ha]
  · rw [show inv m c (n + 1) = ready m c n from rfl]
    unfold ready hasB
    isplitl [HA HB]
    · isplitl [HA]; · iexact HA
      iexact HB
    isplitl [Hf]; · iexact Hf
    iexact Ha
  isplitl [HW]; · iexact HW
  isplitl [HX]; · iexact HX
  isplitl [HU]; · iexact HU
  isplitl [HD]; · iexact HD
  iexact HO

def bodyPre (t : Fin grid0.N) : sProp 𝕄 :=
  iprop((dats h 0 c).Φ t.castSucc ∗ (dats h 0 c).owesAt () t.castSucc
    ∗ (∃ d, owns (c : Thread nD τ) (spec0_0.stage ((cfgA h).slots t (0 : Fin 4))) fullShare ((dats h 0 c).before (0 : Fin 4) t d))
    ∗ (∃ d, owns (c : Thread nD τ) (spec0_1.stage ((cfgA h).slots t (1 : Fin 4))) fullShare ((dats h 0 c).before (1 : Fin 4) t d))
    ∗ (∃ d, owns (c : Thread nD τ) (spec0_2.stage ((cfgA h).slots t (2 : Fin 4))) fullShare ((dats h 0 c).before (2 : Fin 4) t d))
    ∗ (∃ d, owns (c : Thread nD τ) (spec0_3.stage ((cfgA h).slots t (3 : Fin 4))) fullShare ((dats h 0 c).before (3 : Fin 4) t d)))

def bodyPost (t : Fin grid0.N) : sProp 𝕄 :=
  iprop((dats h 0 c).Φ t.succ ∗ (dats h 0 c).owesAt () t.succ
    ∗ owns (c : Thread nD τ) (spec0_0.stage ((cfgA h).slots t (0 : Fin 4))) fullShare (xb c h t)
    ∗ owns (c : Thread nD τ) (spec0_1.stage ((cfgA h).slots t (1 : Fin 4))) fullShare (ub c h t)
    ∗ owns (c : Thread nD τ) (spec0_2.stage ((cfgA h).slots t (2 : Fin 4))) fullShare (db c h t)
    ∗ owns (c : Thread nD τ) (spec0_3.stage ((cfgA h).slots t (3 : Fin 4))) fullShare (ob c h t))

def bodyAt (t : Fin grid0.N) : Prog (TpuEff nD τ sig (Elt F) Λ₀ .tc) PUnit.{1} :=
  cc0_experts (F := F) (grid0.coords t) (Memref.whole main_arg0) (Memref.isWhole_whole _) (Memref.whole main_arg1) (Memref.isWhole_whole _) (Memref.whole main_arg2) (Memref.isWhole_whole _) (Memref.whole main_arg3) (Memref.isWhole_whole _)
    (spec0_0.stage ((cfgA h).slots t (0 : Fin 4))) (hstage0_0 (((cfgA h).slots t (0 : Fin 4)).cast nbuf0_0))
    (spec0_1.stage ((cfgA h).slots t (1 : Fin 4))) (hstage0_1 (((cfgA h).slots t (1 : Fin 4)).cast nbuf0_1))
    (spec0_2.stage ((cfgA h).slots t (2 : Fin 4))) (hstage0_2 (((cfgA h).slots t (2 : Fin 4)).cast nbuf0_2))
    (Memref.whole main_arg5) (Memref.isWhole_whole _) (Memref.whole main_arg7) (Memref.isWhole_whole _)
    (spec0_3.stage ((cfgA h).slots t (3 : Fin 4))) (hstage0_3 (((cfgA h).slots t (3 : Fin 4)).cast nbuf0_3))
    (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4

theorem body_at (t : Fin grid0.N) : bodyPre c h t ⊢ WP c (bodyAt h t) fun _ => bodyPost c h t := by
  have ht : t.val < 288 := Gen.N_0 ▸ t.isLt
  unfold bodyPre bodyPost bodyAt Dat.owesAt Pipeline.owesWithin
  rw [point_eq]
  dsimp only [dats]
  iintro ⟨⟨HT, Hi⟩, ⟨%W, %hW, HW⟩, ⟨%d0, H0⟩, ⟨%d1, H1⟩, ⟨%d2, H2⟩, ⟨%d3, H3⟩⟩
  iapply (wp_point c (ok_all c h) t.val ht (grid0.coords t) (coord_val t) (X := xb c h t) (U := ub c h t) (D := db c h t) (W := W))
  isplitl [HT]; · iexact HT
  isplitl [Hi]; · iexact Hi
  isplitl [HW]; · iexact HW
  isplitl [H0]
  · iapply (Entails.of_eq (congrArg (owns (c : Thread nD τ) (spec0_0.stage ((cfgA h).slots t (0 : Fin 4))) fullShare) (before_0 c h t d0))); iexact H0
  isplitl [H1]
  · iapply (Entails.of_eq (congrArg (owns (c : Thread nD τ) (spec0_1.stage ((cfgA h).slots t (1 : Fin 4))) fullShare) (before_1 c h t d1))); iexact H1
  isplitl [H2]
  · iapply (Entails.of_eq (congrArg (owns (c : Thread nD τ) (spec0_2.stage ((cfgA h).slots t (2 : Fin 4))) fullShare) (before_2 c h t d2))); iexact H2
  isplitl [H3]
  · iexists _; iexact H3
  iintro ⟨HT, Hi, ⟨%W', HW⟩, H0, H1, H2, H3⟩
  isplitl [HT Hi]
  · isplitl [HT]; · iexact HT
    iexact Hi
  isplitl [HW]
  · iexists W'; isplitr
    · ipureintro; exact fun _ _ => Or.inl trivial
    iexact HW
  isplitl [H0]; · iexact H0
  isplitl [H1]; · iexact H1
  isplitl [H2]; · iexact H2
  iexact H3

theorem body_obligation : BodyObligationLoose (dats h 0 c) (defs₀ (F := F)) 𝒱₀ () Set.univ := fun t => by
  rw [bigSep_W0, bigSep_W0]
  simp only
  rw [show idle0 (adm h).1 3 ((pcfg0.gridAt (adm h).1).coords t) = false from idle_3 h t]
  exact body_at c h t

end Cert.Proof.Experts

end
-- ==== Proof.ExpLaunch.lean ====
/-
  The launch of the experts' call: what the first point is given, what the last one leaves, and the run.
-/
module

public import proofs.«01_k».proof.Proof.ExpBody

@[expose] public section

noncomputable section

namespace Cert.Proof.Experts

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type}

local notation "𝕄" => MT nD τ sig Unit (Elt F) ℕ (Pipeline.UD sig nD τ) ℕ

variable (m : (ℓ : Loc nD τ sig) → Buf (Elt F) ℓ) (c : Dev nD)

theorem splitU (p : Fin 2) : iprop(∃ f : Buf (Elt F) ((c : Thread nD τ).loc cc0_scratch0), ((c : Thread nD τ).loc cc0_scratch0) ↦{fullShare} f) ⊢ iprop(anyU (F := F) c p ∗ anyU c p.rev) := by
  unfold anyU
  rw [slotU_compl p]
  iintro ⟨%f, H⟩
  ihave H2 := (pointsTo_split_subset (Finset.subset_univ (slotU p).view.set)).1 $$ H
  icases H2 with ⟨H, H'⟩
  isplitl [H]
  · iexists f; iexact H
  iexists f; iexact H'

theorem splitD (p : Fin 2) : iprop(∃ f : Buf (Elt F) ((c : Thread nD τ).loc cc0_scratch1), ((c : Thread nD τ).loc cc0_scratch1) ↦{fullShare} f) ⊢ iprop(anyD (F := F) c p ∗ anyD c p.rev) := by
  unfold anyD
  rw [slotD_compl p]
  iintro ⟨%f, H⟩
  ihave H2 := (pointsTo_split_subset (Finset.subset_univ (slotD p).view.set)).1 $$ H
  icases H2 with ⟨H, H'⟩
  isplitl [H]
  · iexists f; iexact H
  iexists f; iexact H'

theorem joinU (p : Fin 2) : iprop(anyU (F := F) c p ∗ anyU c p.rev) ⊢ iprop(∃ f : Buf (Elt F) ((c : Thread nD τ).loc cc0_scratch0), ((c : Thread nD τ).loc cc0_scratch0) ↦{fullShare} f) := by
  unfold anyU
  rw [slotU_compl p]
  iintro ⟨⟨%f, H⟩, ⟨%g, H'⟩⟩
  iexists _
  iapply (pointsTo_join_subset (Finset.subset_univ (slotU p).view.set))
  isplitl [H]; · iexact H
  iexact H'

theorem joinD (p : Fin 2) : iprop(anyD (F := F) c p ∗ anyD c p.rev) ⊢ iprop(∃ f : Buf (Elt F) ((c : Thread nD τ).loc cc0_scratch1), ((c : Thread nD τ).loc cc0_scratch1) ↦{fullShare} f) := by
  unfold anyD
  rw [slotD_compl p]
  iintro ⟨⟨%f, H⟩, ⟨%g, H'⟩⟩
  iexists _
  iapply (pointsTo_join_subset (Finset.subset_univ (slotD p).view.set))
  isplitl [H]; · iexact H
  iexact H'

/-- The kernel's own semaphores. -/
def osem : Fin 4 → SemLoc sig := ![.dma 8, .dma 9, .dma 10, .dma 11]
theorem osem_facts : Pipeline.OwnSemFacts spec0 osem := by decide

theorem sems_eq : (Pipeline.ownSems0 osem c : sProp 𝕄) = iprop(idleU (F := F) c 0 ∗ idleU (F := F) c 1 ∗ idleD (F := F) c 0 ∗ idleD (F := F) c 1) := by
  unfold idleU idleD
  rw [semU_eq, semU_eq, semD_eq, semD_eq, Pipeline.ownSems0_eq_of_list c osem [0, 1, 2, 3] (by decide) (by decide)]
  rfl

theorem sems_split (p : Fin 2) : (Pipeline.ownSems0 osem c : sProp 𝕄) ⊢ iprop(idleU (F := F) c p ∗ idleU (F := F) c p.rev ∗ idleD (F := F) c p ∗ idleD (F := F) c p.rev) := by
  rw [sems_eq]
  fin_cases p
  · exact .rfl
  · show _ ⊢ iprop(idleU (F := F) c 1 ∗ idleU (F := F) c 0 ∗ idleD (F := F) c 1 ∗ idleD (F := F) c 0)
    iintro ⟨A, B, C, D⟩
    isplitl [B]; · iexact B
    isplitl [A]; · iexact A
    isplitl [D]; · iexact D
    iexact C

theorem sems_join (p : Fin 2) : iprop(idleU (F := F) c p ∗ idleU (F := F) c p.rev ∗ idleD (F := F) c p ∗ idleD (F := F) c p.rev) ⊢ (Pipeline.ownSems0 osem c : sProp 𝕄) := by
  rw [sems_eq]
  fin_cases p
  · exact .rfl
  · show iprop(idleU (F := F) c 1 ∗ idleU (F := F) c 0 ∗ idleD (F := F) c 1 ∗ idleD (F := F) c 0) ⊢ _
    iintro ⟨A, B, C, D⟩
    isplitl [B]; · iexact B
    isplitl [A]; · iexact A
    isplitl [D]; · iexact D
    iexact C

variable [FloatOps F]

open Idealize.ShloMosaic.Pipeline (Dat Cfg Window BodyObligationLoose)
open Idealize.ShloMosaic.Rounds

variable {m} (h : TabOK m 0) (ρ : Dev nD → PrngReg)

theorem tabs_eq : (Pipeline.prefHeld pre0 c (fun _ => fullShare.right) (pf0 m) : sProp 𝕄) = tabs m c := by
  obtain rfl : c = 0 := Subsingleton.elim _ _
  unfold Pipeline.prefHeld tabs
  rw [bigSep_univ_eq_bigSepL [(0 : Fin 4), (1 : Fin 4), (2 : Fin 4), (3 : Fin 4)] (by decide) (by decide)]
  rfl

/-- What the invariant is given besides the tables and the scratch buffers; what it gives back. -/
def intoΦ : sProp 𝕄 := iprop((allU m c ∗ allD m c) ∗ Pipeline.ownSems0 osem c)
def outOfΦ : sProp 𝕄 := iprop(allU m c ∗ allD m c)

theorem first : iprop(intoΦ (m := m) c ∗ tabs m c ∗ Pipeline.scopedRest spec0 c) ⊢ iprop(tabs m c ∗ inv m c 0) := by
  rw [scopedRest0_eq, show inv m c 0 = fresh m c from rfl]
  unfold intoΦ fresh free anyB
  iintro ⟨⟨⟨HU, HD⟩, Hs⟩, HT, S0, S1, S2, S3⟩
  ihave Hs' := (sems_split c (pN m c 0)) $$ Hs
  icases Hs' with ⟨u, u', d, d'⟩
  ihave S0' := (splitU c (pN m c 0)) $$ S0
  icases S0' with ⟨U, U'⟩
  ihave S1' := (splitD c (pN m c 0)) $$ S1
  icases S1' with ⟨D, D'⟩
  isplitl [HT]; · iexact HT
  isplitl [S2 S3]
  · isplitl [S2]; · iexact S2
    iexact S3
  isplitl [U D u d]
  · isplitl [U]; · iexact U
    isplitl [D]; · iexact D
    isplitl [u]; · iexact u
    iexact d
  isplitl [U' D' u' d']
  · isplitl [U']; · iexact U'
    isplitl [D']; · iexact D'
    isplitl [u']; · iexact u'
    iexact d'
  isplitl [HU]; · iexact HU
  iexact HD

theorem finish (h : TabOK m c) : iprop(tabs m c ∗ ready m c 287) ⊢ iprop(outOfΦ (m := m) c ∗ Pipeline.ownSems0 osem c ∗ Pipeline.scopedRest spec0 c) := by
  have hb : ¬busy m c 287 := not_le.mpr h.last
  rw [scopedRest0_eq]
  unfold outOfΦ ready ahead free hasB
  rw [if_neg hb]
  iintro ⟨-, ⟨HA, HB⟩, ⟨U, D, u, d⟩, ⟨U', D', u', d'⟩, HU, HD⟩
  isplitl [HU HD]
  · isplitl [HU]; · iexact HU
    iexact HD
  isplitl [u u' d d']
  · iapply (sems_join c (pN m c 287))
    isplitl [u]; · iexact u
    isplitl [u']; · iexact u'
    isplitl [d]; · iexact d
    iexact d'
  isplitl [U U']
  · iapply (joinU c (pN m c 287))
    isplitl [U]; · iexact U
    iexact U'
  isplitl [D D']
  · iapply (joinD c (pN m c 287))
    isplitl [D]; · iexact D
    iexact D'
  isplitl [HA]
  · iexists _; iexact HA
  iexists _; iexact HB

def finalA (w : Fin 4) : Buf (Elt F) ((spec0 w).arr.view.loc (c : Thread nD τ)) := (dats h 0 c).arrAt w grid0.N

/-- Every window's array ends as the pipeline leaves it, the tables and the weights as they were. -/
def QC : PUnit × MemSt nD τ sig (Elt F) → Prop := fun r =>
  ∀ c : Dev nD, (∀ w : Fin 4, r.2.mem ((spec0 w).arr.view.loc (c : Thread nD τ)) = finalA c h w)
    ∧ (∀ k, r.2.mem ((c : Thread nD τ).loc (pre0.ref k)) = (adm h).1 k)
    ∧ (r.2.mem ((c : Thread nD τ).loc main_arg5) = m ((c : Thread nD τ).loc main_arg5)
      ∧ r.2.mem ((c : Thread nD τ).loc main_arg7) = m ((c : Thread nD τ).loc main_arg7))

theorem run_main : θ_run defs (onTc (τ := τ) (main (F := F))) ⟨m, fun _ => 0, ρ⟩ (fun r => QC h r ∧ r.2.sem = fun _ => 0) :=
  Pipeline.θ_run_region_pf_quiescent pcfgs (fun _ => adm h) (dats h) () (Gen.cellOf_inj fun _ => adm h) (0 : Fin 1) (launch0 (F := F)).win.to₀ osem_facts (launch0 (F := F)).pre
    embL defs₀ 𝒱₀ m ρ main
    (hbody := fun c => body_obligation c h) (hne := (launch0 (F := F)).block_pos) (harr := (launch0 (F := F)).arr_whole) (hstage := (launch0 (F := F)).stage_whole)
    (howed := fun _ _ => rfl)
    (G := fun _ => iprop(emp)) (u₀ := (Rounds.initOf (Pipeline.cells (pcs h) (Gen.cellOf_inj fun _ => adm h)) (Pipeline.launchToks (pcs h) (Gen.cellOf_inj fun _ => adm h)), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hsplit := fun c => by
      rw [Pipeline.arrays_eq (pcs h) (dats h) 0 c (launch0 (F := F)).arr_whole ((dats h 0 c).share_full fun _ => rfl)]
      exact .rfl)
    (hpf := fun c k => by
      obtain rfl : c = 0 := Subsingleton.elim _ _
      rfl)
    (X := fun c => intoΦ (m := m) c) (Y := fun c => outOfΦ (m := m) c) (Z := fun _ => iprop(emp))
    (hX := fun c => by
      rw [unscopedRestP0_eq]
      unfold intoΦ allU allD
      iintro ⟨⟨H5, H7⟩, HS, -⟩; imodintro
      isplitl [H5 H7 HS]
      · isplitl [H5 H7]
        · isplitl [H5]; · iexact H5
          iexact H7
        iexact HS
      iempintro)
    (hin := fun c => by
      rw [show (adm h).1 = pf0 m from rfl, tabs_eq]
      exact first c)
    (hout := fun c => by
      rw [show (dats h 0 c).Φ (Fin.last grid0.N) = iprop(tabs m c ∗ inv m c grid0.N) from rfl, show inv m c grid0.N = ready m c 287 from congrArg (inv m c) Gen.N_0]
      exact finish c (ok_all c h))
    (QY := fun c s => s.mem ((c : Thread nD τ).loc main_arg5) = m ((c : Thread nD τ).loc main_arg5)
      ∧ s.mem ((c : Thread nD τ).loc main_arg7) = m ((c : Thread nD τ).loc main_arg7))
    (hY := fun c s' => by
      unfold outOfΦ allU allD
      iintro ⟨⟨H5, H7⟩, -, HSI⟩
      icombine HSI H5 gives %h5
      icombine HSI H7 gives %h7
      imodintro
      isplitr; · ipureintro; exact ⟨Buf.eq_of_forall_mem_univ h5, Buf.eq_of_forall_mem_univ h7⟩
      iexact HSI)
    (hQ := fun _ hh hz => ⟨hh, hz⟩)

end Cert.Proof.Experts

end
-- ==== Proof.ExpPre.lean ====
/-
  The experts' precondition, read as facts about the four tables.
-/
module

public import proofs.«01_k».proof.Proof.Gen.Pre_tables
public import proofs.«01_k».proof.Proof.ExpSetup
public import Idealize.ShloMosaic.Lib.ReduceAll

@[expose] public section

noncomputable section

namespace Cert.Proof.Experts

open Cert.Kernel2Ideal Cert.Kernel2Ideal.Gen
open Idealize.ShloMosaic Idealize.ShloMosaic.TcCoe
open Idealize.SL.Sem
open Idealize.ShloMosaic.ValueIdx

variable {F : FTy → Type} [FloatOps F]
variable (m : (ℓ : Loc nD τ sig) → Buf (Elt F) ℓ) (c : Dev nD)

instance : Subsingleton Cert.Pre_tables.S_.Idx := ⟨fun a b => funext fun i => i.elim0⟩

/-! ## The precondition -/

theorem bit_true (p : Bool) (h : BitVec.ofBool p = 1#1) : p = true := by
  cases p with
  | true => rfl
  | false => exact absurd h (by decide)

theorem eq_of_bit (a b : BitVec 32) (h : IntOp.cmpi .eq a b = 1#1) : a = b := by simpa using bit_true _ h
theorem ne_of_bit (a b : BitVec 32) (h : ~~~(IntOp.cmpi .eq a b) = 1#1) : a ≠ b := fun he => by
  subst he
  rw [show IntOp.cmpi .eq a a = 1#1 by simp [IntOp.cmpi]] at h
  exact absurd h (by decide)
theorem lt_of_bit (a b : BitVec 32) (h : IntOp.cmpi .slt a b = 1#1) : a.toInt < b.toInt := by
  have := bit_true _ h
  simpa only [BitVec.slt_eq_decide, decide_eq_true_eq] using this
theorem le_of_bit (a b : BitVec 32) (h : IntOp.cmpi .sle a b = 1#1) : a.toInt ≤ b.toInt := by
  have := bit_true _ h
  simpa only [BitVec.sle_eq_decide, decide_eq_true_eq] using this
theorem ge_of_bit (a b : BitVec 32) (h : IntOp.cmpi .sge a b = 1#1) : b.toInt ≤ a.toInt := by
  have := bit_true _ h
  simpa only [BitVec.sle_eq_decide, decide_eq_true_eq] using this

theorem toNat_lt_of (v : BitVec 32) (k : ℕ) (h0 : 0 ≤ v.toInt) (h1 : v.toInt < (k : ℤ)) : v.toNat < k := by
  rw [BitVec.toInt_eq_toNat_cond] at h0 h1
  split at h0 <;> omega

/-- Entry `n` of the first 287, as a place of the arrays the precondition compares. -/
def iy (n : ℕ) (h : n < 287) : Cert.Pre_tables.S287.Idx
  | 0 => ⟨n, h⟩
  | ⟨_ + 1, h⟩ => absurd h (Nat.not_lt.2 (Nat.le_add_left _ _))

/-- The one place of an array of one. -/
def iz : Cert.Pre_tables.S1.Idx
  | 0 => ⟨0, Nat.one_pos⟩
  | ⟨_ + 1, h⟩ => absurd h (Nat.not_lt.2 (Nat.le_add_left _ _))

theorem sl_1 (x : IVec S288 32) (hs) (n : ℕ) (h : n < 287) : extractStridedSlice Cert.Pre_tables.S287 ![1] x hs (iy n h) = x (ixN (n + 1)) := by
  refine congrArg x ?_
  funext a; apply Fin.ext
  fin_cases a
  show 1 + n = (n + 1) % 288
  omega
theorem sl_0 (x : IVec S288 32) (hs) (n : ℕ) (h : n < 287) : extractStridedSlice Cert.Pre_tables.S287 ![0] x hs (iy n h) = x (ixN n) := by
  refine congrArg x ?_
  funext a; apply Fin.ext
  fin_cases a
  show 0 + n = n % 288
  omega
theorem sl_last (x : IVec S288 32) (hs) (j : Cert.Pre_tables.S1.Idx) : extractStridedSlice Cert.Pre_tables.S1 ![287] x hs j = x (ixN 287) := by
  refine congrArg x ?_
  funext a; apply Fin.ext
  fin_cases a
  have : (j 0).val < 1 := (j 0).isLt
  show 287 + (j 0).val = 287 % 288
  omega

section
variable (x0 x1 x2 x3 : IVec S288 32)

/-- What the precondition says of entry `n`, and of entries `n` and `n + 1`. -/
theorem entry_of_pre (x4) (x5) (x6) (x7) (x8) (h : Cert.Pre_tables.fn (F := F) x0 x1 x2 x3 x4 x5 x6 x7 x8 = fun _ => 1#1) :
    (∀ i : S288.Idx, IntOp.andi (IntOp.andi (IntOp.andi (IntOp.andi (IntOp.andi (IntOp.andi (IntOp.cmpi .sge (x0 i) 0#32) (IntOp.cmpi .slt (x0 i) 32#32)) (IntOp.cmpi .sge (x1 i) 0#32))
        (IntOp.cmpi .sle (x1 i) 512#32)) (IntOp.cmpi .slt (x2 i) 32#32)) (IntOp.cmpi .sge (x3 i) 0#32)) (IntOp.cmpi .slt (x3 i) 2#32) = 1#1)
    ∧ (∀ j : Cert.Pre_tables.S287.Idx, IntOp.ori
        (IntOp.andi (cmpi .eq (extractStridedSlice Cert.Pre_tables.S287 ![1] x0 Cert.Pre_tables.Gen.slices_S288_S287_1) (extractStridedSlice Cert.Pre_tables.S287 ![0] x0 Cert.Pre_tables.Gen.slices_S288_S287_0) j)
          (IntOp.andi (cmpi .eq (extractStridedSlice Cert.Pre_tables.S287 ![1] x2 Cert.Pre_tables.Gen.slices_S288_S287_1) (extractStridedSlice Cert.Pre_tables.S287 ![0] x2 Cert.Pre_tables.Gen.slices_S288_S287_0) j)
            (cmpi .eq (extractStridedSlice Cert.Pre_tables.S287 ![1] x3 Cert.Pre_tables.Gen.slices_S288_S287_1) (extractStridedSlice Cert.Pre_tables.S287 ![0] x3 Cert.Pre_tables.Gen.slices_S288_S287_0) j)))
        (IntOp.andi (~~~(cmpi .eq (extractStridedSlice Cert.Pre_tables.S287 ![1] x0 Cert.Pre_tables.Gen.slices_S288_S287_1) (extractStridedSlice Cert.Pre_tables.S287 ![0] x0 Cert.Pre_tables.Gen.slices_S288_S287_0) j))
          (IntOp.andi (cmpi .eq (extractStridedSlice Cert.Pre_tables.S287 ![1] x0 Cert.Pre_tables.Gen.slices_S288_S287_1) (extractStridedSlice Cert.Pre_tables.S287 ![0] x2 Cert.Pre_tables.Gen.slices_S288_S287_0) j)
            (IntOp.cmpi .eq (extractStridedSlice Cert.Pre_tables.S287 ![1] x3 Cert.Pre_tables.Gen.slices_S288_S287_1 j) (1#32 - extractStridedSlice Cert.Pre_tables.S287 ![0] x3 Cert.Pre_tables.Gen.slices_S288_S287_0 j)))) = 1#1)
    ∧ (∀ j : Cert.Pre_tables.S1.Idx, IntOp.cmpi .slt (extractStridedSlice Cert.Pre_tables.S1 ![287] x2 Cert.Pre_tables.Gen.slices_S288_S1_287 j) 0#32 = 1#1) := by
  obtain ⟨h12, h3⟩ := IntOp.andi_eq_one.1 (congrFun h fun i => i.elim0)
  obtain ⟨h1, h2⟩ := IntOp.andi_eq_one.1 h12
  exact ⟨fun i => Host.reduce_andi_all _ _ _ _ _ h1 i, fun j => Host.reduce_andi_all _ _ _ _ _ h2 j, fun j => Host.reduce_andi_all _ _ _ _ _ h3 j⟩
end

theorem ok_of_pre (x4) (x5) (x6) (x7) (x8)
    (h : Cert.Pre_tables.fn (F := F) (m ((c : Thread nD τ).loc main_arg0)) (m ((c : Thread nD τ).loc main_arg1)) (m ((c : Thread nD τ).loc main_arg2))
      (m ((c : Thread nD τ).loc main_arg3)) x4 x5 x6 x7 x8 = fun _ => 1#1) : TabOK m c := by
  obtain ⟨hall, hstep, hlast⟩ := entry_of_pre _ _ _ _ _ _ _ _ _ h
  have h32 : (32#32 : BitVec 32).toInt = ((32 : ℕ) : ℤ) := by decide
  have h512 : (512#32 : BitVec 32).toInt = ((512 : ℕ) : ℤ) := by decide
  have h2' : (2#32 : BitVec 32).toInt = ((2 : ℕ) : ℤ) := by decide
  have h0 : (0#32 : BitVec 32).toInt = 0 := by decide
  have parts : ∀ n, (0 ≤ (bE m c n).toInt ∧ (bE m c n).toInt < ((32 : ℕ) : ℤ)) ∧ (0 ≤ (bV m c n).toInt ∧ (bV m c n).toInt ≤ ((512 : ℕ) : ℤ))
      ∧ (bN m c n).toInt < ((32 : ℕ) : ℤ) ∧ (0 ≤ (bS m c n).toInt ∧ (bS m c n).toInt < ((2 : ℕ) : ℤ)) := fun n => by
    obtain ⟨ha, a7⟩ := IntOp.andi_eq_one.1 (hall (ixN n))
    obtain ⟨ha, a6⟩ := IntOp.andi_eq_one.1 ha
    obtain ⟨ha, a5⟩ := IntOp.andi_eq_one.1 ha
    obtain ⟨ha, a4⟩ := IntOp.andi_eq_one.1 ha
    obtain ⟨ha, a3⟩ := IntOp.andi_eq_one.1 ha
    obtain ⟨a1, a2⟩ := IntOp.andi_eq_one.1 ha
    exact ⟨⟨h0.symm.trans_le (ge_of_bit _ _ a1), (lt_of_bit _ _ a2).trans_eq h32⟩, ⟨h0.symm.trans_le (ge_of_bit _ _ a3), (le_of_bit _ _ a4).trans_eq h512⟩,
      (lt_of_bit _ _ a5).trans_eq h32, h0.symm.trans_le (ge_of_bit _ _ a6), (lt_of_bit _ _ a7).trans_eq h2'⟩
  refine ⟨fun n => toNat_lt_of _ _ (parts n).1.1 (parts n).1.2,
    fun n => Nat.lt_succ_iff.mp (toNat_lt_of _ 513 (parts n).2.1.1 (by have := (parts n).2.1.2; omega)),
    fun n => toNat_lt_of _ _ (parts n).2.2.2.1 (parts n).2.2.2.2,
    fun n hn => toNat_lt_of _ _ hn (parts n).2.2.1, fun n hn => ?_, ?_⟩
  · have hn' : n < 287 := by omega
    rcases IntOp.ori_eq_one.1 (hstep (iy n hn')) with hA | hB
    · obtain ⟨e1, e23⟩ := IntOp.andi_eq_one.1 hA
      obtain ⟨e2, e3⟩ := IntOp.andi_eq_one.1 e23
      have e1 := eq_of_bit _ _ e1
      have e2 := eq_of_bit _ _ e2
      have e3 := eq_of_bit _ _ e3
      rw [sl_1, sl_0] at e1 e2 e3
      exact .inl ⟨e1, e2, e3⟩
    · obtain ⟨e1, e23⟩ := IntOp.andi_eq_one.1 hB
      obtain ⟨e2, e3⟩ := IntOp.andi_eq_one.1 e23
      have e2 := eq_of_bit _ _ e2
      have e3 := eq_of_bit _ _ e3
      rw [sl_1, sl_0] at e2 e3
      refine .inr ⟨fun he => ?_, e2, e3⟩
      have e1 := ne_of_bit _ _ e1
      rw [sl_1, sl_0] at e1
      exact e1 he
  · have := lt_of_bit _ _ (hlast iz)
    rw [sl_last] at this
    exact this.trans_eq h0

end Cert.Proof.Experts

end
-- ==== Proof.ExpFrames.lean ====
/-
  The frames of the experts' call and its reference.
-/
module

public import proofs.«01_k».proof.Defs
public import proofs.«01_k».proof.Proof.ExpLaunch
public import proofs.«01_k».proof.Proof.ExpPre
public import proofs.«01_k».proof.Proof.Gen.Kernel2
public import proofs.«01_k».proof.Proof.Gen.Pre_tables
public import proofs.«01_k».proof.Proof.Gen.On_rows_used
public import proofs.«01_k».proof.Proof.Gen.Reference2Ideal.Read

@[expose] public section

noncomputable section

namespace Cert.Proof.Experts

open Cert.Kernel2Ideal Cert.Kernel2Ideal.Gen
open Idealize.ShloMosaic Idealize.ShloMosaic.TcCoe
open Idealize.SL.Sem
open Idealize.ShloMosaic.ValueIdx

variable {F : FTy → Type} [FloatOps F]
variable (m : (ℓ : Loc nD τ sig) → Buf (Elt F) ℓ) (c : Dev nD)

/-! ## The frames -/

variable {m}

/-- The arguments end as they began. -/
def Same (r : PUnit × MemSt nD τ sig (Elt F)) : Prop := ∀ c : Dev nD,
  r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)
  ∧ r.2.mem ((c : Thread nD τ).loc main_arg5) = m ((c : Thread nD τ).loc main_arg5)
  ∧ r.2.mem ((c : Thread nD τ).loc main_arg6) = m ((c : Thread nD τ).loc main_arg6)
  ∧ r.2.mem ((c : Thread nD τ).loc main_arg7) = m ((c : Thread nD τ).loc main_arg7)
  ∧ r.2.mem ((c : Thread nD τ).loc main_arg8) = m ((c : Thread nD τ).loc main_arg8)

theorem same_of_QC (h : TabOK m 0) (r : PUnit × MemSt nD τ sig (Elt F)) (hr : QC h r) : Same (m := m) r := fun c => by
  obtain ⟨hw, ht, h5, h7⟩ := hr c
  have hA : ∀ w : Fin 4, ((cfgA h).win w).isOut = false → finalA c h w = m ((c : Thread nD τ).loc (Pipeline.arrRef spec0 w)) := fun w hin =>
    (dats h 0 c).arrAt_in w hin grid0.N
  obtain rfl : c = 0 := Subsingleton.elim _ _
  exact ⟨ht 0, ht 1, ht 2, ht 3, (hw 0).trans (hA 0 rfl), h5, (hw 1).trans (hA 1 rfl), h7, (hw 2).trans (hA 2 rfl)⟩

theorem run_same (h : TabOK m 0) (ρ : Dev nD → PrngReg) :
    θ_run defs (onTc (τ := τ) (main (F := F))) ⟨m, fun _ => 0, ρ⟩ (fun r => Same (m := m) r ∧ r.2.sem = fun _ => 0) :=
  (θ_run defs _ _).mono (fun r hr => ⟨same_of_QC h r hr.1, hr.2⟩) (run_main h ρ)

theorem ok_kernel2Ideal (m : (ℓ : Loc nD τ sig) → Buf (Elt Ideal) ℓ) (hpre : Cert.Pre_Kernel2Ideal m) : TabOK m 0 := ok_of_pre m 0 _ _ _ _ _ (hpre 0)

theorem ok_kernel2 (m : (ℓ : Loc nD τ sig) → Buf (Elt Bits) ℓ) (hpre : Cert.Pre_Kernel2 m) : TabOK m 0 := ok_of_pre m 0 _ _ _ _ _ (hpre 0)

theorem frame_reference2Ideal : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

theorem frame_kernel2Ideal : Cert.quiescent_Kernel2Ideal := fun m ρ hpre => run_same (F := Ideal) (ok_kernel2Ideal m hpre) ρ

/-- The call as first printed and as read at the ideal instance have one body and one table of bodies. -/
theorem body_eq : Cert.Kernel2.cc0_experts (F := F) = Cert.Kernel2Ideal.cc0_experts (F := F) := rfl
theorem bodies_eq : Cert.Kernel2.defs₀ (F := F) = Cert.Kernel2Ideal.defs₀ (F := F) := by
  unfold Cert.Kernel2.defs₀ Cert.Kernel2Ideal.defs₀
  refine congrArg Defs.onTc ?_
  funext l x
  match l, x with
  | 0, (t, s) =>
    show Cert.Kernel2.cc0_experts (F := F) _ _ _ _ _ _ _ _ _ _ _ _ _ _ _ _ _ _ _ _ _ _ _ _ _ _ _ _ _ _ = _
    rw [body_eq]; rfl
theorem defs_eq : Cert.Kernel2.defs (F := F) = Cert.Kernel2Ideal.defs (F := F) :=
  congrArg (Pipeline.defs (Cert.Kernel2Ideal.pcfgs (F := F))) bodies_eq

theorem frame_kernel2 : Cert.quiescent_Kernel2 := fun m ρ hpre => by
  have h := run_same (F := Bits) (ok_kernel2 m hpre) ρ
  rw [← defs_eq] at h
  exact h

end Cert.Proof.Experts

end
-- ==== Proof.ExpModel.lean ====
/-
  One row of an expert's computation as plain sums of products, and the kernel's payloads read as it.
-/
module

public import proofs.«01_k».proof.Proof.Gen.Kernel2Ideal.Skeleton
public import Idealize.ShloMosaic.Lib.Pointwise

@[expose] public section

noncomputable section

namespace Cert.Proof.Experts

open Cert.Kernel2Ideal Cert.Kernel2Ideal.Gen
open Idealize.ShloMosaic

/-! ## The model -/

/-- Entry `k` of a row packed in two rows of words: the low halves of the one and of the other, then the high halves. -/
def xk (a b : Fin 256 → BitVec 32) (k : Fin 1024) : EReal :=
  if h : k.val < 256 then FloatOps.ofBits (F := Ideal) .f32 (a ⟨k.val, h⟩ <<< 16)
  else if h2 : k.val < 512 then FloatOps.ofBits (F := Ideal) .f32 (b ⟨k.val - 256, by omega⟩ <<< 16)
  else if h3 : k.val < 768 then FloatOps.ofBits (F := Ideal) .f32 (a ⟨k.val - 512, by omega⟩ &&& 4294901760#32)
  else FloatOps.ofBits (F := Ideal) .f32 (b ⟨k.val - 768, by omega⟩ &&& 4294901760#32)

/-- The first product, with its bias. -/
def gu (x : Fin 1024 → EReal) (W : Fin 1024 → Fin 2048 → EReal) (b : Fin 2048 → EReal) (f : Fin 2048) : EReal :=
  (∑ k : Fin 1024, x k * W k f) + b f

/-- The clipped gate at `f`, and the hidden entry. -/
def gat (g : Fin 2048 → EReal) (f : Fin 1024) : EReal :=
  FloatOps.minimumf (F := Ideal) (φ := .f32) (g ⟨f.val, by omega⟩) (FloatOps.ofBits .f32 0x40E00000#32)
def hid (g : Fin 2048 → EReal) (f : Fin 1024) : EReal :=
  FloatOps.mulf (F := Ideal) (φ := .f32)
    (FloatOps.addf (F := Ideal) (φ := .f32)
      (FloatOps.minimumf (F := Ideal) (φ := .f32) (FloatOps.ofBits .f32 0x40E00000#32) (FloatOps.maximumf (F := Ideal) (φ := .f32) (FloatOps.ofBits .f32 0xC0E00000#32) (g ⟨1024 + f.val, by omega⟩)))
      (FloatOps.ofBits .f32 0x3F800000#32))
    (FloatOps.mulf (F := Ideal) (φ := .f32) (gat g f)
      (FloatOps.logistic (F := Ideal) (φ := .f32) (FloatOps.mulf (F := Ideal) (φ := .f32) (FloatOps.ofBits .f32 0x3FD9DB23#32) (gat g f))))

/-- The row's entry `d`. -/
def ye (g : Fin 2048 → EReal) (D : Fin 1024 → Fin 1024 → EReal) (e : Fin 1024 → EReal) (d : Fin 1024) : EReal :=
  (∑ f : Fin 1024, hid g f * D f d) + e d

/-! ## The payloads -/

theorem shl16 (u : ArithUnit) (x : BitVec 32) : IntOp.shli u x 16#32 = x <<< 16 := if_pos (by decide)

theorem halves (a b : Fin 256 → BitVec 32) (k : Fin 1024) :
    (if h : k.val < 512 then
      Ideal.ofBits FTy.f32 (IntOp.shli ArithUnit.vector (if h1 : k.val < 256 then a ⟨k.val, h1⟩ else b ⟨k.val - 256, by omega⟩) 16#32)
    else
      Ideal.ofBits FTy.f32 (IntOp.andi (if h1 : k.val - 512 < 256 then a ⟨k.val - 512, h1⟩ else b ⟨k.val - 512 - 256, by omega⟩) 4294901760#32))
    = xk a b k := by
  unfold xk
  by_cases h1 : k.val < 256
  · rw [dif_pos (by omega), dif_pos h1, dif_pos h1, shl16]; rfl
  by_cases h2 : k.val < 512
  · rw [dif_pos h2, dif_neg h1, dif_neg h1, dif_pos h2, shl16]; rfl
  by_cases h3 : k.val < 768
  · rw [dif_neg h2, dif_pos (by omega), dif_neg h1, dif_neg h2, dif_pos h3]; rfl
  · rw [dif_neg h2, dif_neg (by omega), dif_neg h1, dif_neg h2, dif_neg h3]
    simp only [Nat.sub_sub]; rfl

theorem pay12_apply (v : Elt Ideal .i32) (a b : Vec Ideal S1x512x256 .i32) (A : Vec Ideal S1024x2048 .bf16) (U : Vec Ideal S1x1x1x2048 .f32) (r : Fin 512) (f : Fin 2048)
    (hr : IntOp.cmpi .slt (BitVec.ofNat 32 r.val) v = 1#1) :
    k0_pay12 (F := Ideal) v a b A U (ix2 r f) = gu (xk (fun k => a (ix3 0 r k)) (fun k => b (ix3 0 r k))) (fun k f => A (ix2 k f)) (fun f => U (ix4 0 0 0 f)) f := by
  unfold gu
  pointwise [k0_pay12, dot_S512x1024_S1024x2048_S512x2048_1_0_0_1_n_n, hr]
  exact congrArg (· + _) (Finset.sum_congr rfl fun k _ => congrArg (· * _) (halves (fun k => a (ix3 0 r k)) (fun k => b (ix3 0 r k)) k))

theorem pay1_apply (p q s : FVec Ideal S512x1024 .f32) (B : Vec Ideal S1024x1024 .bf16) (D : Vec Ideal S1x1x1x1024 .f32) (r : Fin 512) (d : Fin 1024) :
    k0_pay1 (F := Ideal) p q s B D (ix2 r d) = (∑ f : Fin 1024, (q (ix2 r f) * (p (ix2 r f) * s (ix2 r f)) : EReal) * B (ix2 f d)) + D (ix4 0 0 0 d) := by
  pointwise [k0_pay1, dot_S512x1024_S1024x1024_S512x1024_1_0_0_1_n_n]

section
variable (v : Elt Ideal .i32) (a b : Vec Ideal S1x512x256 .i32) (A : Vec Ideal S1024x2048 .bf16) (U : Vec Ideal S1x1x1x2048 .f32) (B : Vec Ideal S1024x1024 .bf16) (D : Vec Ideal S1x1x1x1024 .f32) (r : Fin 512)

/-- The row of a block of 512. -/
abbrev row512 (d : Fin 1024) : EReal :=
  ye (gu (xk (fun k => a (ix3 0 r k)) (fun k => b (ix3 0 r k))) (fun k f => A (ix2 k f)) (fun f => U (ix4 0 0 0 f))) (fun f d => B (ix2 f d)) (fun d => D (ix4 0 0 0 d)) d

variable (hr : IntOp.cmpi .slt (BitVec.ofNat 32 r.val) v = 1#1)
include hr

theorem pay13_apply (f : Fin 1024) : k0_pay13 (F := Ideal) v a b A U (ix2 r f)
    = gat (gu (xk (fun k => a (ix3 0 r k)) (fun k => b (ix3 0 r k))) (fun k f => A (ix2 k f)) (fun f => U (ix4 0 0 0 f))) f := by
  unfold gat
  rw [← pay12_apply v a b A U r _ hr]
  refine congrArg (fun z => FloatOps.minimumf (F := Ideal) (φ := .f32) z _) ?_
  exact extractStridedSlice_apply _ _ _ _ _ (Fin.forall_fin_two.mpr ⟨(Nat.zero_add _).symm, (Nat.zero_add _).symm⟩)

theorem hid512 (f : Fin 1024) :
    ((k0_pay14 (F := Ideal) v a b A U (ix2 r f) : EReal) * (k0_pay13 (F := Ideal) v a b A U (ix2 r f) * k0_pay15 (F := Ideal) v a b A U (ix2 r f)))
      = hid (gu (xk (fun k => a (ix3 0 r k)) (fun k => b (ix3 0 r k))) (fun k f => A (ix2 k f)) (fun f => U (ix4 0 0 0 f))) f := by
  have h15 : k0_pay15 (F := Ideal) v a b A U (ix2 r f) = FloatOps.logistic (F := Ideal) (φ := .f32) (FloatOps.mulf (F := Ideal) (φ := .f32) (FloatOps.ofBits .f32 0x3FD9DB23#32) (k0_pay13 (F := Ideal) v a b A U (ix2 r f))) := rfl
  have h14 : k0_pay14 (F := Ideal) v a b A U (ix2 r f) = FloatOps.addf (F := Ideal) (φ := .f32)
      (FloatOps.minimumf (F := Ideal) (φ := .f32) (FloatOps.ofBits .f32 0x40E00000#32) (FloatOps.maximumf (F := Ideal) (φ := .f32) (FloatOps.ofBits .f32 0xC0E00000#32) (k0_pay12 (F := Ideal) v a b A U (ix2 r ⟨1024 + f.val, by omega⟩))))
      (FloatOps.ofBits .f32 0x3F800000#32) := by
    refine congrArg (fun z => FloatOps.addf (F := Ideal) (φ := .f32) (FloatOps.minimumf (F := Ideal) (φ := .f32) _ (FloatOps.maximumf (F := Ideal) (φ := .f32) _ z)) _) ?_
    exact extractStridedSlice_apply _ _ _ _ _ (Fin.forall_fin_two.mpr ⟨(Nat.zero_add _).symm, rfl⟩)
  rw [h15, h14, pay13_apply v a b A U r hr f, pay12_apply v a b A U r _ hr]
  rfl

theorem row_of512 (d : Fin 1024) :
    k0_pay1 (F := Ideal) (k0_pay13 v a b A U) (k0_pay14 v a b A U) (k0_pay15 v a b A U) B D (ix2 r d) = row512 a b A U B D r d := by
  rw [pay1_apply]
  exact congrArg (· + _) (Finset.sum_congr rfl fun f _ => congrArg (· * _) (hid512 v a b A U r hr f))

theorem left512 (j : Fin 512) :
    k0_pay2 (F := Ideal) (k0_pay13 v a b A U) (k0_pay14 v a b A U) (k0_pay15 v a b A U) B D (ix3 0 r j) = row512 a b A U B D r ⟨j.val, by omega⟩ := by
  rw [← row_of512 v a b A U B D r hr]
  unfold k0_pay2
  exact (shapeCast_apply _ _ (ix3 0 r j) (ix2 r j) (by rw [Shape.rowMajor_val_two, Shape.rowMajor_val_three]; show r.val * 512 + j.val = (0 * 512 + r.val) * 512 + j.val; omega)).trans
    (extractStridedSlice_apply _ _ _ _ _ (Fin.forall_fin_two.mpr ⟨(Nat.zero_add _).symm, (Nat.zero_add _).symm⟩))

theorem right512 (j : Fin 512) :
    k0_pay3 (F := Ideal) (k0_pay13 v a b A U) (k0_pay14 v a b A U) (k0_pay15 v a b A U) B D (ix3 0 r j) = row512 a b A U B D r ⟨512 + j.val, by omega⟩ := by
  rw [← row_of512 v a b A U B D r hr]
  unfold k0_pay3
  exact (shapeCast_apply _ _ (ix3 0 r j) (ix2 r j) (by rw [Shape.rowMajor_val_two, Shape.rowMajor_val_three]; show r.val * 512 + j.val = (0 * 512 + r.val) * 512 + j.val; omega)).trans
    (extractStridedSlice_apply _ _ _ _ _ (Fin.forall_fin_two.mpr ⟨(Nat.zero_add _).symm, rfl⟩))
end

theorem pay16_apply (v : Elt Ideal .i32) (a b : Vec Ideal S1x256x256 .i32) (A : Vec Ideal S1024x2048 .bf16) (U : Vec Ideal S1x1x1x2048 .f32) (r : Fin 256) (f : Fin 2048)
    (hr : IntOp.cmpi .slt (BitVec.ofNat 32 r.val) v = 1#1) :
    k0_pay16 (F := Ideal) v a b A U (ix2 r f) = gu (xk (fun k => a (ix3 0 r k)) (fun k => b (ix3 0 r k))) (fun k f => A (ix2 k f)) (fun f => U (ix4 0 0 0 f)) f := by
  unfold gu
  pointwise [k0_pay16, dot_S256x1024_S1024x2048_S256x2048_1_0_0_1_n_n, hr]
  exact congrArg (· + _) (Finset.sum_congr rfl fun k _ => congrArg (· * _) (halves (fun k => a (ix3 0 r k)) (fun k => b (ix3 0 r k)) k))

theorem pay4_apply (p q s : FVec Ideal S256x1024 .f32) (B : Vec Ideal S1024x1024 .bf16) (D : Vec Ideal S1x1x1x1024 .f32) (r : Fin 256) (d : Fin 1024) :
    k0_pay4 (F := Ideal) p q s B D (ix2 r d) = (∑ f : Fin 1024, (q (ix2 r f) * (p (ix2 r f) * s (ix2 r f)) : EReal) * B (ix2 f d)) + D (ix4 0 0 0 d) := by
  pointwise [k0_pay4, dot_S256x1024_S1024x1024_S256x1024_1_0_0_1_n_n]

section
variable (v : Elt Ideal .i32) (a b : Vec Ideal S1x256x256 .i32) (A : Vec Ideal S1024x2048 .bf16) (U : Vec Ideal S1x1x1x2048 .f32) (B : Vec Ideal S1024x1024 .bf16) (D : Vec Ideal S1x1x1x1024 .f32) (r : Fin 256)

/-- The row of a block of 256. -/
abbrev row256 (d : Fin 1024) : EReal :=
  ye (gu (xk (fun k => a (ix3 0 r k)) (fun k => b (ix3 0 r k))) (fun k f => A (ix2 k f)) (fun f => U (ix4 0 0 0 f))) (fun f d => B (ix2 f d)) (fun d => D (ix4 0 0 0 d)) d

variable (hr : IntOp.cmpi .slt (BitVec.ofNat 32 r.val) v = 1#1)
include hr

theorem pay17_apply (f : Fin 1024) : k0_pay17 (F := Ideal) v a b A U (ix2 r f)
    = gat (gu (xk (fun k => a (ix3 0 r k)) (fun k => b (ix3 0 r k))) (fun k f => A (ix2 k f)) (fun f => U (ix4 0 0 0 f))) f := by
  unfold gat
  rw [← pay16_apply v a b A U r _ hr]
  refine congrArg (fun z => FloatOps.minimumf (F := Ideal) (φ := .f32) z _) ?_
  exact extractStridedSlice_apply _ _ _ _ _ (Fin.forall_fin_two.mpr ⟨(Nat.zero_add _).symm, (Nat.zero_add _).symm⟩)

theorem hid256 (f : Fin 1024) :
    ((k0_pay18 (F := Ideal) v a b A U (ix2 r f) : EReal) * (k0_pay17 (F := Ideal) v a b A U (ix2 r f) * k0_pay19 (F := Ideal) v a b A U (ix2 r f)))
      = hid (gu (xk (fun k => a (ix3 0 r k)) (fun k => b (ix3 0 r k))) (fun k f => A (ix2 k f)) (fun f => U (ix4 0 0 0 f))) f := by
  have h15 : k0_pay19 (F := Ideal) v a b A U (ix2 r f) = FloatOps.logistic (F := Ideal) (φ := .f32) (FloatOps.mulf (F := Ideal) (φ := .f32) (FloatOps.ofBits .f32 0x3FD9DB23#32) (k0_pay17 (F := Ideal) v a b A U (ix2 r f))) := rfl
  have h14 : k0_pay18 (F := Ideal) v a b A U (ix2 r f) = FloatOps.addf (F := Ideal) (φ := .f32)
      (FloatOps.minimumf (F := Ideal) (φ := .f32) (FloatOps.ofBits .f32 0x40E00000#32) (FloatOps.maximumf (F := Ideal) (φ := .f32) (FloatOps.ofBits .f32 0xC0E00000#32) (k0_pay16 (F := Ideal) v a b A U (ix2 r ⟨1024 + f.val, by omega⟩))))
      (FloatOps.ofBits .f32 0x3F800000#32) := by
    refine congrArg (fun z => FloatOps.addf (F := Ideal) (φ := .f32) (FloatOps.minimumf (F := Ideal) (φ := .f32) _ (FloatOps.maximumf (F := Ideal) (φ := .f32) _ z)) _) ?_
    exact extractStridedSlice_apply _ _ _ _ _ (Fin.forall_fin_two.mpr ⟨(Nat.zero_add _).symm, rfl⟩)
  rw [h15, h14, pay17_apply v a b A U r hr f, pay16_apply v a b A U r _ hr]
  rfl

theorem row_of256 (d : Fin 1024) :
    k0_pay4 (F := Ideal) (k0_pay17 v a b A U) (k0_pay18 v a b A U) (k0_pay19 v a b A U) B D (ix2 r d) = row256 a b A U B D r d := by
  rw [pay4_apply]
  exact congrArg (· + _) (Finset.sum_congr rfl fun f _ => congrArg (· * _) (hid256 v a b A U r hr f))

theorem left256 (j : Fin 512) :
    k0_pay5 (F := Ideal) (k0_pay17 v a b A U) (k0_pay18 v a b A U) (k0_pay19 v a b A U) B D (ix3 0 r j) = row256 a b A U B D r ⟨j.val, by omega⟩ := by
  rw [← row_of256 v a b A U B D r hr]
  unfold k0_pay5
  exact (shapeCast_apply _ _ (ix3 0 r j) (ix2 r j) (by rw [Shape.rowMajor_val_two, Shape.rowMajor_val_three]; show r.val * 512 + j.val = (0 * 256 + r.val) * 512 + j.val; omega)).trans
    (extractStridedSlice_apply _ _ _ _ _ (Fin.forall_fin_two.mpr ⟨(Nat.zero_add _).symm, (Nat.zero_add _).symm⟩))

theorem right256 (j : Fin 512) :
    k0_pay7 (F := Ideal) (k0_pay17 v a b A U) (k0_pay18 v a b A U) (k0_pay19 v a b A U) B D (ix3 0 r j) = row256 a b A U B D r ⟨512 + j.val, by omega⟩ := by
  rw [← row_of256 v a b A U B D r hr]
  unfold k0_pay7
  exact (shapeCast_apply _ _ (ix3 0 r j) (ix2 r j) (by rw [Shape.rowMajor_val_two, Shape.rowMajor_val_three]; show r.val * 512 + j.val = (0 * 256 + r.val) * 512 + j.val; omega)).trans
    (extractStridedSlice_apply _ _ _ _ _ (Fin.forall_fin_two.mpr ⟨(Nat.zero_add _).symm, rfl⟩))
end

end Cert.Proof.Experts

end
-- ==== Proof.ExpRef.lean ====
/-
  The reference of the experts' call read at an index: the same row of sums of products.
-/
module

public import proofs.«01_k».proof.Proof.ExpModel
public import proofs.«01_k».proof.Proof.Gen.Reference2Ideal
public import proofs.«01_k».proof.Proof.Gen.Reference2Ideal.Read
public import Idealize.ShloMosaic.Lib.IdealHost

@[expose] public section

noncomputable section

namespace Cert.Proof.Experts

open Cert.Reference2Ideal Cert.Reference2Ideal.Gen Cert.Reference2Ideal.Read
open Idealize.ShloMosaic

/-! ## Indices -/

theorem eq2 {n0 n1 : ℕ} (f : (⟨2, ![n0, n1]⟩ : Shape).Idx) (a : Fin n0) (b : Fin n1) (h0 : (f 0).val = a.val) (h1 : (f 1).val = b.val) : f = ix2 a b := by
  rw [eq_ix2 f]; exact congr (congrArg ix2 (Fin.ext h0)) (Fin.ext h1)
theorem eq3 {n0 n1 n2 : ℕ} (f : (⟨3, ![n0, n1, n2]⟩ : Shape).Idx) (a : Fin n0) (b : Fin n1) (c : Fin n2) (h0 : (f 0).val = a.val) (h1 : (f 1).val = b.val)
    (h2 : (f 2).val = c.val) : f = ix3 a b c := by
  rw [eq_ix3 f]; exact congr (congr (congrArg ix3 (Fin.ext h0)) (Fin.ext h1)) (Fin.ext h2)
theorem eq4 {n0 n1 n2 n3 : ℕ} (f : (⟨4, ![n0, n1, n2, n3]⟩ : Shape).Idx) (a : Fin n0) (b : Fin n1) (c : Fin n2) (d : Fin n3) (h0 : (f 0).val = a.val)
    (h1 : (f 1).val = b.val) (h2 : (f 2).val = c.val) (h3 : (f 3).val = d.val) : f = ix4 a b c d := by
  rw [eq_ix4 f]; exact congr (congr (congr (congrArg ix4 (Fin.ext h0)) (Fin.ext h1)) (Fin.ext h2)) (Fin.ext h3)

/-! ## A table's rows taken by number -/

section
variable {N A B M : ℕ} (wf : GatherDims.WF ⟨3, ![N, A, B]⟩ ⟨2, ![M, 1]⟩ ⟨3, ![M, A, B]⟩ [1, 2] [0] [] [0] [] 1 ![1, A, B])

abbrev pick : GatherDims ⟨3, ![N, A, B]⟩ ⟨2, ![M, 1]⟩ ⟨3, ![M, A, B]⟩ where
  offsetDims := [1, 2]
  collapsedSliceDims := [0]
  operandBatchingDims := []
  startIndicesBatchingDims := []
  startIndexMap := [0]
  indexVectorDim := 1
  sliceSizes := ![1, A, B]
  wf := wf

theorem pick_apply {α : Type} (x : (⟨3, ![N, A, B]⟩ : Shape).Idx → α) (idx : IVec ⟨2, ![M, 1]⟩ 32) (t : Fin M) (a : Fin A) (b : Fin B) (e : Fin N)
    (he : (idx (ix2 t 0)).toInt.toNat = e.val) : Host.gather (pick wf) x idx (ix3 t a b) = x (ix3 e a b) := by
  unfold Host.gather
  refine congrArg x (eq3 _ _ _ _ ?_ ?_ ?_)
  · show (pick wf).start (ix3 t a b) idx 0 + (pick wf).batchCoord (ix3 t a b) 0 + (pick wf).offCoord (ix3 t a b) 0 = e.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 3) ∈ (pick wf).startIndexMap from List.mem_singleton.mpr rfl)]
    have hsi : (pick wf).siIdx (ix3 t a b) ⟨List.idxOf (0 : Fin 3) (pick wf).startIndexMap, List.idxOf_lt_length_iff.2 (List.mem_singleton.mpr rfl)⟩ = ix2 t 0 :=
      eq2 _ _ _ rfl rfl
    rw [hsi, he]
    show min e.val (N - 1) + 0 + 0 = e.val
    have := e.isLt
    omega
  · show (pick wf).start (ix3 t a b) idx 1 + (pick wf).batchCoord (ix3 t a b) 1 + (pick wf).offCoord (ix3 t a b) 1 = a.val
    rw [GatherDims.batchCoord_eq_zero _ _ _ List.not_mem_nil]
    unfold GatherDims.start
    rw [dif_neg (show (1 : Fin 3) ∉ [(0 : Fin 3)] by decide)]
    show 0 + 0 + a.val = a.val
    omega
  · show (pick wf).start (ix3 t a b) idx 2 + (pick wf).batchCoord (ix3 t a b) 2 + (pick wf).offCoord (ix3 t a b) 2 = b.val
    rw [GatherDims.batchCoord_eq_zero _ _ _ List.not_mem_nil]
    unfold GatherDims.start
    rw [dif_neg (show (2 : Fin 3) ∉ [(0 : Fin 3)] by decide)]
    show 0 + 0 + b.val = b.val
    omega
end

/-- A word that is not negative stays as it is. -/
theorem kept (v : BitVec 32) (h : v.toNat < 32) : Scalar.select (IntOp.cmpi .slt v 0#32) (IntOp.addi v 32#32) v = v := by
  have : IntOp.cmpi .slt v 0#32 = 0#1 := by
    show BitVec.ofBool (v.slt 0#32) = 0#1
    rw [show v.slt 0#32 = false by
      rw [BitVec.slt_eq_decide, BitVec.toInt_eq_toNat_cond]; simp; omega]
    rfl
  rw [this]; rfl

theorem toInt_small (v : BitVec 32) (h : v.toNat < 32) : v.toInt.toNat = v.toNat := by
  rw [BitVec.toInt_eq_toNat_cond]; split <;> omega

/-! ## The reference's stages -/

section
variable (x0 : (⟨S288, .i32⟩ : BufTy).Contents (Elt Ideal)) (x4 : (⟨S2x147456x256, .i32⟩ : BufTy).Contents (Elt Ideal)) (x5 : (⟨S4x32x1024x2048, .f32⟩ : BufTy).Contents (Elt Ideal))
  (x6 : (⟨S4x32x1x2048, .f32⟩ : BufTy).Contents (Elt Ideal)) (x7 : (⟨S4x32x1024x1024, .f32⟩ : BufTy).Contents (Elt Ideal)) (x8 : (⟨S4x32x1x1024, .f32⟩ : BufTy).Contents (Elt Ideal))

theorem at7 (R : Fin 147456) (k : Fin 256) : val_main_v7 (F := Ideal) x4 (ix2 R k) = FloatOps.ofBits (F := Ideal) .f32 (x4 (ix3 0 R k) <<< 16) := by
  rw [val_main_v7_apply, eq3 (idx_main_v7 (ix2 R k)) 0 R k rfl (by show (R.val * 256 + k.val) / 256 % 147456 = R.val; omega) (by show (R.val * 256 + k.val) % 256 = k.val; omega),
    val_main_v6_apply, eq3 (idx_main_v6 (ix3 0 R k)) 0 R k rfl rfl rfl]
  exact congrArg (FloatOps.ofBits (F := Ideal) .f32) (shl16 .host _)

theorem at9 (R : Fin 147456) (k : Fin 256) : val_main_v9 (F := Ideal) x4 (ix2 R k) = FloatOps.ofBits (F := Ideal) .f32 (x4 (ix3 1 R k) <<< 16) := by
  rw [val_main_v9_apply, eq3 (idx_main_v9 (ix2 R k)) 0 R k rfl (by show (R.val * 256 + k.val) / 256 % 147456 = R.val; omega) (by show (R.val * 256 + k.val) % 256 = k.val; omega),
    val_main_v8_apply, eq3 (idx_main_v8 (ix3 0 R k)) 1 R k rfl rfl rfl]
  exact congrArg (FloatOps.ofBits (F := Ideal) .f32) (shl16 .host _)

theorem at11 (R : Fin 147456) (k : Fin 256) : val_main_v11 (F := Ideal) x4 (ix2 R k) = FloatOps.ofBits (F := Ideal) .f32 (x4 (ix3 0 R k) &&& 4294901760#32) := by
  rw [val_main_v11_apply, eq3 (idx_main_v11 (ix2 R k)) 0 R k rfl (by show (R.val * 256 + k.val) / 256 % 147456 = R.val; omega) (by show (R.val * 256 + k.val) % 256 = k.val; omega),
    val_main_v10_apply, eq3 (idx_main_v10 (ix3 0 R k)) 0 R k rfl rfl rfl]
  exact congrArg (FloatOps.ofBits (F := Ideal) .f32) rfl

theorem at13 (R : Fin 147456) (k : Fin 256) : val_main_v13 (F := Ideal) x4 (ix2 R k) = FloatOps.ofBits (F := Ideal) .f32 (x4 (ix3 1 R k) &&& 4294901760#32) := by
  rw [val_main_v13_apply, eq3 (idx_main_v13 (ix2 R k)) 0 R k rfl (by show (R.val * 256 + k.val) / 256 % 147456 = R.val; omega) (by show (R.val * 256 + k.val) % 256 = k.val; omega),
    val_main_v12_apply, eq3 (idx_main_v12 (ix3 0 R k)) 1 R k rfl rfl rfl]
  exact congrArg (FloatOps.ofBits (F := Ideal) .f32) rfl

theorem at14 (R : Fin 147456) (k : Fin 1024) : val_main_v14 (F := Ideal) x4 (ix2 R k) = xk (fun k => x4 (ix3 0 R k)) (fun k => x4 (ix3 1 R k)) k := by
  unfold val_main_v14 xk
  pointwise
  by_cases h1 : k.val < 256
  · rw [dif_pos h1, dif_pos h1]; exact at7 x4 R ⟨k.val, h1⟩
  rw [dif_neg h1, dif_neg h1]
  by_cases h2 : k.val < 512
  · rw [dif_pos (by omega), dif_pos h2]; exact at9 x4 R ⟨k.val - 256, by omega⟩
  rw [dif_neg (by omega), dif_neg h2]
  by_cases h3 : k.val < 768
  · rw [dif_pos (by omega), dif_pos h3]; refine (at11 x4 R ⟨k.val - 256 - 256, by omega⟩).trans ?_; simp only [Nat.sub_sub]; rfl
  · rw [dif_neg (by omega), dif_neg h3]; refine (at13 x4 R ⟨k.val - 256 - 256 - 256, by omega⟩).trans ?_; simp only [Nat.sub_sub]; rfl

variable (t : Fin 288)

/-- Row `r` of block `t` among all the rows. -/
abbrev rowN (t : Fin 288) (r : Fin 512) : Fin 147456 := ⟨t.val * 512 + r.val, by omega⟩

theorem at15 (r : Fin 512) (k : Fin 1024) : val_main_v15 (F := Ideal) x4 (ix3 t r k) = xk (fun k => x4 (ix3 0 (rowN t r) k)) (fun k => x4 (ix3 1 (rowN t r) k)) k := by
  rw [val_main_v15_apply, eq2 (idx_main_v15 (ix3 t r k)) (rowN t r) k (by show ((t.val * 512 + r.val) * 1024 + k.val) / 1024 = t.val * 512 + r.val; omega)
    (by show ((t.val * 512 + r.val) * 1024 + k.val) % 1024 = k.val; omega)]
  exact at14 x4 (rowN t r) k

variable (e : Fin 32) (he : (x0 (ix1 t)).toNat = e.val)
include he

theorem num23 : (val_main_v23 (F := Ideal) x0 (ix2 t 0)).toInt.toNat = e.val := by
  have hlt : (x0 (ix1 t)).toNat < 32 := he ▸ e.isLt
  have h : val_main_v23 (F := Ideal) x0 (ix2 t 0) = x0 (ix1 t) := by
    rw [val_main_v23_apply, show idx_main_v23 (ix2 t 0) = ix1 t from funext fun a => by obtain rfl : a = 0 := Subsingleton.elim _ _; rfl]
    exact kept _ hlt
  rw [h, toInt_small _ hlt, he]

theorem num33 : (val_main_v33 (F := Ideal) x0 (ix2 t 0)).toInt.toNat = e.val := by
  have hlt : (x0 (ix1 t)).toNat < 32 := he ▸ e.isLt
  have h : val_main_v33 (F := Ideal) x0 (ix2 t 0) = x0 (ix1 t) := by
    rw [val_main_v33_apply, show idx_main_v33 (ix2 t 0) = ix1 t from funext fun a => by obtain rfl : a = 0 := Subsingleton.elim _ _; rfl]
    exact kept _ hlt
  rw [h, toInt_small _ hlt, he]

theorem num61 : (val_main_v61 (F := Ideal) x0 (ix2 t 0)).toInt.toNat = e.val := by
  have hlt : (x0 (ix1 t)).toNat < 32 := he ▸ e.isLt
  have h : val_main_v61 (F := Ideal) x0 (ix2 t 0) = x0 (ix1 t) := by
    rw [val_main_v61_apply, show idx_main_v61 (ix2 t 0) = ix1 t from funext fun a => by obtain rfl : a = 0 := Subsingleton.elim _ _; rfl]
    exact kept _ hlt
  rw [h, toInt_small _ hlt, he]

theorem num71 : (val_main_v71 (F := Ideal) x0 (ix2 t 0)).toInt.toNat = e.val := by
  have hlt : (x0 (ix1 t)).toNat < 32 := he ▸ e.isLt
  have h : val_main_v71 (F := Ideal) x0 (ix2 t 0) = x0 (ix1 t) := by
    rw [val_main_v71_apply, show idx_main_v71 (ix2 t 0) = ix1 t from funext fun a => by obtain rfl : a = 0 := Subsingleton.elim _ _; rfl]
    exact kept _ hlt
  rw [h, toInt_small _ hlt, he]

theorem at24 (k : Fin 1024) (f : Fin 2048) : val_main_v24 (F := Ideal) x0 x5 (ix3 t k f) = x5 (ix4 0 e k f) := by
  unfold val_main_v24
  refine (pick_apply gather_S32x1024x2048_S288x1_S288x1024x2048_12_0_n_n_0_1_110242048_wf _ _ t k f e (num23 x0 t e he)).trans ?_
  rw [val_main_v17_apply, eq4 (idx_main_v17 (ix3 e k f)) 0 e k f rfl (by show ((e.val * 1024 + k.val) * 2048 + f.val) / 2097152 % 32 = e.val; omega) (by show ((e.val * 1024 + k.val) * 2048 + f.val) / 2048 % 1024 = k.val; omega) (by show ((e.val * 1024 + k.val) * 2048 + f.val) % 2048 = f.val; omega),
    val_main_v16_apply, eq4 (idx_main_v16 (ix4 0 e k f)) 0 e k f rfl rfl rfl rfl]

theorem at34 (f : Fin 2048) : val_main_v34 (F := Ideal) x0 x6 (ix3 t 0 f) = x6 (ix4 0 e 0 f) := by
  unfold val_main_v34
  refine (pick_apply gather_S32x1x2048_S288x1_S288x1x2048_12_0_n_n_0_1_112048_wf _ _ t 0 f e (num33 x0 t e he)).trans ?_
  rw [val_main_v27_apply, eq4 (idx_main_v27 (ix3 e 0 f)) 0 e 0 f rfl (by show ((e.val * 1 + 0) * 2048 + f.val) / 2048 % 32 = e.val; omega) (rfl) (by show ((e.val * 1 + 0) * 2048 + f.val) % 2048 = f.val; omega),
    val_main_v26_apply, eq4 (idx_main_v26 (ix4 0 e 0 f)) 0 e 0 f rfl rfl rfl rfl]

theorem at62 (k : Fin 1024) (f : Fin 1024) : val_main_v62 (F := Ideal) x0 x7 (ix3 t k f) = x7 (ix4 0 e k f) := by
  unfold val_main_v62
  refine (pick_apply gather_S32x1024x1024_S288x1_S288x1024x1024_12_0_n_n_0_1_110241024_wf _ _ t k f e (num61 x0 t e he)).trans ?_
  rw [val_main_v55_apply, eq4 (idx_main_v55 (ix3 e k f)) 0 e k f rfl (by show ((e.val * 1024 + k.val) * 1024 + f.val) / 1048576 % 32 = e.val; omega) (by show ((e.val * 1024 + k.val) * 1024 + f.val) / 1024 % 1024 = k.val; omega) (by show ((e.val * 1024 + k.val) * 1024 + f.val) % 1024 = f.val; omega),
    val_main_v54_apply, eq4 (idx_main_v54 (ix4 0 e k f)) 0 e k f rfl rfl rfl rfl]

theorem at72 (f : Fin 1024) : val_main_v72 (F := Ideal) x0 x8 (ix3 t 0 f) = x8 (ix4 0 e 0 f) := by
  unfold val_main_v72
  refine (pick_apply gather_S32x1x1024_S288x1_S288x1x1024_12_0_n_n_0_1_111024_wf _ _ t 0 f e (num71 x0 t e he)).trans ?_
  rw [val_main_v65_apply, eq4 (idx_main_v65 (ix3 e 0 f)) 0 e 0 f rfl (by show ((e.val * 1 + 0) * 1024 + f.val) / 1024 % 32 = e.val; omega) (rfl) (by show ((e.val * 1 + 0) * 1024 + f.val) % 1024 = f.val; omega),
    val_main_v64_apply, eq4 (idx_main_v64 (ix4 0 e 0 f)) 0 e 0 f rfl rfl rfl rfl]

variable (r : Fin 512)

/-- The first product of row `r` of block `t`. -/
abbrev refG (f : Fin 2048) : EReal :=
  gu (xk (fun k => x4 (ix3 0 (rowN t r) k)) (fun k => x4 (ix3 1 (rowN t r) k))) (fun k f => x5 (ix4 0 e k f)) (fun f => x6 (ix4 0 e 0 f)) f

theorem at36 (f : Fin 2048) : val_main_v36 (F := Ideal) x0 x4 x5 x6 (ix3 t r f) = refG x4 x5 x6 t e r f := by
  rw [val_main_v36_apply, val_main_v35_apply, eq3 (idx_main_v35 (ix3 t r f)) t 0 f rfl rfl rfl, at34 x0 x6 t e he f, val_main_v25_apply]
  refine congrArg (· + x6 (ix4 0 e 0 f)) (Finset.sum_congr rfl fun k _ => ?_)
  rw [eq3 (lidx_main_v25 (ix3 t r f) k) t r k rfl rfl rfl, eq3 (ridx_main_v25 (ix3 t r f) k) t k f rfl rfl rfl, at15, at24 x0 x5 t e he]

theorem at39 (f : Fin 1024) : val_main_v39 (F := Ideal) x0 x4 x5 x6 (ix3 t r f) = gat (refG x4 x5 x6 t e r) f := by
  rw [val_main_v39_apply, val_main_v37_apply, eq3 (idx_main_v37 (ix3 t r f)) t r ⟨f.val, by omega⟩ rfl rfl rfl, at36 x0 x4 x5 x6 t e he]
  rfl

theorem at51 (i : S288x512x1024.Idx) : val_main_v51 (F := Ideal) x0 x4 x5 x6 i
    = FloatOps.logistic (F := Ideal) (φ := .f32) (FloatOps.mulf (F := Ideal) (φ := .f32) (FloatOps.ofBits .f32 0x3FD9DB23#32) (val_main_v39 (F := Ideal) x0 x4 x5 x6 i)) := by
  rw [val_main_v51_apply, val_main_v50_apply, val_main_cst_10_apply, val_main_v49_apply, val_main_v48_apply, val_main_cst_9_apply, val_main_v47_apply, val_main_v46_apply,
    val_main_v45_apply, val_main_v44_apply, val_main_cst_8_apply]
  show Ideal.div (Ideal.ofBits .f32 0x3F800000#32) (Ideal.ofBits .f32 0x3F800000#32 + _) = _
  rw [Ideal.ofBits_one_f32]
  rfl

theorem at53 (f : Fin 1024) : val_main_v53 (F := Ideal) x0 x4 x5 x6 (ix3 t r f) = hid (refG x4 x5 x6 t e r) f := by
  rw [val_main_v53_apply, val_main_v52_apply, at51 x0 x4 x5 x6 t e he, at39 x0 x4 x5 x6 t e he, val_main_v43_apply, val_main_v41_apply, val_main_call0_v2_apply, val_main_v40_apply,
    eq3 (idx_main_v40 (ix3 t r f)) t r ⟨1024 + f.val, by omega⟩ rfl rfl rfl, at36 x0 x4 x5 x6 t e he]
  rfl

theorem at74 (d : Fin 1024) : val_main_v74 (F := Ideal) x0 x4 x5 x6 x7 x8 (ix3 t r d)
    = ye (refG x4 x5 x6 t e r) (fun f d => x7 (ix4 0 e f d)) (fun d => x8 (ix4 0 e 0 d)) d := by
  rw [val_main_v74_apply, val_main_v73_apply, eq3 (idx_main_v73 (ix3 t r d)) t 0 d rfl rfl rfl, at72 x0 x8 t e he d, val_main_v63_apply]
  refine congrArg (· + x8 (ix4 0 e 0 d)) (Finset.sum_congr rfl fun k _ => ?_)
  rw [eq3 (lidx_main_v63 (ix3 t r d) k) t r k rfl rfl rfl, eq3 (ridx_main_v63 (ix3 t r d) k) t k d rfl rfl rfl, at53 x0 x4 x5 x6 t e he, at62 x0 x7 t e he]

/-- The reference's result at row `r` of block `t`. -/
theorem at77 (ch : Fin 2) (j : Fin 512) : val_main_v77 (F := Ideal) x0 x4 x5 x6 x7 x8 (ix3 ch (rowN t r) j)
    = ye (refG x4 x5 x6 t e r) (fun f d => x7 (ix4 0 e f d)) (fun d => x8 (ix4 0 e 0 d)) ⟨ch.val * 512 + j.val, by omega⟩ := by
  rw [val_main_v77_apply, val_main_v76_apply, eq3 (idx_main_v76 (ix3 ch (rowN t r) j)) (rowN t r) ch j rfl rfl rfl, val_main_v75_apply,
    eq3 (idx_main_v75 (ix3 (rowN t r) ch j)) t r ⟨ch.val * 512 + j.val, by omega⟩
      (by show (((t.val * 512 + r.val) * 2 + ch.val) * 512 + j.val) / 524288 = t.val; omega)
      (by show (((t.val * 512 + r.val) * 2 + ch.val) * 512 + j.val) / 1024 % 512 = r.val; omega)
      (by show (((t.val * 512 + r.val) * 2 + ch.val) * 512 + j.val) % 1024 = ch.val * 512 + j.val; omega)]
  exact at74 x0 x4 x5 x6 x7 x8 t e he r _
end

end Cert.Proof.Experts

end
-- ==== Proof.ExpFinal.lean ====
/-
  The experts' result read at an index: at the rows its tables count, what the reference has there.
-/
module

public import proofs.«01_k».proof.Proof.ExpFrames
public import proofs.«01_k».proof.Proof.ExpRef
public import Idealize.ShloMosaic.Lib.Pointwise

@[expose] public section

noncomputable section

namespace Cert.Proof.Experts

open Cert.Kernel2Ideal Cert.Kernel2Ideal.Gen
open Idealize.ShloMosaic Idealize.ShloMosaic.TcCoe
open Idealize.SL.Sem

variable {m : (ℓ : Loc nD τ sig) → Buf (Elt Ideal) ℓ} (c : Dev nD)

/-! ## The weights and the blocks at an index -/

theorem rU_apply (e : Fin 32) (k : Fin 1024) (f : Fin 2048) : rU m c e (ix2 k f) = m ((c : Thread nD τ).loc main_arg5) (ix4 0 e k f) := by
  unfold rU k0_pay10
  have hx : (S1x1024x2048.rowMajor (ix3 (0 : Fin 1) k f)).val = (S1024x2048.rowMajor (ix2 k f)).val := by
    rw [Shape.rowMajor_val_two, Shape.rowMajor_val_three]; show ((0 : Fin 1).val * 1024 + k.val) * 2048 + f.val = k.val * 2048 + f.val
    rw [show ((0 : Fin 1).val) = 0 from rfl]; omega
  refine (congrFun (shapeCast_self _ _) _).trans ?_
  show shapeCast S1024x2048 (gU m c e) _ (ix2 k f) = _
  refine (shapeCast_apply (gU m c e) _ (ix2 k f) (ix3 (0 : Fin 1) k f) hx).trans ?_
  exact congrArg (m ((c : Thread nD τ).loc main_arg5)) (eq4 _ _ _ _ _ rfl rfl rfl rfl)

theorem rD_apply (e : Fin 32) (k f : Fin 1024) : rD m c e (ix2 k f) = m ((c : Thread nD τ).loc main_arg7) (ix4 0 e k f) := by
  unfold rD k0_pay11
  have hx : (S1x1024x1024.rowMajor (ix3 (0 : Fin 1) k f)).val = (S1024x1024.rowMajor (ix2 k f)).val := by
    rw [Shape.rowMajor_val_two, Shape.rowMajor_val_three]; show ((0 : Fin 1).val * 1024 + k.val) * 1024 + f.val = k.val * 1024 + f.val
    rw [show ((0 : Fin 1).val) = 0 from rfl]; omega
  refine (congrFun (shapeCast_self _ _) _).trans ?_
  show shapeCast S1024x1024 (gD m c e) _ (ix2 k f) = _
  refine (shapeCast_apply (gD m c e) _ (ix2 k f) (ix3 (0 : Fin 1) k f) hx).trans ?_
  exact congrArg (m ((c : Thread nD τ).loc main_arg7)) (eq4 _ _ _ _ _ rfl rfl rfl rfl)

/-- The number of a point, of the 288. -/
abbrev tt (t : Fin grid0.N) : Fin 288 := ⟨t.val, N_0 ▸ t.isLt⟩

variable (h : TabOK m 0) (t : Fin grid0.N)

theorem xb_apply (a : Fin 2) (r : Fin 512) (k : Fin 256) : xb c h t (ix3 a r k) = m ((c : Thread nD τ).loc main_arg4) (ix3 a (rowN (tt t) r) k) := by
  refine congrArg (m ((c : Thread nD τ).loc main_arg4)) (eq3 ((((cfgA h).win (0 : Fin 4)).rect t).emb (ix3 a r k)) _ _ _ ?_ ?_ ?_)
  · exact (Pipeline.Window.rect_emb_val ((cfgA h).win (0 : Fin 4)) t _ (0 : Fin 3)).trans (by show 0 * 2 + a.val = a.val; omega)
  · exact (Pipeline.Window.rect_emb_val ((cfgA h).win (0 : Fin 4)) t _ (1 : Fin 3)).trans (by
      show (BitVec.ofNat 32 ((grid0.coords t) 0).val).toNat * 512 + r.val = t.val * 512 + r.val
      have : t.val < 288 := (tt t).isLt
      rw [coord_val, BitVec.toNat_ofNat, Nat.mod_eq_of_lt (by show t.val < _; omega)])
  · exact (Pipeline.Window.rect_emb_val ((cfgA h).win (0 : Fin 4)) t _ (2 : Fin 3)).trans (by show 0 * 256 + k.val = k.val; omega)

theorem ub_apply (f : Fin 2048) : ub c h t (ix4 0 0 0 f) = m ((c : Thread nD τ).loc main_arg6) (ix4 0 (eN m 0 t.val) 0 f) := by
  have hi : ((cfgA h).win (1 : Fin 4)).index t = ![0, (eN m 0 t.val).val, 0, 0] := by
    rw [← eN_val h, ← coord_val t]; exact tr1 _
  refine congrArg (m ((c : Thread nD τ).loc main_arg6)) (eq4 ((((cfgA h).win (1 : Fin 4)).rect t).emb (ix4 0 0 0 f)) _ _ _ _ ?_ ?_ ?_ ?_)
  · exact (Pipeline.Window.rect_emb_val ((cfgA h).win (1 : Fin 4)) t _ (0 : Fin 4)).trans (by rw [hi]; rfl)
  · exact (Pipeline.Window.rect_emb_val ((cfgA h).win (1 : Fin 4)) t _ (1 : Fin 4)).trans (by rw [hi]; show (eN m 0 t.val).val * 1 + 0 = _; omega)
  · exact (Pipeline.Window.rect_emb_val ((cfgA h).win (1 : Fin 4)) t _ (2 : Fin 4)).trans (by rw [hi]; rfl)
  · exact (Pipeline.Window.rect_emb_val ((cfgA h).win (1 : Fin 4)) t _ (3 : Fin 4)).trans (by rw [hi]; show 0 * 2048 + f.val = f.val; omega)

theorem db_apply (f : Fin 1024) : db c h t (ix4 0 0 0 f) = m ((c : Thread nD τ).loc main_arg8) (ix4 0 (eN m 0 t.val) 0 f) := by
  have hi : ((cfgA h).win (2 : Fin 4)).index t = ![0, (eN m 0 t.val).val, 0, 0] := by
    rw [← eN_val h, ← coord_val t]; exact tr2 _
  refine congrArg (m ((c : Thread nD τ).loc main_arg8)) (eq4 ((((cfgA h).win (2 : Fin 4)).rect t).emb (ix4 0 0 0 f)) _ _ _ _ ?_ ?_ ?_ ?_)
  · exact (Pipeline.Window.rect_emb_val ((cfgA h).win (2 : Fin 4)) t _ (0 : Fin 4)).trans (by rw [hi]; rfl)
  · exact (Pipeline.Window.rect_emb_val ((cfgA h).win (2 : Fin 4)) t _ (1 : Fin 4)).trans (by rw [hi]; show (eN m 0 t.val).val * 1 + 0 = _; omega)
  · exact (Pipeline.Window.rect_emb_val ((cfgA h).win (2 : Fin 4)) t _ (2 : Fin 4)).trans (by rw [hi]; rfl)
  · exact (Pipeline.Window.rect_emb_val ((cfgA h).win (2 : Fin 4)) t _ (3 : Fin 4)).trans (by rw [hi]; show 0 * 1024 + f.val = f.val; omega)

/-! ## What is loaded of them -/

section
variable (X : Vec Ideal S2x512x256 .i32) (U : Vec Ideal S1x1x1x2048 .f32) (D : Vec Ideal S1x1x1x1024 .f32)

theorem ldX0 (r : Fin 512) (k : Fin 256) : ld rX0 X (ix3 0 r k) = X (ix3 0 r k) :=
  congrArg X (eq3 _ _ _ _ ((emb3 _ 0).trans (Nat.zero_add _)) ((emb3 _ 1).trans (Nat.zero_add _)) ((emb3 _ 2).trans (Nat.zero_add _)))
theorem ldX1 (r : Fin 512) (k : Fin 256) : ld rX1 X (ix3 0 r k) = X (ix3 1 r k) :=
  congrArg X (eq3 _ _ _ _ (emb3 _ 0) ((emb3 _ 1).trans (Nat.zero_add _)) ((emb3 _ 2).trans (Nat.zero_add _)))
theorem ldS0 (r : Fin 256) (k : Fin 256) : ld rS0 X (ix3 0 r k) = X (ix3 0 ⟨r.val, by omega⟩ k) :=
  congrArg X (eq3 _ _ _ _ ((emb3 _ 0).trans (Nat.zero_add _)) ((emb3 _ 1).trans (Nat.zero_add _)) ((emb3 _ 2).trans (Nat.zero_add _)))
theorem ldS1 (r : Fin 256) (k : Fin 256) : ld rS1 X (ix3 0 r k) = X (ix3 1 ⟨r.val, by omega⟩ k) :=
  congrArg X (eq3 _ _ _ _ (emb3 _ 0) ((emb3 _ 1).trans (Nat.zero_add _)) ((emb3 _ 2).trans (Nat.zero_add _)))
theorem ldBU (f : Fin 2048) : ld rBU U (ix4 0 0 0 f) = U (ix4 0 0 0 f) :=
  congrArg U (eq4 _ _ _ _ _ (ValueKit.rect_emb_unit_val _ _ _ _ _) (ValueKit.rect_emb_unit_val _ _ _ _ _) (ValueKit.rect_emb_unit_val _ _ _ _ _)
    ((ValueKit.rect_emb_unit_val _ _ _ _ _).trans (Nat.zero_add _)))
theorem ldBD (f : Fin 1024) : ld rBD D (ix4 0 0 0 f) = D (ix4 0 0 0 f) :=
  congrArg D (eq4 _ _ _ _ _ (ValueKit.rect_emb_unit_val _ _ _ _ _) (ValueKit.rect_emb_unit_val _ _ _ _ _) (ValueKit.rect_emb_unit_val _ _ _ _ _)
    ((ValueKit.rect_emb_unit_val _ _ _ _ _).trans (Nat.zero_add _)))
end

/-! ## A stored block at an index -/

/-- The reference's arguments as the call has them. -/
abbrev rowR (r : Fin 512) (d : Fin 1024) : EReal :=
  ye (refG (m ((c : Thread nD τ).loc main_arg4)) (m ((c : Thread nD τ).loc main_arg5)) (m ((c : Thread nD τ).loc main_arg6)) (tt t) (eN m 0 t.val) r)
    (fun f d => m ((c : Thread nD τ).loc main_arg7) (ix4 0 (eN m 0 t.val) f d)) (fun d => m ((c : Thread nD τ).loc main_arg8) (ix4 0 (eN m 0 t.val) 0 d)) d

theorem row_congr {a a' b b' : Fin 256 → BitVec 32} {A A' : Fin 1024 → Fin 2048 → EReal} {U U' : Fin 2048 → EReal} {B B' : Fin 1024 → Fin 1024 → EReal}
    {D D' : Fin 1024 → EReal} (ha : ∀ k, a k = a' k) (hb : ∀ k, b k = b' k) (hA : ∀ k f, A k f = A' k f) (hU : ∀ f, U f = U' f)
    (hB : ∀ f d, B f d = B' f d) (hD : ∀ d, D d = D' d) (d : Fin 1024) : ye (gu (xk a b) A U) B D d = ye (gu (xk a' b') A' U') B' D' d := by
  obtain rfl : a = a' := funext ha
  obtain rfl : b = b' := funext hb
  obtain rfl : A = A' := funext fun k => funext (hA k)
  obtain rfl : U = U' := funext hU
  obtain rfl : B = B' := funext fun f => funext (hB f)
  obtain rfl : D = D' := funext hD
  rfl

theorem row_512 (r : Fin 512) (d : Fin 1024) :
    row512 (ld rX0 (xb c h t)) (ld rX1 (xb c h t)) (rU m c (eN m 0 t.val)) (ld rBU (ub c h t)) (rD m c (eN m 0 t.val)) (ld rBD (db c h t)) r d = rowR c (m := m) t r d :=
  row_congr (fun k => (ldX0 _ r k).trans (xb_apply c h t 0 r k)) (fun k => (ldX1 _ r k).trans (xb_apply c h t 1 r k)) (rU_apply c _)
    (fun f => (ldBU _ f).trans (ub_apply c h t f)) (rD_apply c _) (fun d => (ldBD _ d).trans (db_apply c h t d)) d

theorem row_256 (r : Fin 256) (d : Fin 1024) :
    row256 (ld rS0 (xb c h t)) (ld rS1 (xb c h t)) (rU m c (eN m 0 t.val)) (ld rBU (ub c h t)) (rD m c (eN m 0 t.val)) (ld rBD (db c h t)) r d
      = rowR c (m := m) t ⟨r.val, by omega⟩ d :=
  row_congr (fun k => (ldS0 _ r k).trans (xb_apply c h t 0 _ k)) (fun k => (ldS1 _ r k).trans (xb_apply c h t 1 _ k)) (rU_apply c _)
    (fun f => (ldBU _ f).trans (ub_apply c h t f)) (rD_apply c _) (fun d => (ldBD _ d).trans (db_apply c h t d)) d

theorem toInt_le (v : BitVec 32) (hv : v.toNat ≤ 512) : v.toInt = (v.toNat : ℤ) := by
  rw [BitVec.toInt_eq_toNat_cond]; split <;> omega

theorem lt_of_slt (v : BitVec 32) (hv : v.toNat ≤ 512) (r : Fin 512) (hr : IntOp.cmpi .slt (BitVec.ofNat 32 r.val) v = 1#1) : r.val < v.toNat := by
  have h1 : (BitVec.ofNat 32 r.val).slt v = true := by
    by_contra hn
    rw [Bool.not_eq_true] at hn
    have : IntOp.cmpi .slt (BitVec.ofNat 32 r.val) v = 0#1 := by
      show BitVec.ofBool ((BitVec.ofNat 32 r.val).slt v) = 0#1
      rw [hn]; rfl
    rw [this] at hr
    exact absurd hr (by decide)
  have h2 := (BitVec.slt_iff_toInt_lt.mp h1)
  have h3 : (BitVec.ofNat 32 r.val).toNat = r.val := by rw [BitVec.toNat_ofNat]; omega
  rw [toInt_le v hv, toInt_le _ (by omega), h3] at h2
  omega

/-- At a live row a stored block has what the reference has. -/
theorem ob_apply (ch : Fin 2) (r j : Fin 512) (hr : IntOp.cmpi .slt (BitVec.ofNat 32 r.val) (bV m c t.val) = 1#1) :
    ob c h t (ix3 ch r j) = rowR c (m := m) t r ⟨ch.val * 512 + j.val, by omega⟩ := by
  have hc : c = 0 := Subsingleton.elim _ _
  have hv : (bV m c t.val).toNat ≤ 512 := by rw [hc]; exact h.va t.val
  have hl := lt_of_slt _ hv r hr
  have he : eN m c t.val = eN m 0 t.val := by rw [hc]
  have hi := toInt_le _ hv
  unfold ob outB
  rw [he]
  by_cases hb : 256 < (bV m c t.val : BitVec 32).toInt
  · rw [if_pos hb]
    unfold outBig
    match ch with
    | 0 =>
      refine (if_pos rfl).trans ?_
      exact ((left512 _ _ _ _ _ _ _ r hr j).trans (row_512 c h t r _)).trans (congrArg (rowR c (m := m) t r) (Fin.ext (by show j.val = 0 * 512 + j.val; omega)))
    | 1 =>
      refine (if_neg (show ¬((1 : Fin 2).val = 0) by decide)).trans ?_
      exact ((right512 _ _ _ _ _ _ _ r hr j).trans (row_512 c h t r _)).trans (congrArg (rowR c (m := m) t r) (Fin.ext (by show 512 + j.val = 1 * 512 + j.val; omega)))
  · rw [if_neg hb, if_neg (fun h0 => by rw [h0] at hl; exact absurd hl (Nat.not_lt_zero _))]
    have hr' : r.val < 256 := by omega
    unfold outSmall
    refine (dif_pos (show r.val < 256 from hr')).trans ?_
    match ch with
    | 0 =>
      refine (if_pos rfl).trans ?_
      exact ((left256 _ _ _ _ _ _ _ ⟨r.val, hr'⟩ hr j).trans (row_256 c h t ⟨r.val, hr'⟩ _)).trans
        (congrArg (rowR c (m := m) t r) (Fin.ext (by show j.val = 0 * 512 + j.val; omega)))
    | 1 =>
      refine (if_neg (show ¬((1 : Fin 2).val = 0) by decide)).trans ?_
      exact ((right256 _ _ _ _ _ _ _ ⟨r.val, hr'⟩ hr j).trans (row_256 c h t ⟨r.val, hr'⟩ _)).trans
        (congrArg (rowR c (m := m) t r) (Fin.ext (by show 512 + j.val = 1 * 512 + j.val; omega)))

/-! ## The result -/

theorem index_3 (t : Fin grid0.N) : ((cfgA h).win (3 : Fin 4)).index t = ![0, t.val, 0] := by
  show (![0, (BitVec.ofNat 32 ((grid0.coords t) 0).val).toNat, 0] : Fin 3 → ℕ) = _
  have : t.val < 288 := (tt t).isLt
  rw [coord_val, BitVec.toNat_ofNat, Nat.mod_eq_of_lt (by show t.val < _; omega)]

theorem flush_3 (t : Fin grid0.N) : ((cfgA h).win (3 : Fin 4)).flush t = true := by
  rw [Pipeline.Window.flush_eq_flushOf]
  unfold Pipeline.Window.flushOf
  refine Bool.and_eq_true_iff.mpr ⟨rfl, (Bool.or_eq_true _ _).mpr ?_⟩
  by_cases hn : t.val + 1 = grid0.N
  · exact .inl (decide_eq_true hn)
  · refine .inr (decide_eq_true ⟨lt_of_le_of_ne t.isLt hn, fun he => ?_⟩)
    have h1 := index_3 h ⟨t.val + 1, lt_of_le_of_ne t.isLt hn⟩
    have h2 := index_3 h t
    have h3 := congrFun ((h1.symm.trans he).trans h2) (1 : Fin 3)
    exact absurd h3 (Nat.succ_ne_self t.val)

theorem cover (i : S2x147456x512.Idx) :
    ∃ t : Fin (cfgA h).N, ((cfgA h).win (3 : Fin 4)).flush t = true ∧ i ∈ (((cfgA h).win (3 : Fin 4)).blk t).view.set := by
  have h0 : (i (0 : Fin 3)).val < 2 := (i (0 : Fin 3)).isLt
  have h1 : (i (1 : Fin 3)).val < 147456 := (i (1 : Fin 3)).isLt
  have h2 : (i (2 : Fin 3)).val < 512 := (i (2 : Fin 3)).isLt
  let t : Fin grid0.N := ⟨(i (1 : Fin 3)).val / 512, by rw [N_0]; omega⟩
  refine ⟨t, flush_3 h t, (Pipeline.Window.emb_mem_blk_iff ((cfgA h).win (3 : Fin 4)) t i).mpr fun a => ?_⟩
  rw [index_3 h t]
  match a with
  | 0 => exact ⟨by show 0 * 2 ≤ (i (0 : Fin 3)).val; omega, by show (i (0 : Fin 3)).val < 0 * 2 + 2; omega⟩
  | 1 => exact ⟨by show (i (1 : Fin 3)).val / 512 * 512 ≤ (i (1 : Fin 3)).val; omega, by show (i (1 : Fin 3)).val < (i (1 : Fin 3)).val / 512 * 512 + 512; omega⟩
  | 2 => exact ⟨by show 0 * 512 ≤ (i (2 : Fin 3)).val; omega, by show (i (2 : Fin 3)).val < 0 * 512 + 512; omega⟩

/-- The array the call leaves, at a live row: what the reference has there. -/
theorem final_apply (i : S2x147456x512.Idx) :
    ∃ (t : Fin grid0.N) (ch : Fin 2) (r j : Fin 512), i = ix3 ch (rowN (tt t) r) j
      ∧ (IntOp.cmpi .slt (BitVec.ofNat 32 r.val) (bV m c t.val) = 1#1 → finalA c h (3 : Fin 4) i = rowR c (m := m) t r ⟨ch.val * 512 + j.val, by omega⟩) := by
  refine (dats h 0 c).arrAt_forall_of_cover (3 : Fin 4) (fun i v => ∃ (t : Fin grid0.N) (ch : Fin 2) (r j : Fin 512), i = ix3 ch (rowN (tt t) r) j
      ∧ (IntOp.cmpi .slt (BitVec.ofNat 32 r.val) (bV m c t.val) = 1#1 → v = rowR c (m := m) t r ⟨ch.val * 512 + j.val, by omega⟩)) ?_ (cover h) i
  intro t _ y
  refine ⟨t, y (0 : Fin 3), y (1 : Fin 3), y (2 : Fin 3), eq3 ((((cfgA h).win (3 : Fin 4)).rect t).emb y) _ _ _ ?_ ?_ ?_, fun hr => ?_⟩
  · exact (Pipeline.Window.rect_emb_val ((cfgA h).win (3 : Fin 4)) t _ (0 : Fin 3)).trans (by show 0 * 2 + (y (0 : Fin 3)).val = _; omega)
  · exact (Pipeline.Window.rect_emb_val ((cfgA h).win (3 : Fin 4)) t _ (1 : Fin 3)).trans (by
      show (BitVec.ofNat 32 ((grid0.coords t) 0).val).toNat * 512 + (y (1 : Fin 3)).val = t.val * 512 + (y (1 : Fin 3)).val
      have : t.val < 288 := (tt t).isLt
      rw [coord_val, BitVec.toNat_ofNat, Nat.mod_eq_of_lt (by show t.val < _; omega)])
  · exact (Pipeline.Window.rect_emb_val ((cfgA h).win (3 : Fin 4)) t _ (2 : Fin 3)).trans (by show 0 * 512 + (y (2 : Fin 3)).val = _; omega)
  · refine Eq.trans ?_ (ob_apply c h t _ _ _ hr)
    exact congrArg (ob c h t) (eq3 _ _ _ _ rfl rfl rfl)

end Cert.Proof.Experts

end
-- ==== Proof.ExpClaims.lean ====
/-
  The experts' call and its reference have the same values at the rows the tables count.
-/
module

public import proofs.«01_k».proof.Proof.ExpFinal

@[expose] public section

noncomputable section

namespace Cert.Proof.Experts

open Idealize.ShloMosaic Idealize.ShloMosaic.TcCoe
open Idealize.SL.Sem

/-- A row the mask keeps is one its block counts. -/
theorem slt_of_mask (x0 x1 x2 x3 : IVec Cert.On_rows_used.S288 32) (x4 : IVec Cert.On_rows_used.S2x147456x256 32) (x5 : FVec Ideal Cert.On_rows_used.S4x32x1024x2048 .f32)
    (x6 : FVec Ideal Cert.On_rows_used.S4x32x1x2048 .f32) (x7 : FVec Ideal Cert.On_rows_used.S4x32x1024x1024 .f32) (x8 : FVec Ideal Cert.On_rows_used.S4x32x1x1024 .f32)
    (t : Fin 288) (ch : Fin 2) (r j : Fin 512) (hm : Cert.On_rows_used.fn (F := Ideal) x0 x1 x2 x3 x4 x5 x6 x7 x8 (ix3 ch (rowN t r) j) = 1#1) :
    IntOp.cmpi .slt (BitVec.ofNat 32 r.val) (x1 (ix1 t)) = 1#1 := by
  have hx : (Cert.On_rows_used.S288x512.rowMajor (ix2 t r)).val = (Cert.On_rows_used.S1x147456x1.rowMajor (ix3 (0 : Fin 1) (rowN t r) (0 : Fin 1))).val := by
    rw [Shape.rowMajor_val_two, Shape.rowMajor_val_three]
    show t.val * 512 + r.val = (0 * 147456 + (t.val * 512 + r.val)) * 1 + 0
    omega
  refine Eq.trans ?_ hm
  unfold Cert.On_rows_used.fn
  refine Eq.symm ?_
  refine (broadcastInDim_apply _ _ _ (ix3 ch (rowN t r) j) (ix3 (0 : Fin 1) (rowN t r) (0 : Fin 1)) ?_).trans ?_
  · intro a; fin_cases a <;> rfl
  refine (shapeCast_apply _ _ _ (ix2 t r) hx).trans ?_
  show IntOp.cmpi .slt (BitVec.ofNat 32 r.val) (broadcastInDim Cert.On_rows_used.S288x512 ![0, 1] _ (broadcastInDim Cert.On_rows_used.S288x1 ![0] _ x1) (ix2 t r)) = _
  refine congrArg (IntOp.cmpi .slt (BitVec.ofNat 32 r.val)) ?_
  refine (broadcastInDim_apply _ _ _ (ix2 t r) (ix2 t (0 : Fin 1)) ?_).trans (broadcastInDim_apply _ _ _ (ix2 t (0 : Fin 1)) (ix1 t) ?_)
  · intro a; fin_cases a <;> rfl
  · intro a; fin_cases a; rfl

theorem ixN_eq (t : Fin 288) : ixN t.val = ix1 t := by
  funext a; apply Fin.ext
  match a with
  | 0 => exact Nat.mod_eq_of_lt t.isLt

section
open Cert.Kernel2Ideal Cert.Kernel2Ideal.Gen
variable (m : (ℓ : Loc nD τ sig) → Buf (Elt Ideal) ℓ) (c : Dev nD)

/-- The reference's array of the call's arguments. -/
abbrev refA : (⟨3, ![2, 147456, 512]⟩ : Shape).Idx → EReal :=
  Cert.Reference2Ideal.Read.val_main_v77 (F := Ideal) (m ((c : Thread nD τ).loc main_arg0)) (m ((c : Thread nD τ).loc main_arg4)) (m ((c : Thread nD τ).loc main_arg5))
    (m ((c : Thread nD τ).loc main_arg6)) (m ((c : Thread nD τ).loc main_arg7)) (m ((c : Thread nD τ).loc main_arg8))

theorem final_eq (h : TabOK m 0) (i : (⟨3, ![2, 147456, 512]⟩ : Shape).Idx)
    (hm : Cert.On_rows_used.fn (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) i = 1#1) : finalA c h (3 : Fin 4) i = refA m c i := by
  obtain ⟨t, ch, r, j, rfl, hf⟩ := final_apply c h i
  have hs := slt_of_mask _ _ _ _ _ _ _ _ _ (tt t) ch r j hm
  rw [← ixN_eq] at hs
  refine (hf hs).trans (Eq.symm ?_)
  refine at77 _ _ _ _ _ _ (tt t) (eN m 0 t.val) ?_ r ch j
  rw [← ixN_eq, Subsingleton.elim c (0 : Dev nD)]
  exact eN_val h t.val
end

theorem algebraic2 : Cert.algebraic_Kernel2Ideal_Reference2Ideal_on_rows_used := fun m ρ m' ρ' hpre hargs => by
  have h := ok_kernel2Ideal m hpre
  refine ⟨refA m, (θ_run Cert.Kernel2Ideal.defs _ _).mono (fun r hr c => ⟨fun i hi => ?_, same_of_QC h r hr.1 c⟩) (run_main h ρ),
    (θ_run Cert.Reference2Ideal.defs _ _).mono (fun r hr c => ⟨fun i _ => ?_, (hr c).2⟩) (Cert.Reference2Ideal.Value.run (F := Ideal) m' ρ')⟩
  · exact (congrFun ((hr.1 c).1 (3 : Fin 4)) i).trans (final_eq m c h i hi)
  · obtain ⟨h0, -, -, -, h4, h5, h6, h7, h8⟩ := hargs c
    refine congrFun ((hr c).1.trans ((Cert.Reference2Ideal.Read.val_main_v77_eq m' c).trans ?_)) i
    rw [h0, h4, h5, h6, h7, h8]

end Cert.Proof.Experts

end
-- ==== Proof.MixModel.lean ====
/-
  One row of the mixers' call as plain sums of products, and the kernel's payloads read as it.
-/
module

public import proofs.«01_k».proof.Proof.Gen.Kernel3Ideal.Skeleton
public import Idealize.ShloMosaic.Lib.Pointwise

@[expose] public section

noncomputable section

namespace Cert.Proof.Mix

open Cert.Kernel3Ideal Cert.Kernel3Ideal.Gen
open Idealize.ShloMosaic

/-! ## The model -/

/-- Entry `j` of head `h` in a row of four heads of 128. -/
def hd (h : Fin 4) (j : Fin 128) : Fin 512 := ⟨h.val * 128 + j.val, by omega⟩

/-- One over the root mean square of head `h` of the row, and of a whole row. -/
def headScale (a : Fin 512 → EReal) (h : Fin 4) : EReal :=
  Ideal.rsqrt (Ideal.div (∑ j : Fin 128, a (hd h j) * a (hd h j)) (Ideal.ofBits FTy.f32 0x43000000#32) + Ideal.ofBits FTy.f32 0x358637BD#32)
def rowScale (a : Fin 512 → EReal) : EReal :=
  Ideal.rsqrt (Ideal.div (∑ j : Fin 512, a j * a j) (Ideal.ofBits FTy.f32 0x44000000#32) + Ideal.ofBits FTy.f32 0x358637BD#32)

/-- The two mixers' rows, normalised and gated. -/
def heads (a g p : Fin 512 → EReal) (k : Fin 512) : EReal := a k * headScale a ⟨k.val / 128, by omega⟩ * g k * p k
def whole (a g p : Fin 512 → EReal) (k : Fin 512) : EReal := a k * rowScale a * g k * p k

/-- The two side by side. -/
def both (u v : Fin 512 → EReal) (k : Fin 1024) : EReal :=
  if h : k.val < 512 then u ⟨k.val, h⟩ else v ⟨k.val - 512, by omega⟩

/-- The projection of a row, and the scaled row it is added to. -/
def proj (v : Fin 1024 → EReal) (W : Fin 1024 → Fin 1024 → EReal) (x : Fin 1024 → EReal) (d : Fin 1024) : EReal :=
  Ideal.ofBits FTy.f32 0x3FD744FD#32 * x d + ∑ k : Fin 1024, v k * W k d

/-- A row's mean, and the row's layer normalisation. -/
def mean (z : Fin 1024 → EReal) : EReal := Ideal.div (∑ d : Fin 1024, z d) (Ideal.ofBits FTy.f32 0x44800000#32)
def layer (z g b : Fin 1024 → EReal) (d : Fin 1024) : EReal :=
  (z d - mean z) * Ideal.rsqrt (Ideal.div (∑ e : Fin 1024, (z e - mean z) * (z e - mean z)) (Ideal.ofBits FTy.f32 0x44800000#32) + Ideal.ofBits FTy.f32 0x3727C5AC#32) * g d + b d

/-! ## The payloads -/

section
variable (a b : Vec Ideal S512x512 .bf16) (r : Fin 512)

/-- Row `r` of the sum of two blocks. -/
abbrev sumRow (k : Fin 512) : EReal := a (ix2 r k) + b (ix2 r k)

theorem pay4_apply (j : Fin 128) : k0_pay4 (F := Ideal) a b (ix2 r j) = sumRow a b r (hd 0 j) * headScale (sumRow a b r) 0 := by
  have e : ∀ x : Fin 128, hd 0 x = ⟨x.val, by omega⟩ := fun x => Fin.ext (Nat.zero_add _)
  unfold headScale
  simp only [e]
  pointwise [k0_pay4, k0_pay3]

theorem pay5_apply (j : Fin 128) : k0_pay5 (F := Ideal) a b (ix2 r j) = sumRow a b r (hd 1 j) * headScale (sumRow a b r) 1 := by
  have e : ∀ x : Fin 128, hd 1 x = ⟨128 + x.val, by omega⟩ := fun x => rfl
  unfold headScale
  simp only [e]
  pointwise [k0_pay5, k0_pay3]

theorem pay6_apply (j : Fin 128) : k0_pay6 (F := Ideal) a b (ix2 r j) = sumRow a b r (hd 2 j) * headScale (sumRow a b r) 2 := by
  have e : ∀ x : Fin 128, hd 2 x = ⟨256 + x.val, by omega⟩ := fun x => rfl
  unfold headScale
  simp only [e]
  pointwise [k0_pay6, k0_pay3]

theorem pay7_apply (j : Fin 128) : k0_pay7 (F := Ideal) a b (ix2 r j) = sumRow a b r (hd 3 j) := by
  have e : ∀ x : Fin 128, hd 3 x = ⟨384 + x.val, by omega⟩ := fun x => rfl
  simp only [e]
  pointwise [k0_pay7, k0_pay3]

theorem pay8_apply (j : Fin 128) : k0_pay8 (F := Ideal) a b (ix2 r j) = sumRow a b r (hd 3 j) * sumRow a b r (hd 3 j) := by
  rw [← pay7_apply]
  rfl
end

theorem pay9_apply (a b : Vec Ideal S512x512 .bf16) (g : Vec Ideal S1x512 .f32) (o c d : Vec Ideal S512x512 .bf16) (l : Vec Ideal S1x512 .f32) (e : Vec Ideal S512x512 .bf16) (r : Fin 512) (k : Fin 1024) :
    k0_pay9 (F := Ideal) (k0_pay4 a b) (k0_pay5 a b) (k0_pay6 a b) (k0_pay7 a b) (k0_pay8 a b) g o c d l e (ix2 r k)
      = both (heads (sumRow a b r) (fun k => g (ix2 0 k)) (fun k => o (ix2 r k))) (whole (sumRow c d r) (fun k => l (ix2 0 k)) (fun k => e (ix2 r k))) k := by
  unfold both heads whole rowScale
  pointwise [k0_pay9]
  simp only [pay4_apply, pay5_apply, pay6_apply, pay7_apply, pay8_apply]
  by_cases h : k.val < 512
  · rw [dif_pos h, dif_pos h]
    refine congrArg (· * _) (congrArg (· * _) ?_)
    have key : ∀ (n : Fin 4) (j : Fin 128) (hk : k.val = n.val * 128 + j.val),
        sumRow a b r ⟨k.val, h⟩ * headScale (sumRow a b r) ⟨k.val / 128, by omega⟩ = sumRow a b r (hd n j) * headScale (sumRow a b r) n := fun n j hk => by
      have h1 : (⟨k.val, h⟩ : Fin 512) = hd n j := Fin.ext hk
      have h2 : (⟨k.val / 128, by omega⟩ : Fin 4) = n := Fin.ext (by show k.val / 128 = n.val; omega)
      rw [h1, h2]
    by_cases h1 : k.val < 128
    · rw [dif_pos h1]; exact (key 0 ⟨k.val, h1⟩ (Nat.zero_add _).symm).symm
    by_cases h2 : k.val - 128 < 128
    · rw [dif_neg h1, dif_pos h2]; exact (key 1 ⟨k.val - 128, h2⟩ (by show k.val = 1 * 128 + (k.val - 128); omega)).symm
    by_cases h3 : k.val - 128 - 128 < 128
    · rw [dif_neg h1, dif_neg h2, dif_pos h3]; exact (key 2 ⟨k.val - 128 - 128, h3⟩ (by show k.val = 2 * 128 + (k.val - 128 - 128); omega)).symm
    · rw [dif_neg h1, dif_neg h2, dif_neg h3]; exact (key 3 ⟨k.val - 128 - 128 - 128, by omega⟩ (by show k.val = 3 * 128 + (k.val - 128 - 128 - 128); omega)).symm
  · rw [dif_neg h, dif_neg h]

theorem pay10_apply (v : FVec Ideal S512x1024 .bf16) (W : Vec Ideal S1024x1024 .bf16) (x : Vec Ideal S512x1024 .f32) (g b : Vec Ideal S1x1024 .f32) (r : Fin 512) (d : Fin 1024) :
    k0_pay10 (F := Ideal) v W x g b (ix2 r d)
      = layer (proj (fun k => v (ix2 r k)) (fun k d => W (ix2 k d)) (fun d => x (ix2 r d))) (fun d => g (ix2 0 d)) (fun d => b (ix2 0 d)) d := by
  unfold layer mean proj
  pointwise [k0_pay10, dot_S512x1024_S1024x1024_S512x1024_1_0_0_1_n_n]

/-- Row `r` of a point's block. -/
theorem block_apply (a b : Vec Ideal S512x512 .bf16) (g : Vec Ideal S1x512 .f32) (o c d : Vec Ideal S512x512 .bf16) (l : Vec Ideal S1x512 .f32) (e : Vec Ideal S512x512 .bf16)
    (W : Vec Ideal S1024x1024 .bf16) (x : Vec Ideal S512x1024 .f32) (g1 b1 : Vec Ideal S1x1024 .f32) (r : Fin 512) (q : Fin 1024) :
    k0_pay10 (F := Ideal) (k0_pay9 (k0_pay4 a b) (k0_pay5 a b) (k0_pay6 a b) (k0_pay7 a b) (k0_pay8 a b) g o c d l e) W x g1 b1 (ix2 r q)
      = layer (proj (both (heads (sumRow a b r) (fun k => g (ix2 0 k)) (fun k => o (ix2 r k))) (whole (sumRow c d r) (fun k => l (ix2 0 k)) (fun k => e (ix2 r k))))
          (fun k d => W (ix2 k d)) (fun d => x (ix2 r d))) (fun d => g1 (ix2 0 d)) (fun d => b1 (ix2 0 d)) q := by
  rw [pay10_apply]
  simp only [pay9_apply]

end Cert.Proof.Mix

end
-- ==== Proof.MixRef.lean ====
/-
  One row of the reference's mixers: the row of the model on the row's entries.
-/
module

public import proofs.«01_k».proof.Proof.Gen.Reference3Ideal.Read
public import proofs.«01_k».proof.Proof.MixModel

@[expose] public section

noncomputable section

namespace Cert.Proof.Mix

open Cert.Reference3Ideal Cert.Reference3Ideal.Gen Cert.Reference3Ideal.Read
open Idealize.ShloMosaic

section
variable (x0 x1 x2 x3 : Vec Ideal S32768x512 .bf16) (x4 : Vec Ideal S32768x3072 .bf16) (x5 : Vec Ideal S32768x1024 .f32)
  (x6 : Vec Ideal S1024x1024 .f32) (x7 x8 : Vec Ideal S512 .f32) (x9 x10 : Vec Ideal S1024 .f32) (s : Fin 32768)

theorem v11_apply (h : Fin 4) :
    val_main_v11 (F := Ideal) x0 x1 (ix3 s h 0) = headScale (fun k => x0 (ix2 s k) + x1 (ix2 s k)) h := by
  unfold headScale
  pointwise [val_main_v11, val_main_v10, val_main_v9, val_main_v8, val_main_v7, val_main_v6, val_main_v5, val_main_v4, val_main_v3, val_main_v2, val_main_v1, val_main_v0, val_main_cst, val_main_cst_0, val_main_cst_1]
  rfl

theorem v21_apply (k : Fin 512) :
    val_main_v21 (F := Ideal) x0 x1 x4 x7 (ix2 s k)
      = heads (fun k => x0 (ix2 s k) + x1 (ix2 s k)) (fun k => x7 (ix1 k)) (fun k => x4 (ix2 s ⟨2048 + k.val, by omega⟩)) k := by
  unfold heads
  rw [← v11_apply]
  pointwise [val_main_v21, val_main_v20, val_main_v19, val_main_v18, val_main_v17, val_main_v16, val_main_v15, val_main_v14, val_main_v13, val_main_v12, val_main_v3, val_main_v2, val_main_v1, val_main_v0]

theorem v32_apply :
    val_main_v32 (F := Ideal) x2 x3 (ix2 s 0) = rowScale (fun k => x2 (ix2 s k) + x3 (ix2 s k)) := by
  unfold rowScale
  pointwise [val_main_v32, val_main_v31, val_main_v30, val_main_v29, val_main_v28, val_main_v27, val_main_v26, val_main_v25, val_main_v24, val_main_v23, val_main_v22, val_main_cst_2, val_main_cst_3, val_main_cst_4]

theorem v40_apply (k : Fin 512) :
    val_main_v40 (F := Ideal) x2 x3 x4 x8 (ix2 s k)
      = whole (fun k => x2 (ix2 s k) + x3 (ix2 s k)) (fun k => x8 (ix1 k)) (fun k => x4 (ix2 s ⟨2560 + k.val, by omega⟩)) k := by
  unfold whole
  rw [← v32_apply]
  pointwise [val_main_v40, val_main_v39, val_main_v38, val_main_v37, val_main_v36, val_main_v35, val_main_v34, val_main_v33, val_main_v24, val_main_v23, val_main_v22]

/-- The row that the reference's layer normalisation is of. -/
abbrev refRow : Fin 1024 → EReal :=
  proj (both (heads (fun k => x0 (ix2 s k) + x1 (ix2 s k)) (fun k => x7 (ix1 k)) (fun k => x4 (ix2 s ⟨2048 + k.val, by omega⟩)))
      (whole (fun k => x2 (ix2 s k) + x3 (ix2 s k)) (fun k => x8 (ix1 k)) (fun k => x4 (ix2 s ⟨2560 + k.val, by omega⟩))))
    (fun k d => x6 (ix2 k d)) (fun d => x5 (ix2 s d))

theorem v41_apply (k : Fin 1024) :
    val_main_v41 (F := Ideal) x0 x1 x2 x3 x4 x7 x8 (ix2 s k)
      = both (heads (fun k => x0 (ix2 s k) + x1 (ix2 s k)) (fun k => x7 (ix1 k)) (fun k => x4 (ix2 s ⟨2048 + k.val, by omega⟩)))
      (whole (fun k => x2 (ix2 s k) + x3 (ix2 s k)) (fun k => x8 (ix1 k)) (fun k => x4 (ix2 s ⟨2560 + k.val, by omega⟩))) k := by
  unfold both
  pointwise [val_main_v41]
  simp only [v21_apply, v40_apply]

theorem v45_apply (d : Fin 1024) :
    val_main_v45 (F := Ideal) x0 x1 x2 x3 x4 x5 x6 x7 x8 (ix2 s d) = refRow x0 x1 x2 x3 x4 x5 x6 x7 x8 s d := by
  unfold refRow proj
  simp only [← v41_apply]
  pointwise [val_main_v45, val_main_v44, val_main_v43, val_main_v42, val_main_cst_5]

theorem v69_apply (d : Fin 1024) :
    val_main_v69 (F := Ideal) x0 x1 x2 x3 x4 x5 x6 x7 x8 x9 x10 (ix2 s d)
      = layer (refRow x0 x1 x2 x3 x4 x5 x6 x7 x8 s) (fun d => x9 (ix1 d)) (fun d => x10 (ix1 d)) d := by
  unfold layer mean
  simp only [← v45_apply]
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_cst_6, val_main_cst_7, val_main_cst_8, val_main_cst_9, val_main_cst_10]

end

end Cert.Proof.Mix

end
-- ==== Proof.MixFinal.lean ====
/-
  The array that the mixers' call leaves is the reference's.
-/
module

public import proofs.«01_k».proof.Proof.MixRef
public import proofs.«01_k».proof.Proof.Gen.Kernel3Ideal.Value
public import Idealize.ShloMosaic.Lib.Pipeline.ValueKit
public import Idealize.ShloMosaic.Lib.Pointwise

@[expose] public section

noncomputable section

namespace Cert.Proof.Mix

open Cert.Kernel3Ideal Cert.Kernel3Ideal.Gen
open Idealize.ShloMosaic Idealize.ShloMosaic.TcCoe
open Idealize.SL.Sem

variable (m : (ℓ : Loc nD τ sig) → Buf (Elt Ideal) ℓ) (c : Dev nD)

/-- What a point leaves of the first result. -/
theorem staged (t : Fin cfg0.N) :
    (outsAt0 m c t.val t.isLt).1
      = k0_pay10 (F := Ideal) (k0_pay9 (k0_pay4 (iblk m c 0 t) (iblk m c 1 t)) (k0_pay5 (iblk m c 0 t) (iblk m c 1 t)) (k0_pay6 (iblk m c 0 t) (iblk m c 1 t))
          (k0_pay7 (iblk m c 0 t) (iblk m c 1 t)) (k0_pay8 (iblk m c 0 t) (iblk m c 1 t)) (iblk m c 8 t) (iblk m c 4 t) (iblk m c 2 t) (iblk m c 3 t) (iblk m c 9 t) (iblk m c 5 t))
        (iblk m c 7 t) (iblk m c 6 t) (iblk m c 10 t) (iblk m c 11 t) := by
  by_cases h0 : t.val % 64 = 0
  · rw [outsAt0_A m c t h0]
    frame_out
  · rw [outsAt0_B m c t h0]
    frame_out

/-- The windows' places. -/
theorem places : ∀ t : Fin cfg0.N,
    win0_0.index t = ![t.val, 0] ∧ win0_1.index t = ![t.val, 0] ∧ win0_2.index t = ![t.val, 0] ∧ win0_3.index t = ![t.val, 0]
    ∧ win0_4.index t = ![t.val, 4] ∧ win0_5.index t = ![t.val, 5] ∧ win0_6.index t = ![t.val, 0] ∧ win0_7.index t = ![0, 0]
    ∧ win0_8.index t = ![0, 0] ∧ win0_9.index t = ![0, 0] ∧ win0_10.index t = ![0, 0] ∧ win0_11.index t = ![0, 0] ∧ win0_15.index t = ![t.val, 0] := by
  decide +kernel

/-- The row of the whole arrays that row `r` of point `t`'s block is. -/
def at512 (t : Fin cfg0.N) (r : Fin 512) : Fin 32768 :=
  ⟨t.val * 512 + r.val, by have h := lt_of_lt_of_eq t.isLt N_0; have := r.isLt; omega⟩

section
variable (t : Fin cfg0.N)

theorem blk0 (r k : Fin 512) : iblk m c 0 t (ix2 r k) = m ((c : Thread nD τ).loc main_arg0) (ix2 (at512 t r) k) := by
  obtain ⟨h, -⟩ := places t
  unfold at512
  blk_ext [iblk, V, h]

theorem blk1 (r k : Fin 512) : iblk m c 1 t (ix2 r k) = m ((c : Thread nD τ).loc main_arg1) (ix2 (at512 t r) k) := by
  obtain ⟨-, h, -⟩ := places t
  unfold at512
  blk_ext [iblk, V, h]

theorem blk2 (r k : Fin 512) : iblk m c 2 t (ix2 r k) = m ((c : Thread nD τ).loc main_arg2) (ix2 (at512 t r) k) := by
  obtain ⟨-, -, h, -⟩ := places t
  unfold at512
  blk_ext [iblk, V, h]

theorem blk3 (r k : Fin 512) : iblk m c 3 t (ix2 r k) = m ((c : Thread nD τ).loc main_arg3) (ix2 (at512 t r) k) := by
  obtain ⟨-, -, -, h, -⟩ := places t
  unfold at512
  blk_ext [iblk, V, h]

theorem blk4 (r k : Fin 512) : iblk m c 4 t (ix2 r k) = m ((c : Thread nD τ).loc main_arg4) (ix2 (at512 t r) ⟨2048 + k.val, by omega⟩) := by
  obtain ⟨-, -, -, -, h, -⟩ := places t
  unfold at512
  blk_ext [iblk, V, h]

theorem blk5 (r k : Fin 512) : iblk m c 5 t (ix2 r k) = m ((c : Thread nD τ).loc main_arg4) (ix2 (at512 t r) ⟨2560 + k.val, by omega⟩) := by
  obtain ⟨-, -, -, -, -, h, -⟩ := places t
  unfold at512
  blk_ext [iblk, V, h]

theorem blk6 (r : Fin 512) (k : Fin 1024) : iblk m c 6 t (ix2 r k) = m ((c : Thread nD τ).loc main_arg5) (ix2 (at512 t r) k) := by
  obtain ⟨-, -, -, -, -, -, h, -⟩ := places t
  unfold at512
  blk_ext [iblk, V, h]

theorem blk7 (r k : Fin 1024) : iblk m c 7 t (ix2 r k) = m ((c : Thread nD τ).loc main_arg6) (ix2 r k) := by
  obtain ⟨-, -, -, -, -, -, -, h, -⟩ := places t
  unfold iblk
  entry_read
  blk_ext [h]

theorem blk8 (k : Fin 512) : iblk m c 8 t (ix2 (0 : Fin 1) k) = m ((c : Thread nD τ).loc main_arg7) (ix1 k) := by
  obtain ⟨-, -, -, -, -, -, -, -, h, -⟩ := places t
  unfold iblk
  entry_read
  blk_simp [h]
  pointwise
  blk_ext [h]

theorem blk9 (k : Fin 512) : iblk m c 9 t (ix2 (0 : Fin 1) k) = m ((c : Thread nD τ).loc main_arg8) (ix1 k) := by
  obtain ⟨-, -, -, -, -, -, -, -, -, h, -⟩ := places t
  unfold iblk
  entry_read
  blk_simp [h]
  pointwise
  blk_ext [h]

theorem blk10 (k : Fin 1024) : iblk m c 10 t (ix2 (0 : Fin 1) k) = m ((c : Thread nD τ).loc main_arg9) (ix1 k) := by
  obtain ⟨-, -, -, -, -, -, -, -, -, -, h, -⟩ := places t
  unfold iblk
  entry_read
  blk_simp [h]
  pointwise
  blk_ext [h]

theorem blk11 (k : Fin 1024) : iblk m c 11 t (ix2 (0 : Fin 1) k) = m ((c : Thread nD τ).loc main_arg10) (ix1 k) := by
  obtain ⟨-, -, -, -, -, -, -, -, -, -, -, h, -⟩ := places t
  unfold iblk
  entry_read
  blk_simp [h]
  pointwise
  blk_ext [h]

end

/-- The reference's array of the call's arguments. -/
abbrev refA : Vec Ideal S32768x1024 .f32 :=
  Cert.Reference3Ideal.Read.val_main_v69 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))

theorem staged_apply (t : Fin cfg0.N) (r : Fin 512) (d : Fin 1024) : (outsAt0 m c t.val t.isLt).1 (ix2 r d) = refA m c (ix2 (at512 t r) d) := by
  have e0 : sumRow (iblk m c 0 t) (iblk m c 1 t) r = fun k => (show EReal from m ((c : Thread nD τ).loc main_arg0) (ix2 (at512 t r) k)) + (show EReal from m ((c : Thread nD τ).loc main_arg1) (ix2 (at512 t r) k)) :=
    funext fun k => congrArg₂ (fun x y : EReal => x + y) (blk0 m c t r k) (blk1 m c t r k)
  have e2 : sumRow (iblk m c 2 t) (iblk m c 3 t) r = fun k => (show EReal from m ((c : Thread nD τ).loc main_arg2) (ix2 (at512 t r) k)) + (show EReal from m ((c : Thread nD τ).loc main_arg3) (ix2 (at512 t r) k)) :=
    funext fun k => congrArg₂ (fun x y : EReal => x + y) (blk2 m c t r k) (blk3 m c t r k)
  rw [staged, block_apply, e0, e2]
  simp only [blk4, blk5, blk6, blk7, blk8, blk9, blk10, blk11]
  exact (v69_apply _ _ _ _ _ _ _ _ _ _ _ (at512 t r) d).symm

theorem final_eq : (dats m 0 c).arrAt 15 cfg0.N = refA m c := by
  refine (dats m 0 c).arrAt_eq_of_covers 15 _ (by decide +kernel) fun t hf y => ?_
  obtain ⟨-, -, -, -, -, -, -, -, -, -, -, -, h⟩ := places t
  blk_simp
  rw [after0_15]
  obtain ⟨r, d, rfl⟩ : ∃ (r : Fin 512) (d : Fin 1024), y = ix2 r d := ⟨y 0, y 1, by funext a; match a with | 0 => rfl | 1 => rfl⟩
  refine (staged_apply m c t r d).trans (congrArg (refA m c) ?_)
  unfold at512
  blk_ext [h]

end Cert.Proof.Mix

end
-- ==== Proof.MixClaims.lean ====
/-
  The claims of the mixers' call.
-/
module

public import proofs.«01_k».proof.Defs
public import proofs.«01_k».proof.Proof.MixFinal
public import proofs.«01_k».proof.Proof.Gen.Kernel3

@[expose] public section

noncomputable section

namespace Cert.Proof.Mix

open Idealize.ShloMosaic Idealize.ShloMosaic.TcCoe
open Idealize.SL.Sem

variable {F : FTy → Type} [FloatOps F]

set_option maxHeartbeats 8000000

/-- The call as first printed and as read at the ideal instance have one body, one table of bodies and one main program. -/
theorem body_eq : Cert.Kernel3.cc0_mix_ln1_router (F := F) = Cert.Kernel3Ideal.cc0_mix_ln1_router (F := F) := by with_unfolding_all rfl
theorem main_eq : Cert.Kernel3.main (F := F) = Cert.Kernel3Ideal.main (F := F) := by with_unfolding_all rfl
theorem bodies_eq : Cert.Kernel3.defs₀ (F := F) = Cert.Kernel3Ideal.defs₀ (F := F) := by
  unfold Cert.Kernel3.defs₀ Cert.Kernel3Ideal.defs₀
  refine congrArg Defs.onTc ?_
  funext l x
  match l, x with
  | 0, (t, s) =>
    show Cert.Kernel3.cc0_mix_ln1_router (F := F) _ _ _ _ _ _ _ _ _ _ _ _ _ _ _ _ _ _ _ _ _ _ _ _ _ _ _ _ _ _ _ _ _ _ _ _ _ _ _ _ _ _ _ _ _ = _
    rw [body_eq]; rfl
theorem defs_eq : Cert.Kernel3.defs (F := F) = Cert.Kernel3Ideal.defs (F := F) :=
  congrArg (Pipeline.defs (Cert.Kernel3Ideal.pcfgs (F := F))) bodies_eq

theorem frame_kernel3Ideal : Cert.quiescent_Kernel3Ideal := fun m ρ _ => Cert.Kernel3Ideal.Gen.frame (F := Ideal) m ρ

theorem frame_kernel3 : Cert.quiescent_Kernel3 := fun m ρ _ => by
  have h := Cert.Kernel3Ideal.Gen.frame (F := Bits) m ρ
  rw [← defs_eq, ← main_eq] at h
  exact h

theorem frame_reference3Ideal : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

theorem algebraic3 : Cert.algebraic_Kernel3Ideal_Reference3Ideal := fun m ρ m' ρ' _ hargs => by
  refine ⟨refA m, (θ_run Cert.Kernel3Ideal.defs _ _).mono (fun r hr c => ⟨(hr c).1.trans (final_eq m c), (hr c).2.2.2.2.2.2⟩) (Cert.Kernel3Ideal.Value.run_blocks (F := Ideal) m ρ),
    (θ_run Cert.Reference3Ideal.defs _ _).mono (fun r hr c => ⟨(hr c).1.trans ((Cert.Reference3Ideal.Read.val_main_v69_eq m' c).trans ?_), (hr c).2⟩)
      (Cert.Reference3Ideal.Value.run (F := Ideal) m' ρ')⟩
  obtain ⟨h0, h1, h2, h3, h4, h5, h6, h7, h8, h9, h10, -, -⟩ := hargs c
  rw [h0, h1, h2, h3, h4, h5, h6, h7, h8, h9, h10]

end Cert.Proof.Mix

end
-- ==== Proof.lean ====
module

public import proofs.«01_k».proof.Defs
public import proofs.«01_k».proof.Proof.Claims
public import proofs.«01_k».proof.Proof.ExpClaims
public import proofs.«01_k».proof.Proof.MixClaims
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_in_rows
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_tables
public import proofs.«01_k».proof.Proof.Gen.On_rows_used
public import Idealize.ShloMosaic.Adequacy
public import Idealize.ShloMosaic.Init

@[expose] public section

noncomputable section

namespace Cert.Proof

open Cert.Proof.Claims Cert.Proof.Experts Cert.Proof.Mix

theorem claim : Cert.Claim :=
  ⟨Cert.Kernel.Gen.facts, Cert.KernelIdeal.Gen.facts, Cert.ReferenceIdeal.Gen.facts, Cert.Reference.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_in_rows.Gen.facts, Cert.Pre_tables.Gen.facts, Cert.On_rows_used.Gen.facts,
    frame_kernel, frame_kernelIdeal, frame_referenceIdeal, frame_reference, frame_kernel2, frame_kernel2Ideal, frame_reference2Ideal,
    frame_kernel3, frame_kernel3Ideal, frame_reference3Ideal,
    trivial, algebraic, bitexact, trivial, algebraic2, trivial, algebraic3⟩

end Cert.Proof

end
